-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_Scale (m : (ℓ : Loc Cert.Scale.nD Cert.Scale.τ Cert.Scale.sig) → Buf (Elt Bits) ℓ) : Prop :=
  True

def Pre_ScaleIdeal (m : (ℓ : Loc Cert.ScaleIdeal.nD Cert.ScaleIdeal.τ Cert.ScaleIdeal.sig) → Buf (Elt Ideal) ℓ) : Prop :=
  True

def Pre_ScaleRefIdeal (m : (ℓ : Loc Cert.ScaleRefIdeal.nD Cert.ScaleRefIdeal.τ Cert.ScaleRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7)
      ∧ r.2.mem ((c.tc : Thread Cert.Norm.nD Cert.Norm.τ).loc Cert.Norm.main_arg8) = m ((c.tc : Thread Cert.Norm.nD Cert.Norm.τ).loc Cert.Norm.main_arg8)
      ∧ r.2.mem ((c.tc : Thread Cert.Norm.nD Cert.Norm.τ).loc Cert.Norm.main_arg9) = m ((c.tc : Thread Cert.Norm.nD Cert.Norm.τ).loc Cert.Norm.main_arg9)
      ∧ r.2.mem ((c.tc : Thread Cert.Norm.nD Cert.Norm.τ).loc Cert.Norm.main_arg10) = m ((c.tc : Thread Cert.Norm.nD Cert.Norm.τ).loc Cert.Norm.main_arg10)
      ∧ r.2.mem ((c.tc : Thread Cert.Norm.nD Cert.Norm.τ).loc Cert.Norm.main_arg11) = m ((c.tc : Thread Cert.Norm.nD Cert.Norm.τ).loc Cert.Norm.main_arg11))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
      ∧ r.2.mem ((c.tc : Thread Cert.NormIdeal.nD Cert.NormIdeal.τ).loc Cert.NormIdeal.main_arg9) = m ((c.tc : Thread Cert.NormIdeal.nD Cert.NormIdeal.τ).loc Cert.NormIdeal.main_arg9)
      ∧ r.2.mem ((c.tc : Thread Cert.NormIdeal.nD Cert.NormIdeal.τ).loc Cert.NormIdeal.main_arg10) = m ((c.tc : Thread Cert.NormIdeal.nD Cert.NormIdeal.τ).loc Cert.NormIdeal.main_arg10)
      ∧ r.2.mem ((c.tc : Thread Cert.NormIdeal.nD Cert.NormIdeal.τ).loc Cert.NormIdeal.main_arg11) = m ((c.tc : Thread Cert.NormIdeal.nD Cert.NormIdeal.τ).loc Cert.NormIdeal.main_arg11))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8)
      ∧ r.2.mem ((c.tc : Thread Cert.NormRefIdeal.nD Cert.NormRefIdeal.τ).loc Cert.NormRefIdeal.main_arg9) = m ((c.tc : Thread Cert.NormRefIdeal.nD Cert.NormRefIdeal.τ).loc Cert.NormRefIdeal.main_arg9)
      ∧ r.2.mem ((c.tc : Thread Cert.NormRefIdeal.nD Cert.NormRefIdeal.τ).loc Cert.NormRefIdeal.main_arg10) = m ((c.tc : Thread Cert.NormRefIdeal.nD Cert.NormRefIdeal.τ).loc Cert.NormRefIdeal.main_arg10)
      ∧ r.2.mem ((c.tc : Thread Cert.NormRefIdeal.nD Cert.NormRefIdeal.τ).loc Cert.NormRefIdeal.main_arg11) = m ((c.tc : Thread Cert.NormRefIdeal.nD Cert.NormRefIdeal.τ).loc Cert.NormRefIdeal.main_arg11))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3)
      ∧ r.2.mem ((c.tc : Thread Cert.Wgrad.nD Cert.Wgrad.τ).loc Cert.Wgrad.main_arg4) = m ((c.tc : Thread Cert.Wgrad.nD Cert.Wgrad.τ).loc Cert.Wgrad.main_arg4)
      ∧ r.2.mem ((c.tc : Thread Cert.Wgrad.nD Cert.Wgrad.τ).loc Cert.Wgrad.main_arg5) = m ((c.tc : Thread Cert.Wgrad.nD Cert.Wgrad.τ).loc Cert.Wgrad.main_arg5))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4)
      ∧ r.2.mem ((c.tc : Thread Cert.WgradIdeal.nD Cert.WgradIdeal.τ).loc Cert.WgradIdeal.main_arg5) = m ((c.tc : Thread Cert.WgradIdeal.nD Cert.WgradIdeal.τ).loc Cert.WgradIdeal.main_arg5))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3)
      ∧ r.2.mem ((c.tc : Thread Cert.WgradRefIdeal.nD Cert.WgradRefIdeal.τ).loc Cert.WgradRefIdeal.main_arg4) = m ((c.tc : Thread Cert.WgradRefIdeal.nD Cert.WgradRefIdeal.τ).loc Cert.WgradRefIdeal.main_arg4)
      ∧ r.2.mem ((c.tc : Thread Cert.WgradRefIdeal.nD Cert.WgradRefIdeal.τ).loc Cert.WgradRefIdeal.main_arg5) = m ((c.tc : Thread Cert.WgradRefIdeal.nD Cert.WgradRefIdeal.τ).loc Cert.WgradRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8)
      ∧ r.2.mem ((c.tc : Thread Cert.Down.nD Cert.Down.τ).loc Cert.Down.main_arg9) = m ((c.tc : Thread Cert.Down.nD Cert.Down.τ).loc Cert.Down.main_arg9))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
      ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7)
      ∧ r.2.mem ((c.tc : Thread Cert.DownRefIdeal.nD Cert.DownRefIdeal.τ).loc Cert.DownRefIdeal.main_arg8) = m ((c.tc : Thread Cert.DownRefIdeal.nD Cert.DownRefIdeal.τ).loc Cert.DownRefIdeal.main_arg8)
      ∧ r.2.mem ((c.tc : Thread Cert.DownRefIdeal.nD Cert.DownRefIdeal.τ).loc Cert.DownRefIdeal.main_arg9) = m ((c.tc : Thread Cert.DownRefIdeal.nD Cert.DownRefIdeal.τ).loc Cert.DownRefIdeal.main_arg9))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1))
      ∧ r.2.sem = fun _ => 0)

def quiescent_Scale [hScale : Cert.Scale.Facts] : Prop :=
  ∀ (m : (ℓ : Loc Cert.Scale.nD Cert.Scale.τ Cert.Scale.sig) → Buf (Elt Bits) ℓ) (g : Dev Cert.Scale.nD → PrngReg), Pre_Scale m →
    θ_run (Cert.Scale.defs (F := Bits)) (onTc (τ := Cert.Scale.τ) (Cert.Scale.main (F := Bits))) ⟨m, fun _ => 0, g⟩ (fun r => (∀ c : Dev Cert.Scale.nD,
      r.2.mem ((c.tc : Thread Cert.Scale.nD Cert.Scale.τ).loc Cert.Scale.main_arg0) = m ((c.tc : Thread Cert.Scale.nD Cert.Scale.τ).loc Cert.Scale.main_arg0))
      ∧ r.2.sem = fun _ => 0)

def quiescent_ScaleIdeal [hScaleIdeal : Cert.ScaleIdeal.Facts] : Prop :=
  ∀ (m : (ℓ : Loc Cert.ScaleIdeal.nD Cert.ScaleIdeal.τ Cert.ScaleIdeal.sig) → Buf (Elt Ideal) ℓ) (g : Dev Cert.ScaleIdeal.nD → PrngReg), Pre_ScaleIdeal m →
    θ_run (Cert.ScaleIdeal.defs (F := Ideal)) (onTc (τ := Cert.ScaleIdeal.τ) (Cert.ScaleIdeal.main (F := Ideal))) ⟨m, fun _ => 0, g⟩ (fun r => (∀ c : Dev Cert.ScaleIdeal.nD,
      r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0))
      ∧ r.2.sem = fun _ => 0)

def quiescent_ScaleRefIdeal [hScaleRefIdeal : Cert.ScaleRefIdeal.Facts] : Prop :=
  ∀ (m : (ℓ : Loc Cert.ScaleRefIdeal.nD Cert.ScaleRefIdeal.τ Cert.ScaleRefIdeal.sig) → Buf (Elt Ideal) ℓ) (g : Dev Cert.ScaleRefIdeal.nD → PrngReg), Pre_ScaleRefIdeal m →
    θ_run (Cert.ScaleRefIdeal.defs (F := Ideal)) (onTc (τ := Cert.ScaleRefIdeal.τ) (Cert.ScaleRefIdeal.main (F := Ideal))) ⟨m, fun _ => 0, g⟩ (fun r => (∀ c : Dev Cert.ScaleRefIdeal.nD,
      r.2.mem ((c.tc : Thread Cert.ScaleRefIdeal.nD Cert.ScaleRefIdeal.τ).loc Cert.ScaleRefIdeal.main_arg0) = m ((c.tc : Thread Cert.ScaleRefIdeal.nD Cert.ScaleRefIdeal.τ).loc Cert.ScaleRefIdeal.main_arg0))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)
      ∧ m' ((c.tc : Thread Cert.NormRefIdeal.nD Cert.NormRefIdeal.τ).loc Cert.NormRefIdeal.main_arg8) = m ((c.tc : Thread Cert.NormIdeal.nD Cert.NormIdeal.τ).loc Cert.NormIdeal.main_arg8)
      ∧ m' ((c.tc : Thread Cert.NormRefIdeal.nD Cert.NormRefIdeal.τ).loc Cert.NormRefIdeal.main_arg9) = m ((c.tc : Thread Cert.NormIdeal.nD Cert.NormIdeal.τ).loc Cert.NormIdeal.main_arg9)
      ∧ m' ((c.tc : Thread Cert.NormRefIdeal.nD Cert.NormRefIdeal.τ).loc Cert.NormRefIdeal.main_arg10) = m ((c.tc : Thread Cert.NormIdeal.nD Cert.NormIdeal.τ).loc Cert.NormIdeal.main_arg10)
      ∧ m' ((c.tc : Thread Cert.NormRefIdeal.nD Cert.NormRefIdeal.τ).loc Cert.NormRefIdeal.main_arg11) = m ((c.tc : Thread Cert.NormIdeal.nD Cert.NormIdeal.τ).loc Cert.NormIdeal.main_arg11)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
          ∧ r.2.mem ((c.tc : Thread Cert.NormIdeal.nD Cert.NormIdeal.τ).loc Cert.NormIdeal.main_arg9) = m ((c.tc : Thread Cert.NormIdeal.nD Cert.NormIdeal.τ).loc Cert.NormIdeal.main_arg9)
          ∧ r.2.mem ((c.tc : Thread Cert.NormIdeal.nD Cert.NormIdeal.τ).loc Cert.NormIdeal.main_arg10) = m ((c.tc : Thread Cert.NormIdeal.nD Cert.NormIdeal.τ).loc Cert.NormIdeal.main_arg10)
          ∧ r.2.mem ((c.tc : Thread Cert.NormIdeal.nD Cert.NormIdeal.τ).loc Cert.NormIdeal.main_arg11) = m ((c.tc : Thread Cert.NormIdeal.nD Cert.NormIdeal.τ).loc Cert.NormIdeal.main_arg11))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v0_0) = v0 c
          ∧ r.2.mem ((c.tc : Thread Cert.NormRefIdeal.nD Cert.NormRefIdeal.τ).loc Cert.NormRefIdeal.main_v0_1) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7)
          ∧ r.2.mem ((c.tc : Thread Cert.NormRefIdeal.nD Cert.NormRefIdeal.τ).loc Cert.NormRefIdeal.main_arg8) = m' ((c.tc : Thread Cert.NormRefIdeal.nD Cert.NormRefIdeal.τ).loc Cert.NormRefIdeal.main_arg8)
          ∧ r.2.mem ((c.tc : Thread Cert.NormRefIdeal.nD Cert.NormRefIdeal.τ).loc Cert.NormRefIdeal.main_arg9) = m' ((c.tc : Thread Cert.NormRefIdeal.nD Cert.NormRefIdeal.τ).loc Cert.NormRefIdeal.main_arg9)
          ∧ r.2.mem ((c.tc : Thread Cert.NormRefIdeal.nD Cert.NormRefIdeal.τ).loc Cert.NormRefIdeal.main_arg10) = m' ((c.tc : Thread Cert.NormRefIdeal.nD Cert.NormRefIdeal.τ).loc Cert.NormRefIdeal.main_arg10)
          ∧ r.2.mem ((c.tc : Thread Cert.NormRefIdeal.nD Cert.NormRefIdeal.τ).loc Cert.NormRefIdeal.main_arg11) = m' ((c.tc : Thread Cert.NormRefIdeal.nD Cert.NormRefIdeal.τ).loc Cert.NormRefIdeal.main_arg11))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)
      ∧ m' ((c.tc : Thread Cert.WgradRefIdeal.nD Cert.WgradRefIdeal.τ).loc Cert.WgradRefIdeal.main_arg4) = m ((c.tc : Thread Cert.WgradIdeal.nD Cert.WgradIdeal.τ).loc Cert.WgradIdeal.main_arg4)
      ∧ m' ((c.tc : Thread Cert.WgradRefIdeal.nD Cert.WgradRefIdeal.τ).loc Cert.WgradRefIdeal.main_arg5) = m ((c.tc : Thread Cert.WgradIdeal.nD Cert.WgradIdeal.τ).loc Cert.WgradIdeal.main_arg5)) →
    ∃ (v0 : (c : Dev Cert.WgradIdeal.nD) → Buf (Elt Ideal) ((c.tc : Thread Cert.WgradIdeal.nD Cert.WgradIdeal.τ).loc Cert.WgradIdeal.main_v0_0)) (v1 : (c : Dev Cert.WgradIdeal.nD) → Buf (Elt Ideal) ((c.tc : Thread Cert.WgradIdeal.nD Cert.WgradIdeal.τ).loc Cert.WgradIdeal.main_v0_1)) (v2 : (c : Dev Cert.WgradIdeal.nD) → Buf (Elt Ideal) ((c.tc : Thread Cert.WgradIdeal.nD Cert.WgradIdeal.τ).loc Cert.WgradIdeal.main_v0_2)) (v3 : (c : Dev Cert.WgradIdeal.nD) → Buf (Elt Ideal) ((c.tc : Thread Cert.WgradIdeal.nD Cert.WgradIdeal.τ).loc Cert.WgradIdeal.main_v0_3)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0_0) = v0 c
          ∧ r.2.mem ((c.tc : Thread Cert.WgradIdeal.nD Cert.WgradIdeal.τ).loc Cert.WgradIdeal.main_v0_1) = v1 c
          ∧ r.2.mem ((c.tc : Thread Cert.WgradIdeal.nD Cert.WgradIdeal.τ).loc Cert.WgradIdeal.main_v0_2) = v2 c
          ∧ r.2.mem ((c.tc : Thread Cert.WgradIdeal.nD Cert.WgradIdeal.τ).loc Cert.WgradIdeal.main_v0_3) = v3 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
          ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4)
          ∧ r.2.mem ((c.tc : Thread Cert.WgradIdeal.nD Cert.WgradIdeal.τ).loc Cert.WgradIdeal.main_arg5) = m ((c.tc : Thread Cert.WgradIdeal.nD Cert.WgradIdeal.τ).loc Cert.WgradIdeal.main_arg5))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v0_0) = v0 c
          ∧ r.2.mem ((c.tc : Thread Cert.WgradRefIdeal.nD Cert.WgradRefIdeal.τ).loc Cert.WgradRefIdeal.main_v0_1) = v1 c
          ∧ r.2.mem ((c.tc : Thread Cert.WgradRefIdeal.nD Cert.WgradRefIdeal.τ).loc Cert.WgradRefIdeal.main_v0_2) = v2 c
          ∧ r.2.mem ((c.tc : Thread Cert.WgradRefIdeal.nD Cert.WgradRefIdeal.τ).loc Cert.WgradRefIdeal.main_v0_3) = v3 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3)
          ∧ r.2.mem ((c.tc : Thread Cert.WgradRefIdeal.nD Cert.WgradRefIdeal.τ).loc Cert.WgradRefIdeal.main_arg4) = m' ((c.tc : Thread Cert.WgradRefIdeal.nD Cert.WgradRefIdeal.τ).loc Cert.WgradRefIdeal.main_arg4)
          ∧ r.2.mem ((c.tc : Thread Cert.WgradRefIdeal.nD Cert.WgradRefIdeal.τ).loc Cert.WgradRefIdeal.main_arg5) = m' ((c.tc : Thread Cert.WgradRefIdeal.nD Cert.WgradRefIdeal.τ).loc Cert.WgradRefIdeal.main_arg5))

def preserves_Down_DownIdeal : Prop :=
  IdealRules.named_const.Statement Cert.DownIdeal.κ "neg_log2e" .f32 0xBFB8AA3B#32 ((-((Real.log 2)⁻¹) : ℝ) : EReal)

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)
      ∧ m' ((c.tc : Thread Cert.DownRefIdeal.nD Cert.DownRefIdeal.τ).loc Cert.DownRefIdeal.main_arg8) = m ((c.tc : Thread Cert.DownIdeal.nD Cert.DownIdeal.τ).loc Cert.DownIdeal.main_arg8)
      ∧ m' ((c.tc : Thread Cert.DownRefIdeal.nD Cert.DownRefIdeal.τ).loc Cert.DownRefIdeal.main_arg9) = m ((c.tc : Thread Cert.DownIdeal.nD Cert.DownIdeal.τ).loc Cert.DownIdeal.main_arg9)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)) (v2 : (c : Dev Cert.DownIdeal.nD) → Buf (Elt Ideal) ((c.tc : Thread Cert.DownIdeal.nD Cert.DownIdeal.τ).loc Cert.DownIdeal.main_v2_2)) (v3 : (c : Dev Cert.DownIdeal.nD) → Buf (Elt Ideal) ((c.tc : Thread Cert.DownIdeal.nD Cert.DownIdeal.τ).loc Cert.DownIdeal.main_v7)) (v4 : (c : Dev Cert.DownIdeal.nD) → Buf (Elt Ideal) ((c.tc : Thread Cert.DownIdeal.nD Cert.DownIdeal.τ).loc Cert.DownIdeal.main_v12)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_v2_2) = v2 c
          ∧ r.2.mem ((c.tc : Thread Cert.DownIdeal.nD Cert.DownIdeal.τ).loc Cert.DownIdeal.main_v7) = v3 c
          ∧ r.2.mem ((c.tc : Thread Cert.DownIdeal.nD Cert.DownIdeal.τ).loc Cert.DownIdeal.main_v12) = v4 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
          ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
          ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2_0) = v0 c
          ∧ r.2.mem ((c.tc : Thread Cert.DownRefIdeal.nD Cert.DownRefIdeal.τ).loc Cert.DownRefIdeal.main_v2_1) = v1 c
          ∧ r.2.mem ((c.tc : Thread Cert.DownRefIdeal.nD Cert.DownRefIdeal.τ).loc Cert.DownRefIdeal.main_v2_2) = v2 c
          ∧ r.2.mem ((c.tc : Thread Cert.DownRefIdeal.nD Cert.DownRefIdeal.τ).loc Cert.DownRefIdeal.main_v2_3) = v3 c
          ∧ r.2.mem ((c.tc : Thread Cert.DownRefIdeal.nD Cert.DownRefIdeal.τ).loc Cert.DownRefIdeal.main_v2_4) = v4 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7)
          ∧ r.2.mem ((c.tc : Thread Cert.DownRefIdeal.nD Cert.DownRefIdeal.τ).loc Cert.DownRefIdeal.main_arg8) = m' ((c.tc : Thread Cert.DownRefIdeal.nD Cert.DownRefIdeal.τ).loc Cert.DownRefIdeal.main_arg8)
          ∧ r.2.mem ((c.tc : Thread Cert.DownRefIdeal.nD Cert.DownRefIdeal.τ).loc Cert.DownRefIdeal.main_arg9) = m' ((c.tc : Thread Cert.DownRefIdeal.nD Cert.DownRefIdeal.τ).loc Cert.DownRefIdeal.main_arg9))

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v0)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0) = v0 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v0) = v0 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1))

def preserves_Scale_ScaleIdeal : Prop :=
  True

def algebraic_ScaleIdeal_ScaleRefIdeal [hScaleIdeal : Cert.ScaleIdeal.Facts] [hScaleRefIdeal : Cert.ScaleRefIdeal.Facts] : Prop :=
  ∀ (m : (ℓ : Loc Cert.ScaleIdeal.nD Cert.ScaleIdeal.τ Cert.ScaleIdeal.sig) → Buf (Elt Ideal) ℓ) (g : Dev Cert.ScaleIdeal.nD → PrngReg)
    (m' : (ℓ : Loc Cert.ScaleRefIdeal.nD Cert.ScaleRefIdeal.τ Cert.ScaleRefIdeal.sig) → Buf (Elt Ideal) ℓ) (g' : Dev Cert.ScaleRefIdeal.nD → PrngReg), Pre_ScaleIdeal m →
    (∀ c : Dev Cert.ScaleIdeal.nD,
      m' ((c.tc : Thread Cert.ScaleRefIdeal.nD Cert.ScaleRefIdeal.τ).loc Cert.ScaleRefIdeal.main_arg0) = m ((c.tc : Thread Cert.ScaleIdeal.nD Cert.ScaleIdeal.τ).loc Cert.ScaleIdeal.main_arg0)) →
    ∃ (v0 : (c : Dev Cert.ScaleIdeal.nD) → Buf (Elt Ideal) ((c.tc : Thread Cert.ScaleIdeal.nD Cert.ScaleIdeal.τ).loc Cert.ScaleIdeal.main_v5)),
      θ_run (Cert.ScaleIdeal.defs (F := Ideal)) (onTc (τ := Cert.ScaleIdeal.τ) (Cert.ScaleIdeal.main (F := Ideal))) ⟨m, fun _ => 0, g⟩ (fun r => ∀ c : Dev Cert.ScaleIdeal.nD,
          r.2.mem ((c.tc : Thread Cert.ScaleIdeal.nD Cert.ScaleIdeal.τ).loc Cert.ScaleIdeal.main_v5) = v0 c
          ∧ r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0))
      ∧ θ_run (Cert.ScaleRefIdeal.defs (F := Ideal)) (onTc (τ := Cert.ScaleRefIdeal.τ) (Cert.ScaleRefIdeal.main (F := Ideal))) ⟨m', fun _ => 0, g'⟩ (fun r => ∀ c : Dev Cert.ScaleRefIdeal.nD,
          r.2.mem ((c.tc : Thread Cert.ScaleRefIdeal.nD Cert.ScaleRefIdeal.τ).loc Cert.ScaleRefIdeal.main_v8) = v0 c
          ∧ r.2.mem ((c.tc : Thread Cert.ScaleRefIdeal.nD Cert.ScaleRefIdeal.τ).loc Cert.ScaleRefIdeal.main_arg0) = m' ((c.tc : Thread Cert.ScaleRefIdeal.nD Cert.ScaleRefIdeal.τ).loc Cert.ScaleRefIdeal.main_arg0))

def Claim : Prop :=
  ∃ (hNorm : Cert.Norm.Facts) (hNormIdeal : Cert.NormIdeal.Facts) (hNormRefIdeal : Cert.NormRefIdeal.Facts) (hWgrad : Cert.Wgrad.Facts) (hWgradIdeal : Cert.WgradIdeal.Facts) (hWgradRefIdeal : Cert.WgradRefIdeal.Facts) (hDown : Cert.Down.Facts) (hDownIdeal : Cert.DownIdeal.Facts) (hDownRefIdeal : Cert.DownRefIdeal.Facts) (hQuant : Cert.Quant.Facts) (hQuantIdeal : Cert.QuantIdeal.Facts) (hQuantRefIdeal : Cert.QuantRefIdeal.Facts) (hScale : Cert.Scale.Facts) (hScaleIdeal : Cert.ScaleIdeal.Facts) (hScaleRefIdeal : Cert.ScaleRefIdeal.Facts),
    quiescent_Norm (hNorm := hNorm)
    ∧ quiescent_NormIdeal (hNormIdeal := hNormIdeal)
    ∧ quiescent_NormRefIdeal (hNormRefIdeal := hNormRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Down (hDown := hDown)
    ∧ quiescent_DownIdeal (hDownIdeal := hDownIdeal)
    ∧ quiescent_DownRefIdeal (hDownRefIdeal := hDownRefIdeal)
    ∧ quiescent_Quant (hQuant := hQuant)
    ∧ quiescent_QuantIdeal (hQuantIdeal := hQuantIdeal)
    ∧ quiescent_QuantRefIdeal (hQuantRefIdeal := hQuantRefIdeal)
    ∧ quiescent_Scale (hScale := hScale)
    ∧ quiescent_ScaleIdeal (hScaleIdeal := hScaleIdeal)
    ∧ quiescent_ScaleRefIdeal (hScaleRefIdeal := hScaleRefIdeal)
    ∧ preserves_Norm_NormIdeal
    ∧ algebraic_NormIdeal_NormRefIdeal (hNormIdeal := hNormIdeal) (hNormRefIdeal := hNormRefIdeal)
    ∧ preserves_Wgrad_WgradIdeal
    ∧ algebraic_WgradIdeal_WgradRefIdeal (hWgradIdeal := hWgradIdeal) (hWgradRefIdeal := hWgradRefIdeal)
    ∧ preserves_Down_DownIdeal
    ∧ algebraic_DownIdeal_DownRefIdeal (hDownIdeal := hDownIdeal) (hDownRefIdeal := hDownRefIdeal)
    ∧ preserves_Quant_QuantIdeal
    ∧ algebraic_QuantIdeal_QuantRefIdeal (hQuantIdeal := hQuantIdeal) (hQuantRefIdeal := hQuantRefIdeal)
    ∧ preserves_Scale_ScaleIdeal
    ∧ algebraic_ScaleIdeal_ScaleRefIdeal (hScaleIdeal := hScaleIdeal) (hScaleRefIdeal := hScaleRefIdeal)
-- ==== Norm.lean ====
abbrev S1 : Shape := ⟨1, ![1]⟩
abbrev S8192x5504 : Shape := ⟨2, ![8192, 5504]⟩
abbrev S2048x5504 : Shape := ⟨2, ![2048, 5504]⟩
abbrev S8192x2048 : Shape := ⟨2, ![8192, 2048]⟩
abbrev S8192x128 : Shape := ⟨2, ![8192, 128]⟩
abbrev S1x2048 : Shape := ⟨2, ![1, 2048]⟩
abbrev S8x2048 : Shape := ⟨2, ![8, 2048]⟩
abbrev S256x5504 : Shape := ⟨2, ![256, 5504]⟩
abbrev S256x2048 : Shape := ⟨2, ![256, 2048]⟩
abbrev S256x128 : Shape := ⟨2, ![256, 128]⟩
abbrev S256x128x1 : Shape := ⟨3, ![256, 128, 1]⟩
abbrev S256 : Shape := ⟨1, ![256]⟩
abbrev S256x1 : Shape := ⟨2, ![256, 1]⟩
abbrev S32x8x2048 : Shape := ⟨3, ![32, 8, 2048]⟩
abbrev S_ : Shape := ⟨0, ![]⟩
abbrev S2048 : Shape := ⟨1, ![2048]⟩

abbrev nBuf : Space → Nat
  | .hbm => 16
  | .vmem => 16
  | .smem => 4
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S8192x5504, .fp8e5m2⟩
  | .hbm, ⟨5, _⟩ => ⟨S8192x5504, .fp8e5m2⟩
  | .hbm, ⟨6, _⟩ => ⟨S2048x5504, .fp8e4m3⟩
  | .hbm, ⟨7, _⟩ => ⟨S2048x5504, .fp8e4m3⟩
  | .hbm, ⟨8, _⟩ => ⟨S8192x2048, .fp8e4m3⟩
  | .hbm, ⟨9, _⟩ => ⟨S8192x128, .f32⟩
  | .hbm, ⟨10, _⟩ => ⟨S1x2048, .f32⟩
  | .hbm, ⟨11, _⟩ => ⟨S8192x2048, .bf16⟩
  | .hbm, ⟨12, _⟩ => ⟨S8192x2048, .bf16⟩
  | .hbm, ⟨13, _⟩ => ⟨S8x2048, .f32⟩
  | .hbm, ⟨14, _⟩ => ⟨S_, .f32⟩
  | .hbm, ⟨15, _⟩ => ⟨S2048, .f32⟩
  | .local _ .vmem, ⟨0, _⟩ => ⟨S256x5504, .fp8e5m2⟩
  | .local _ .vmem, ⟨1, _⟩ => ⟨S256x5504, .fp8e5m2⟩
  | .local _ .vmem, ⟨2, _⟩ => ⟨S256x5504, .fp8e5m2⟩
  | .local _ .vmem, ⟨3, _⟩ => ⟨S256x5504, .fp8e5m2⟩
  | .local _ .vmem, ⟨4, _⟩ => ⟨S2048x5504, .fp8e4m3⟩
  | .local _ .vmem, ⟨5, _⟩ => ⟨S2048x5504, .fp8e4m3⟩
  | .local _ .vmem, ⟨6, _⟩ => ⟨S256x2048, .fp8e4m3⟩
  | .local _ .vmem, ⟨7, _⟩ => ⟨S256x2048, .fp8e4m3⟩
  | .local _ .vmem, ⟨8, _⟩ => ⟨S256x128, .f32⟩
  | .local _ .vmem, ⟨9, _⟩ => ⟨S256x128, .f32⟩
  | .local _ .vmem, ⟨10, _⟩ => ⟨S1x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S8x2048, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_cst : Ref sig .tc := ⟨.hbm, 14, rfl⟩
abbrev main_v1 : Ref sig .tc := ⟨.hbm, 15, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5504 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5504 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x5504 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x5504 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== NormRefIdeal.lean ====
abbrev S1 : Shape := ⟨1, ![1]⟩
abbrev S8192x5504 : Shape := ⟨2, ![8192, 5504]⟩
abbrev S2048x5504 : Shape := ⟨2, ![2048, 5504]⟩
abbrev S8192x2048 : Shape := ⟨2, ![8192, 2048]⟩
abbrev S8192x128 : Shape := ⟨2, ![8192, 128]⟩
abbrev S1x2048 : Shape := ⟨2, ![1, 2048]⟩
abbrev S2048 : Shape := ⟨1, ![2048]⟩
abbrev S8192x128x16 : Shape := ⟨3, ![8192, 128, 16]⟩
abbrev S8192x128x1 : Shape := ⟨3, ![8192, 128, 1]⟩
abbrev S8192 : Shape := ⟨1, ![8192]⟩
abbrev S8192x1 : Shape := ⟨2, ![8192, 1]⟩

abbrev nBuf : Space → Nat
  | .hbm => 14
  | .vmem => 10
  | .smem => 4
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S8192x5504, .fp8e5m2⟩
  | .hbm, ⟨5, _⟩ => ⟨S8192x5504, .fp8e5m2⟩
  | .hbm, ⟨6, _⟩ => ⟨S2048x5504, .fp8e4m3⟩
  | .hbm, ⟨7, _⟩ => ⟨S2048x5504, .fp8e4m3⟩
  | .hbm, ⟨8, _⟩ => ⟨S8192x2048, .fp8e4m3⟩
  | .hbm, ⟨9, _⟩ => ⟨S8192x128, .f32⟩
  | .hbm, ⟨10, _⟩ => ⟨S1x2048, .f32⟩
  | .hbm, ⟨11, _⟩ => ⟨S8192x2048, .bf16⟩
  | .hbm, ⟨12, _⟩ => ⟨S8192x2048, .bf16⟩
  | .hbm, ⟨13, _⟩ => ⟨S2048, .f32⟩
  | .local _ .vmem, ⟨0, _⟩ => ⟨S8192x5504, .fp8e5m2⟩
  | .local _ .vmem, ⟨1, _⟩ => ⟨S8192x5504, .fp8e5m2⟩
  | .local _ .vmem, ⟨2, _⟩ => ⟨S2048x5504, .fp8e4m3⟩
  | .local _ .vmem, ⟨3, _⟩ => ⟨S2048x5504, .fp8e4m3⟩
  | .local _ .vmem, ⟨4, _⟩ => ⟨S8192x2048, .fp8e4m3⟩
  | .local _ .vmem, ⟨5, _⟩ => ⟨S8192x128, .f32⟩
  | .local _ .vmem, ⟨6, _⟩ => ⟨S1x2048, .f32⟩
  | .local _ .vmem, ⟨7, _⟩ => ⟨S8192x2048, .bf16⟩
  | .local _ .vmem, ⟨8, _⟩ => ⟨S8192x2048, .bf16⟩
  | .local _ .vmem, ⟨9, _⟩ => ⟨S2048, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg13_0 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x5504 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x5504 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x5504 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x5504 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Wgrad.lean ====
abbrev S1 : Shape := ⟨1, ![1]⟩
abbrev S8192x2048 : Shape := ⟨2, ![8192, 2048]⟩
abbrev S8192x5504 : Shape := ⟨2, ![8192, 5504]⟩
abbrev S2048x5504 : Shape := ⟨2, ![2048, 5504]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 10
  | .vmem => 15
  | .smem => 3
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S8192x2048, .fp8e4m3⟩
  | .hbm, ⟨4, _⟩ => ⟨S8192x5504, .f32⟩
  | .hbm, ⟨5, _⟩ => ⟨S8192x5504, .f32⟩
  | .hbm, ⟨6, _⟩ => ⟨S8192x5504, .fp8e5m2⟩
  | .hbm, ⟨7, _⟩ => ⟨S8192x5504, .fp8e5m2⟩
  | .hbm, ⟨8, _⟩ => ⟨S2048x5504, .bf16⟩
  | .hbm, ⟨9, _⟩ => ⟨S2048x5504, .bf16⟩
  | .local _ .vmem, ⟨0, _⟩ => ⟨S8192x2048, .fp8e4m3⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .fp8e5m2⟩
  | .local _ .vmem, ⟨6, _⟩ => ⟨S1024x512, .fp8e5m2⟩
  | .local _ .vmem, ⟨7, _⟩ => ⟨S1024x512, .fp8e5m2⟩
  | .local _ .vmem, ⟨8, _⟩ => ⟨S1024x512, .fp8e5m2⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .f32⟩
  | .local _ .vmem, ⟨14, _⟩ => ⟨S2048x512, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![11, 8], ![false, false]⟩

def k0_off1 (i : grid0.Coords) : Fin 2 → Nat :=
  let arg1 : BitVec 32 := BitVec.ofNat 32 (i 1).val
  let c1024_i32 : BitVec 32 := 1024#32
  let v23 : BitVec 32 := Scalar.muli arg1 c1024_i32
  let v24 : Index := Scalar.indexCast v23
  let c0_13 : Index := 0#32
  ![v24.toNat, 0]
def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_24 : BitVec 32 := 0#32
  let v40 : BitVec 1 := Scalar.cmpi .ne v39 c0_i32_24
  v40

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== WgradRefIdeal.lean ====
abbrev S1 : Shape := ⟨1, ![1]⟩
abbrev S8192x2048 : Shape := ⟨2, ![8192, 2048]⟩
abbrev S8192x5504 : Shape := ⟨2, ![8192, 5504]⟩
abbrev S2048x5504 : Shape := ⟨2, ![2048, 5504]⟩

abbrev nBuf : Space → Nat
  | .hbm => 10
  | .vmem => 7
  | .smem => 3
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S8192x2048, .fp8e4m3⟩
  | .hbm, ⟨4, _⟩ => ⟨S8192x5504, .f32⟩
  | .hbm, ⟨5, _⟩ => ⟨S8192x5504, .f32⟩
  | .hbm, ⟨6, _⟩ => ⟨S8192x5504, .fp8e5m2⟩
  | .hbm, ⟨7, _⟩ => ⟨S8192x5504, .fp8e5m2⟩
  | .hbm, ⟨8, _⟩ => ⟨S2048x5504, .bf16⟩
  | .hbm, ⟨9, _⟩ => ⟨S2048x5504, .bf16⟩
  | .local _ .vmem, ⟨0, _⟩ => ⟨S8192x2048, .fp8e4m3⟩
  | .local _ .vmem, ⟨1, _⟩ => ⟨S8192x5504, .f32⟩
  | .local _ .vmem, ⟨2, _⟩ => ⟨S8192x5504, .f32⟩
  | .local _ .vmem, ⟨3, _⟩ => ⟨S8192x5504, .fp8e5m2⟩
  | .local _ .vmem, ⟨4, _⟩ => ⟨S8192x5504, .fp8e5m2⟩
  | .local _ .vmem, ⟨5, _⟩ => ⟨S2048x5504, .bf16⟩
  | .local _ .vmem, ⟨6, _⟩ => ⟨S2048x5504, .bf16⟩
  | .local _ .smem, ⟨0, _⟩ => ⟨S1, .f32⟩
  | .local _ .smem, ⟨1, _⟩ => ⟨S1, .f32⟩
  | .local _ .smem, ⟨2, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x5504 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x5504 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x5504 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x5504 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x5504 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x5504 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Down.lean ====
abbrev S1 : Shape := ⟨1, ![1]⟩
abbrev S8192x2048 : Shape := ⟨2, ![8192, 2048]⟩
abbrev S8192x5504 : Shape := ⟨2, ![8192, 5504]⟩
abbrev S2x4096x344 : Shape := ⟨3, ![2, 4096, 344]⟩
abbrev S5504x2048 : Shape := ⟨2, ![5504, 2048]⟩
abbrev S2x344x4096 : Shape := ⟨3, ![2, 344, 4096]⟩
abbrev S1024x512 : Shape := ⟨2, ![1024, 512]⟩
abbrev S1x32x1024 : Shape := ⟨3, ![1, 32, 1024]⟩
abbrev S512x2048 : Shape := ⟨2, ![512, 2048]⟩
abbrev S8x512 : Shape := ⟨2, ![8, 512]⟩
abbrev S1024x2048 : Shape := ⟨2, ![1024, 2048]⟩
abbrev S32x1024 : Shape := ⟨2, ![32, 1024]⟩
abbrev S128x1024 : Shape := ⟨2, ![128, 1024]⟩
abbrev S1024x128 : Shape := ⟨2, ![1024, 128]⟩
abbrev S1024x128x1 : Shape := ⟨3, ![1024, 128, 1]⟩
abbrev S128x8x512 : Shape := ⟨3, ![128, 8, 512]⟩
abbrev S1x8x512 : Shape := ⟨3, ![1, 8, 512]⟩
abbrev S1x1x1 : Shape := ⟨3, ![1, 1, 1]⟩
abbrev S_ : Shape := ⟨0, ![]⟩

abbrev nBuf : Space → Nat
  | .hbm => 37
  | .vmem => 22
  | .smem => 5
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S8192x2048, .fp8e5m2⟩
  | .hbm, ⟨4, _⟩ => ⟨S8192x5504, .fp8e4m3⟩
  | .hbm, ⟨5, _⟩ => ⟨S8192x5504, .fp8e4m3⟩
  | .hbm, ⟨6, _⟩ => ⟨S8192x5504, .fp8e4m3⟩
  | .hbm, ⟨7, _⟩ => ⟨S2x4096x344, .f32⟩
  | .hbm, ⟨8, _⟩ => ⟨S2x4096x344, .f32⟩
  | .hbm, ⟨9, _⟩ => ⟨S5504x2048, .fp8e4m3⟩
  | .hbm, ⟨10, _⟩ => ⟨S2x344x4096, .f32⟩
  | .hbm, ⟨11, _⟩ => ⟨S2x344x4096, .f32⟩
  | .hbm, ⟨12, _⟩ => ⟨S8192x5504, .f32⟩
  | .hbm, ⟨13, _⟩ => ⟨S8192x5504, .f32⟩
  | .hbm, ⟨14, _⟩ => ⟨S5504x2048, .bf16⟩
  | .hbm, ⟨15, _⟩ => ⟨S1, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S1, .i1⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S_, .f32⟩
  | .hbm, ⟨28, _⟩ => ⟨S1, .f32⟩
  | .hbm, ⟨29, _⟩ => ⟨S1, .i1⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .local _ .vmem, ⟨0, _⟩ => ⟨S8192x2048, .fp8e5m2⟩
  | .local _ .vmem, ⟨1, _⟩ => ⟨S1024x512, .fp8e4m3⟩
  | .local _ .vmem, ⟨2, _⟩ => ⟨S1024x512, .fp8e4m3⟩
  | .local _ .vmem, ⟨3, _⟩ => ⟨S1024x512, .fp8e4m3⟩
  | .local _ .vmem, ⟨4, _⟩ => ⟨S1024x512, .fp8e4m3⟩
  | .local _ .vmem, ⟨5, _⟩ => ⟨S1024x512, .fp8e4m3⟩
  | .local _ .vmem, ⟨6, _⟩ => ⟨S1024x512, .fp8e4m3⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S512x2048, .fp8e4m3⟩
  | .local _ .vmem, ⟨12, _⟩ => ⟨S512x2048, .fp8e4m3⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S512x2048, .bf16⟩
  | .local _ .vmem, ⟨18, _⟩ => ⟨S512x2048, .bf16⟩
  | .local _ .vmem, ⟨19, _⟩ => ⟨S512x2048, .f32⟩
  | .local _ .vmem, ⟨20, _⟩ => ⟨S8x512, .f32⟩
  | .local _ .vmem, ⟨21, _⟩ => ⟨S8x512, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v12 : Ref sig .tc := ⟨.hbm, 36, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg13_0 : Ref sig .tc := ⟨.smem, 3, rfl⟩
abbrev cc0_stg14_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨2, ![11, 8], ![false, false]⟩

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : Index := Scalar.indexCast v0
  let c0 : Index := 0#32
  ![v1.toNat, 0]
def k0_cond3 (i : grid0.Coords) : BitVec 1 :=
  let arg1 : BitVec 32 := BitVec.ofNat 32 (i 1).val
  let c7_i32 : BitVec 32 := 7#32
  let v360 : BitVec 1 := Scalar.cmpi .eq arg1 c7_i32
  let v361 : BitVec 32 := Scalar.extui v360
  let c0_i32_121 : BitVec 32 := 0#32
  let v362 : BitVec 1 := Scalar.cmpi .ne v361 c0_i32_121
  v362

def k0_cond4 (i : grid0.Coords) : BitVec 1 :=
  let arg1 : BitVec 32 := BitVec.ofNat 32 (i 1).val
  let c7_i32_122 : BitVec 32 := 7#32
  let v363 : BitVec 1 := Scalar.cmpi .eq arg1 c7_i32_122
  let arg0 : BitVec 32 := BitVec.ofNat 32 (i 0).val
  let c10_i32 : BitVec 32 := 10#32
  let v364 : BitVec 1 := Scalar.cmpi .eq arg0 c10_i32
  let v365 : BitVec 1 := Scalar.andi v363 v364
  let v366 : BitVec 32 := Scalar.extui v365
  let c0_i32_123 : BitVec 32 := 0#32
  let v367 : BitVec 1 := Scalar.cmpi .ne v366 c0_i32_123
  v367

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x2048 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .smem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== DownIdeal.lean ====
variable {F : FTy → Type} [FloatOps F] [Named F]
def κ : String → Option EReal := fun
  | "neg_log2e" => some ((-((Real.log 2)⁻¹) : ℝ) : EReal)
  | _ => none
-- ==== DownRefIdeal.lean ====
abbrev S1 : Shape := ⟨1, ![1]⟩
abbrev S8192x2048 : Shape := ⟨2, ![8192, 2048]⟩
abbrev S8192x5504 : Shape := ⟨2, ![8192, 5504]⟩
abbrev S2x4096x344 : Shape := ⟨3, ![2, 4096, 344]⟩
abbrev S5504x2048 : Shape := ⟨2, ![5504, 2048]⟩
abbrev S8192x344 : Shape := ⟨2, ![8192, 344]⟩
abbrev S8192x344x16 : Shape := ⟨3, ![8192, 344, 16]⟩
abbrev S8192x344x1 : Shape := ⟨3, ![8192, 344, 1]⟩
abbrev S1x8192x5504 : Shape := ⟨3, ![1, 8192, 5504]⟩
abbrev S1x1x1 : Shape := ⟨3, ![1, 1, 1]⟩

abbrev nBuf : Space → Nat
  | .hbm => 17
  | .vmem => 10
  | .smem => 5
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S8192x2048, .fp8e5m2⟩
  | .hbm, ⟨4, _⟩ => ⟨S8192x5504, .fp8e4m3⟩
  | .hbm, ⟨5, _⟩ => ⟨S8192x5504, .fp8e4m3⟩
  | .hbm, ⟨6, _⟩ => ⟨S8192x5504, .fp8e4m3⟩
  | .hbm, ⟨7, _⟩ => ⟨S2x4096x344, .f32⟩
  | .hbm, ⟨8, _⟩ => ⟨S2x4096x344, .f32⟩
  | .hbm, ⟨9, _⟩ => ⟨S5504x2048, .fp8e4m3⟩
  | .hbm, ⟨10, _⟩ => ⟨S8192x344, .f32⟩
  | .hbm, ⟨11, _⟩ => ⟨S8192x344, .f32⟩
  | .hbm, ⟨12, _⟩ => ⟨S8192x5504, .f32⟩
  | .hbm, ⟨13, _⟩ => ⟨S8192x5504, .f32⟩
  | .hbm, ⟨14, _⟩ => ⟨S5504x2048, .bf16⟩
  | .hbm, ⟨15, _⟩ => ⟨S1, .f32⟩
  | .hbm, ⟨16, _⟩ => ⟨S1, .f32⟩
  | .local _ .vmem, ⟨0, _⟩ => ⟨S8192x2048, .fp8e5m2⟩
  | .local _ .vmem, ⟨1, _⟩ => ⟨S8192x5504, .fp8e4m3⟩
  | .local _ .vmem, ⟨2, _⟩ => ⟨S8192x5504, .fp8e4m3⟩
  | .local _ .vmem, ⟨3, _⟩ => ⟨S8192x5504, .fp8e4m3⟩
  | .local _ .vmem, ⟨4, _⟩ => ⟨S8192x344, .f32⟩
  | .local _ .vmem, ⟨5, _⟩ => ⟨S8192x344, .f32⟩
  | .local _ .vmem, ⟨6, _⟩ => ⟨S5504x2048, .fp8e4m3⟩
  | .local _ .vmem, ⟨7, _⟩ => ⟨S8192x5504, .f32⟩
  | .local _ .vmem, ⟨8, _⟩ => ⟨S8192x5504, .f32⟩
  | .local _ .vmem, ⟨9, _⟩ => ⟨S5504x2048, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg13_0 : Ref sig .tc := ⟨.smem, 3, rfl⟩
abbrev cc0_stg14_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2048 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x5504 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x5504 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x5504 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x344 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x344 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5504x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x5504 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x5504 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5504x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .smem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Quant.lean ====
abbrev S8192x2048 : Shape := ⟨2, ![8192, 2048]⟩
abbrev S1 : Shape := ⟨1, ![1]⟩
abbrev S512x2048 : Shape := ⟨2, ![512, 2048]⟩

abbrev nBuf : Space → Nat
  | .hbm => 3
  | .vmem => 4
  | .smem => 1
  | _ => 0

abbrev bufTy : (tb : Table) → Fin (tcTables nBuf tb) → BufTy
  | .hbm, ⟨0, _⟩ => ⟨S8192x2048, .bf16⟩
  | .hbm, ⟨1, _⟩ => ⟨S1, .f32⟩
  | .hbm, ⟨2, _⟩ => ⟨S8192x2048, .fp8e5m2⟩
  | .local _ .vmem, ⟨0, _⟩ => ⟨S512x2048, .bf16⟩
  | .local _ .vmem, ⟨1, _⟩ => ⟨S512x2048, .bf16⟩
  | .local _ .vmem, ⟨2, _⟩ => ⟨S512x2048, .fp8e5m2⟩
  | .local _ .vmem, ⟨3, _⟩ => ⟨S512x2048, .fp8e5m2⟩
  | .local _ .smem, ⟨0, _⟩ => ⟨S1, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantRefIdeal.lean ====
abbrev S8192x2048 : Shape := ⟨2, ![8192, 2048]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S8192x2048, .bf16⟩
  | .hbm, ⟨1, _⟩ => ⟨S1, .f32⟩
  | .hbm, ⟨2, _⟩ => ⟨S8192x2048, .fp8e5m2⟩
  | .local _ .vmem, ⟨0, _⟩ => ⟨S8192x2048, .bf16⟩
  | .local _ .vmem, ⟨1, _⟩ => ⟨S8192x2048, .fp8e5m2⟩
  | .local _ .smem, ⟨0, _⟩ => ⟨S1, .f32⟩
  | _, _ => ⟨S8192x2048, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8192x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2048 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Scale.lean ====
abbrev S8192x2048 : Shape := ⟨2, ![8192, 2048]⟩
abbrev S1 : Shape := ⟨1, ![1]⟩
abbrev S512x2048 : Shape := ⟨2, ![512, 2048]⟩
abbrev S8x2048 : Shape := ⟨2, ![8, 2048]⟩
abbrev S64x8x2048 : Shape := ⟨3, ![64, 8, 2048]⟩
abbrev S1x8x2048 : Shape := ⟨3, ![1, 8, 2048]⟩
abbrev S1x1x1 : Shape := ⟨3, ![1, 1, 1]⟩
abbrev S_ : Shape := ⟨0, ![]⟩

abbrev nBuf : Space → Nat
  | .hbm => 12
  | .vmem => 3
  | .smem => 1
  | _ => 0

abbrev bufTy : (tb : Table) → Fin (tcTables nBuf tb) → BufTy
  | .hbm, ⟨0, _⟩ => ⟨S8192x2048, .bf16⟩
  | .hbm, ⟨1, _⟩ => ⟨S1, .f32⟩
  | .hbm, ⟨2, _⟩ => ⟨S_, .f32⟩
  | .hbm, ⟨3, _⟩ => ⟨S1, .f32⟩
  | .hbm, ⟨4, _⟩ => ⟨S1, .i1⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .local _ .vmem, ⟨0, _⟩ => ⟨S512x2048, .bf16⟩
  | .local _ .vmem, ⟨1, _⟩ => ⟨S512x2048, .bf16⟩
  | .local _ .vmem, ⟨2, _⟩ => ⟨S8x2048, .f32⟩
  | .local _ .smem, ⟨0, _⟩ => ⟨S1, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ScaleRefIdeal.lean ====
abbrev S8192x2048 : Shape := ⟨2, ![8192, 2048]⟩
abbrev S_ : Shape := ⟨0, ![]⟩
abbrev S1 : Shape := ⟨1, ![1]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S1, .i1⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S1, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.NormMath.lean ====
/- The mathematics of one row of the call `norm_bwd`, as functions on extended reals: the two products with
   the weights, the RMS norm of the row read from codes and group scales, the input's gradient and the
   row's term of gamma's gradient. Both programs are read against it. -/
module

public import Idealize.ShloMosaic.Lib.Pointwise

@[expose] public section

noncomputable section

namespace Cert.NormMath

open Idealize.ShloMosaic

/-- The norm's gradient at one feature: two products, each times its two scales. -/
def dn (a b : Fin 5504 → EReal) (wg wu : Fin 2048 → Fin 5504 → EReal) (p q r s : EReal) (k : Fin 2048) : EReal :=
  (∑ f, a f * wg k f) * p * q + (∑ f, b f * wu k f) * r * s

/-- The group (of 16 features) of a feature. -/
def grp (k : Fin 2048) : Fin 128 := ⟨k.val / 16, by have := k.isLt; omega⟩

/-- A row's input from its codes and group scales. -/
def xr (x : Fin 2048 → EReal) (xs : Fin 128 → EReal) (k : Fin 2048) : EReal := x k * xs (grp k)

/-- One over the root mean square of a row. -/
def rr (x : Fin 2048 → EReal) : EReal :=
  Ideal.div 1 (Ideal.sqrt (Ideal.div (∑ k, x k * x k) (Ideal.ofBits .f32 0x45000000#32) + Ideal.ofBits .f32 0x358637BD#32))

/-- The normalised row. -/
def xt (x : Fin 2048 → EReal) (k : Fin 2048) : EReal := x k * rr x

/-- The input's gradient at one feature, from the norm's gradient `d`, the row `x`, gamma and the output's gradient. -/
def dx (d x g y : Fin 2048 → EReal) (k : Fin 2048) : EReal :=
  y k + rr x * (d k * g k - xt x k * Ideal.div (∑ j, d j * g j * xt x j) (Ideal.ofBits .f32 0x45000000#32))

/-- The norm's gradient at row `r`, from the four scales and the arrays of codes. -/
def dnA (p q r s : EReal) (a b : Fin 8192 → Fin 5504 → EReal) (wg wu : Fin 2048 → Fin 5504 → EReal) (i : Fin 8192) (k : Fin 2048) : EReal :=
  dn (a i) (b i) wg wu p q r s k

/-- Result `dx` as a function of the arguments. -/
def dxA (p q r s : EReal) (a b : Fin 8192 → Fin 5504 → EReal) (wg wu : Fin 2048 → Fin 5504 → EReal)
    (x : Fin 8192 → Fin 2048 → EReal) (xs : Fin 8192 → Fin 128 → EReal) (g : Fin 2048 → EReal) (y : Fin 8192 → Fin 2048 → EReal)
    (i : Fin 8192) (k : Fin 2048) : EReal :=
  dx (dnA p q r s a b wg wu i) (xr (x i) (xs i)) g (y i) k

/-- One row's term of gamma's gradient. -/
def dgT (p q r s : EReal) (a b : Fin 8192 → Fin 5504 → EReal) (wg wu : Fin 2048 → Fin 5504 → EReal)
    (x : Fin 8192 → Fin 2048 → EReal) (xs : Fin 8192 → Fin 128 → EReal) (i : Fin 8192) (k : Fin 2048) : EReal :=
  dnA p q r s a b wg wu i k * xt (xr (x i) (xs i)) k

/-- A sum over an array's rows, read block by block (32 blocks of 256 rows), a block's rows in 32 groups of 8. -/
theorem sum_rows (f : ℕ → EReal) :
    ∑ s : Fin 8, ∑ u ∈ Finset.range 32, ∑ j : Fin 32, f (u * 256 + (j.val * 8 + s.val)) = ∑ r : Fin 8192, f r.val := by
  have h2 : ∀ (a b : ℕ) (g : ℕ → EReal), ∑ r : Fin (a * b), g r.val = ∑ x : Fin a, ∑ y : Fin b, g (x.val * b + y.val) := by
    intro a b g
    rw [← finProdFinEquiv.sum_comp, Fintype.sum_prod_type]
    refine Finset.sum_congr rfl fun x _ => Finset.sum_congr rfl fun y _ => ?_
    rw [finProdFinEquiv_apply_val, Nat.add_comm, Nat.mul_comm]
  have h := h2 32 256 f
  refine Eq.trans ?_ h.symm
  rw [Finset.sum_comm, Finset.sum_range]
  refine Finset.sum_congr rfl fun u _ => ?_
  rw [Finset.sum_comm]
  exact (h2 32 8 fun i => f (u.val * 256 + i)).symm

end Cert.NormMath
-- ==== Proof.NormRef.lean ====
/- The payloads of the reference `NormRefIdeal`, read at an index. -/
module

public import proofs.«01_k».proof.Proof.NormMath
public import proofs.«01_k».proof.Proof.Gen.NormRefIdeal.Skeleton

@[expose] public section

set_option maxRecDepth 16384

noncomputable section

namespace Cert.NormRefIdeal

open Idealize.ShloMosaic Cert.NormRefIdeal.Gen Cert.NormMath

theorem pay4_apply (v0 : Vec Ideal S8192x5504 .fp8e5m2) (v1 : Vec Ideal S2048x5504 .fp8e4m3) (v3 v6 : Elt Ideal .f32)
    (v9 : Vec Ideal S8192x5504 .fp8e5m2) (v10 : Vec Ideal S2048x5504 .fp8e4m3) (v12 v15 : Elt Ideal .f32)
    (r : Fin 8192) (k : Fin 2048) :
    k0_pay4 (F := Ideal) v0 v1 v3 v6 v9 v10 v12 v15 (ix2 r k)
      = dn (fun f => v0 (ix2 r f)) (fun f => v9 (ix2 r f)) (fun k f => v1 (ix2 k f)) (fun k f => v10 (ix2 k f)) v3 v6 v12 v15 k := by
  unfold dn
  pointwise [k0_pay4]

theorem pay5_apply (v19 : Vec Ideal S8192x2048 .fp8e4m3) (v20 : Vec Ideal S8192x128 .f32) (r : Fin 8192) (k : Fin 2048) :
    k0_pay5 (F := Ideal) v19 v20 (ix2 r k) = xr (fun k => v19 (ix2 r k)) (fun k => v20 (ix2 r k)) k := by
  unfold xr grp
  pointwise [k0_pay5]

theorem pay6_apply (v19 : Vec Ideal S8192x2048 .fp8e4m3) (v20 : Vec Ideal S8192x128 .f32) (r : Fin 8192) (u : Fin 1) :
    k0_pay6 (F := Ideal) v19 v20 (ix2 r u) = rr (fun k => k0_pay5 (F := Ideal) v19 v20 (ix2 r k)) := by
  unfold rr
  pointwise [k0_pay6]

theorem pay1_apply (v26 : FVec Ideal S8192x2048 .f32) (v37 : FVec Ideal S8192x2048 .f32) (r : Fin 8192) (k : Fin 2048) :
    k0_pay1 (F := Ideal) v26 v37 (ix2 r k) = v26 (ix2 r k) * v37 (ix2 r k) := by
  pointwise [k0_pay1]

theorem pay7_apply (v19 : Vec Ideal S8192x2048 .fp8e4m3) (v20 : Vec Ideal S8192x128 .f32) (r : Fin 8192) (k : Fin 2048) :
    k0_pay7 (F := Ideal) v19 v20 (ix2 r k) = k0_pay6 (F := Ideal) v19 v20 (ix2 r 0) := by
  pointwise [k0_pay7]

theorem pay2_apply (v18 v26 v37 : FVec Ideal S8192x2048 .f32) (k : Fin 2048) :
    k0_pay2 (F := Ideal) v18 v26 v37 (ix1 k) = ∑ r : Fin 8192, v18 (ix2 r k) * (v26 (ix2 r k) * v37 (ix2 r k)) := by
  pointwise [k0_pay2, k0_pay1]

theorem pay3_apply (v18 v26 : FVec Ideal S8192x2048 .f32) (v36 : FVec Ideal S8192x1 .f32) (v37 : FVec Ideal S8192x2048 .f32)
    (v42 : Vec Ideal S1x2048 .f32) (v55 : Vec Ideal S8192x2048 .bf16) (r : Fin 8192) (k : Fin 2048)
    (h36 : v36 (ix2 r 0) = rr (fun k => v26 (ix2 r k))) (h37 : ∀ k, v37 (ix2 r k) = rr (fun k => v26 (ix2 r k))) :
    k0_pay3 (F := Ideal) v18 v26 v36 v37 v42 v55 (ix2 r k)
      = dx (fun k => v18 (ix2 r k)) (fun k => v26 (ix2 r k)) (fun k => v42 (ix2 0 k)) (fun k => v55 (ix2 r k)) k := by
  unfold dx xt
  pointwise [k0_pay3, k0_pay1, h36, h37]

end Cert.NormRefIdeal
-- ==== Proof.NormKer.lean ====
/- The payloads of the kernel `NormIdeal`, read at an index. The kernel widens the 128 group scales of a row to its
   2048 features in sixteen pieces of 128 lanes: piece `q` gathers, at lane `l`, the scale of group `8 q + l / 16`. -/
module

public import proofs.«01_k».proof.Proof.NormRef
public import proofs.«01_k».proof.Proof.Gen.NormIdeal.Skeleton
public import Idealize.ShloMosaic.Lib.Pipeline.Value

@[expose] public section

set_option maxRecDepth 16384

noncomputable section

namespace Cert.NormIdeal

open Idealize.ShloMosaic Cert.NormIdeal.Gen Cert.NormMath

/-- The lane's number divided by 16, rounded down, as the kernel computes it. -/
def lane16 : IVec S256x128 32 :=
  have v20 : IVec S256x128 32 := iota .tc S256x128 32 [1] iota_S256x128_d1_w32
  have d : IVec S256x128 32 := divsi v20 (broadcast S256x128 16#32)
  have sg : IVec S256x128 32 := subi (extui 32 (cmpi .sgt v20 (broadcast S256x128 0#32)) natLt_1_32)
    (extui 32 (cmpi .slt v20 (broadcast S256x128 0#32)) natLt_1_32)
  have ne : IVec S256x128 1 := cmpi .ne sg (broadcast S256x128
    (Scalar.subi (Scalar.extui (Scalar.cmpi .sgt 16#32 0#32)) (Scalar.extui (Scalar.cmpi .slt 16#32 0#32))))
  have rm : IVec S256x128 1 := cmpi .ne (remsi v20 (broadcast S256x128 16#32)) (broadcast S256x128 0#32)
  select (andi ne rm) (subi d (broadcast S256x128 1#32)) d

/-- The index words of one piece: its first group plus the lane's, a negative one counted from the end. -/
def gidx (q : BitVec 32) : IVec S256x128 32 :=
  have s : IVec S256x128 32 := addi (broadcast S256x128 q) lane16
  select (cmpi .slt s (broadcast S256x128 0#32)) (addi s (broadcast S256x128 128#32)) s

/-- One piece of the widened scales. -/
def tile (v19 : Vec Ideal S256x128 .f32) (q : BitVec 32) : FVec Ideal S256x128 .f32 :=
  dynamicGather 1 v19 (shapeCast S256x128 (shapeCast S256x128x1 (gidx q) shapeCasts_S256x128_S256x128x1) shapeCasts_S256x128x1_S256x128)

theorem gidx_apply (q : Fin 16) (r : Fin 256) (l : Fin 128) :
    gidx (BitVec.ofNat 32 (8 * q.val)) (ix2 r l) = BitVec.ofNat 32 (8 * q.val + l.val / 16) := by
  have h : ∀ (q : Fin 16) (l : Fin 128), gidx (BitVec.ofNat 32 (8 * q.val)) (ix2 0 l) = BitVec.ofNat 32 (8 * q.val + l.val / 16) := by
    decide +kernel
  exact h q l

theorem tile_apply (v19 : Vec Ideal S256x128 .f32) (q : Fin 16) (r : Fin 256) (l : Fin 128) (w : BitVec 32)
    (hw : w = BitVec.ofNat 32 (8 * q.val)) :
    tile v19 w (ix2 r l) = v19 (ix2 r ⟨8 * q.val + l.val / 16, by have := q.isLt; have := l.isLt; omega⟩) := by
  have hq := q.isLt
  have hl := l.isLt
  subst hw
  unfold tile
  rw [show shapeCast S256x128 (shapeCast S256x128x1 (gidx (BitVec.ofNat 32 (8 * q.val))) shapeCasts_S256x128_S256x128x1)
      shapeCasts_S256x128x1_S256x128 = gidx (BitVec.ofNat 32 (8 * q.val)) from by
        funext i; idx_vars i; pointwise]
  rw [dynamicGather_apply]
  congr 1
  funext a
  match a with
  | ⟨0, _⟩ => rfl
  | ⟨1, _⟩ =>
    apply Fin.ext
    show ((gidx _ (ix2 r l)).toNat % 128) = _
    rw [gidx_apply, BitVec.toNat_ofNat]
    show _ = 8 * q.val + l.val / 16
    omega

/-- The widened scales: the sixteen pieces side by side. -/
def wide (v19 : Vec Ideal S256x128 .f32) : FVec Ideal S256x2048 .f32 :=
  concatenate S256x2048 1 [⟨S256x128, tile v19 0#32⟩, ⟨S256x128, tile v19 8#32⟩, ⟨S256x128, tile v19 16#32⟩,
    ⟨S256x128, tile v19 24#32⟩, ⟨S256x128, tile v19 32#32⟩, ⟨S256x128, tile v19 40#32⟩, ⟨S256x128, tile v19 48#32⟩,
    ⟨S256x128, tile v19 56#32⟩, ⟨S256x128, tile v19 64#32⟩, ⟨S256x128, tile v19 72#32⟩, ⟨S256x128, tile v19 80#32⟩,
    ⟨S256x128, tile v19 88#32⟩, ⟨S256x128, tile v19 96#32⟩, ⟨S256x128, tile v19 104#32⟩, ⟨S256x128, tile v19 112#32⟩,
    ⟨S256x128, tile v19 120#32⟩]
    concatenates_S256x128_S256x128_S256x128_S256x128_S256x128_S256x128_S256x128_S256x128_S256x128_S256x128_S256x128_S256x128_S256x128_S256x128_S256x128_S256x128_S256x2048_d1

theorem wide_apply (v19 : Vec Ideal S256x128 .f32) (r : Fin 256) (k : Fin 2048) :
    wide v19 (ix2 r k) = v19 (ix2 r (grp k)) := by
  have hk := k.isLt
  have hc : Shape.Concatenates ((List.ofFn fun q : Fin 16 =>
      (⟨S256x128, tile v19 (BitVec.ofNat 32 (8 * q.val))⟩ : (s : Shape) × (s.Idx → EReal))).map (·.1)) S256x2048 1 :=
    concatenates_S256x128_S256x128_S256x128_S256x128_S256x128_S256x128_S256x128_S256x128_S256x128_S256x128_S256x128_S256x128_S256x128_S256x128_S256x128_S256x128_S256x2048_d1
  have e : wide v19 = concatenate S256x2048 1 (List.ofFn fun q : Fin 16 =>
      (⟨S256x128, tile v19 (BitVec.ofNat 32 (8 * q.val))⟩ : (s : Shape) × (s.Idx → EReal))) hc := rfl
  rw [e]
  refine (concatenate_ofFn_apply (s₁ := S256x128) (t := S256x2048) 1 (fun q : Fin 16 => tile v19 (BitVec.ofNat 32 (8 * q.val))) hc rfl 128 rfl
    (ix2 r k) ⟨k.val / 128, by omega⟩ rfl (ix2 r ⟨k.val % 128, by omega⟩) rfl ?_).trans
    ((tile_apply v19 ⟨k.val / 128, by omega⟩ r ⟨k.val % 128, by omega⟩ _ rfl).trans ?_)
  · intro b hb
    match b with
    | ⟨0, _⟩ => rfl
    | ⟨1, _⟩ => exact absurd rfl hb
  · congr 2
    apply Fin.ext
    show 8 * (k.val / 128) + k.val % 128 / 16 = k.val / 16
    omega

/-- The row's input from codes and widened scales. -/
def xv (v19 : Vec Ideal S256x128 .f32) (v566 : Vec Ideal S256x2048 .fp8e4m3) : FVec Ideal S256x2048 .f32 :=
  mulf (extf .f32 v566 bitsLt_fp8e4m3_f32) (wide v19)

theorem xv_apply (v19 : Vec Ideal S256x128 .f32) (v566 : Vec Ideal S256x2048 .fp8e4m3) (r : Fin 256) (k : Fin 2048) :
    xv v19 v566 (ix2 r k) = xr (fun k => v566 (ix2 r k)) (fun k => v19 (ix2 r k)) k := by
  show _ = v566 (ix2 r k) * v19 (ix2 r (grp k))
  rw [← wide_apply v19 r k]
  pointwise [xv]

/-- One over the root mean square of each row. -/
def rv (x : FVec Ideal S256x2048 .f32) : FVec Ideal S256x1 .f32 :=
  divf (broadcast S256x1 (Scalar.ofBits .f32 0x3F800000#32))
    (sqrt (addf (divf (shapeCast S256x1 (multiReduction .add [1] S256 (mulf x x) 0x00000000#32 reduces_S256x2048_S256 (.inl rfl) rfl) shapeCasts_S256_S256x1)
      (broadcast S256x1 (Scalar.ofBits .f32 0x45000000#32))) (broadcast S256x1 (Scalar.ofBits .f32 0x358637BD#32))))

theorem rv_apply (x : FVec Ideal S256x2048 .f32) (r : Fin 256) (u : Fin 1) :
    rv x (ix2 r u) = rr (fun k => x (ix2 r k)) := by
  unfold rr
  pointwise [rv]

/-- The normalised rows. -/
def xtv (x : FVec Ideal S256x2048 .f32) : FVec Ideal S256x2048 .f32 :=
  mulf x (broadcastTo S256x2048 (rv x) broadcasts_S256x1_S256x2048)

theorem xtv_apply (x : FVec Ideal S256x2048 .f32) (r : Fin 256) (k : Fin 2048) :
    xtv x (ix2 r k) = xt (fun k => x (ix2 r k)) k := by
  unfold xt
  rw [← rv_apply x r 0]
  pointwise [xtv]

theorem pay2_apply (v0 : Vec Ideal S256x5504 .fp8e5m2) (v1 : Vec Ideal S2048x5504 .fp8e4m3) (v3 v6 : Elt Ideal .f32)
    (v9 : Vec Ideal S256x5504 .fp8e5m2) (v10 : Vec Ideal S2048x5504 .fp8e4m3) (v12 v15 : Elt Ideal .f32)
    (r : Fin 256) (k : Fin 2048) :
    k0_pay2 (F := Ideal) v0 v1 v3 v6 v9 v10 v12 v15 (ix2 r k)
      = dn (fun f => v0 (ix2 r f)) (fun f => v9 (ix2 r f)) (fun k f => v1 (ix2 k f)) (fun k f => v10 (ix2 k f)) v3 v6 v12 v15 k := by
  unfold dn
  pointwise [k0_pay2]

theorem pay1_apply (d x : FVec Ideal S256x2048 .f32) (g : Vec Ideal S1x2048 .f32) (y : Vec Ideal S256x2048 .bf16)
    (r : Fin 256) (k : Fin 2048) :
    k0_pay1 (F := Ideal) d (rv x) (xtv x) g y (ix2 r k)
      = dx (fun k => d (ix2 r k)) (fun k => x (ix2 r k)) (fun k => g (ix2 0 k)) (fun k => y (ix2 r k)) k := by
  unfold dx
  pointwise [k0_pay1, xtv_apply, rv_apply]

/-- The running partial sums of gamma's gradient after one more block: to sub-row `s`, the terms of the block's rows
    `8 j + s`. -/
def acc (d x : FVec Ideal S256x2048 .f32) (old : Vec Ideal S8x2048 .f32) : FVec Ideal S8x2048 .f32 :=
  addf (shapeCast S8x2048 old shapeCasts_S8x2048_S8x2048)
    (multiReduction .add [0] S8x2048 (shapeCast S32x8x2048 (mulf d (xtv x)) shapeCasts_S256x2048_S32x8x2048) 0x00000000#32
      reduces_S32x8x2048_S8x2048 (.inl rfl) rfl)

theorem acc_apply (d x : FVec Ideal S256x2048 .f32) (old : Vec Ideal S8x2048 .f32) (s : Fin 8) (k : Fin 2048) :
    acc d x old (ix2 s k) = old (ix2 s k) + ∑ j : Fin 32,
      d (ix2 ⟨j.val * 8 + s.val, by have := j.isLt; have := s.isLt; omega⟩ k)
        * xt (fun k => x (ix2 ⟨j.val * 8 + s.val, by have := j.isLt; have := s.isLt; omega⟩ k)) k := by
  pointwise [acc, ← xtv_apply]

end Cert.NormIdeal
-- ==== Proof.NormVal.lean ====
/- What the kernel `NormIdeal` leaves in its two result arrays, and its whole run read. -/
module

public import proofs.«01_k».proof.Proof.NormKer
public import proofs.«01_k».proof.Proof.Gen.NormIdeal.Frame
public import Idealize.ShloMosaic.Lib.Pipeline.Value
public import Idealize.ShloMosaic.Lib.Tactic
public import Idealize.ShloMosaic.Lib.Claim
public import Idealize.ShloMosaic.Lib.Pipeline.ValueKit.Geometry

@[expose] public section

set_option maxRecDepth 16384

noncomputable section

namespace Cert.NormIdeal

open Idealize.ShloMosaic Idealize.ShloMosaic.TcCoe Idealize.SL.Sem Cert.NormIdeal.Gen Cert.NormMath
open Idealize.ShloMosaic.Pipeline (Dat)

theorem hz : (![0, 0] : Fin 2 → Nat) = fun _ => 0 := funext fun a => by fin_cases a <;> rfl

/-- The kernel's load of the one element of a one-element vector. -/
def sc (x : Vec Ideal S1 .f32) : EReal := View.ld x (Rect.unit (s := S1) ![0] S1.size inb_S1_S1_0) (Shape.Idx.first (by decide))

theorem sc_eq (x : Vec Ideal S1 .f32) : sc x = x (ix1 0) := by
  unfold sc
  pointwise

/-- The norm's gradient on a block of rows. -/
def dv (x0 x1 x2 x3 : Vec Ideal S1 .f32) (x4 x5 : Vec Ideal S256x5504 .fp8e5m2) (x6 x7 : Vec Ideal S2048x5504 .fp8e4m3) : FVec Ideal S256x2048 .f32 :=
  k0_pay2 (F := Ideal) x4 x6 (sc x0) (sc x2) x5 x7 (sc x1) (sc x3)

section Body
variable (c : Dev nD) (i : grid0.Coords) (a0 : Memref sig .tc .smem S1 .f32) (h0 : a0.IsWhole) (a1 : Memref sig .tc .smem S1 .f32) (h1 : a1.IsWhole) (a2 : Memref sig .tc .smem S1 .f32) (h2 : a2.IsWhole) (a3 : Memref sig .tc .smem S1 .f32) (h3 : a3.IsWhole) (a4 : Memref sig .tc .vmem S256x5504 .fp8e5m2) (h4 : a4.IsWhole) (a5 : Memref sig .tc .vmem S256x5504 .fp8e5m2) (h5 : a5.IsWhole) (a6 : Memref sig .tc .vmem S2048x5504 .fp8e4m3) (h6 : a6.IsWhole) (a7 : Memref sig .tc .vmem S2048x5504 .fp8e4m3) (h7 : a7.IsWhole) (a8 : Memref sig .tc .vmem S256x2048 .fp8e4m3) (h8 : a8.IsWhole) (a9 : Memref sig .tc .vmem S256x128 .f32) (h9 : a9.IsWhole) (a10 : Memref sig .tc .vmem S1x2048 .f32) (h10 : a10.IsWhole) (a11 : Memref sig .tc .vmem S256x2048 .bf16) (h11 : a11.IsWhole) (a12 : Memref sig .tc .vmem S256x2048 .bf16) (h12 : a12.IsWhole) (a13 : Memref sig .tc .vmem S8x2048 .f32) (h13 : a13.IsWhole)
  (x0 : Vec Ideal S1 .f32) (x1 : Vec Ideal S1 .f32) (x2 : Vec Ideal S1 .f32) (x3 : Vec Ideal S1 .f32) (x4 : Vec Ideal S256x5504 .fp8e5m2) (x5 : Vec Ideal S256x5504 .fp8e5m2) (x6 : Vec Ideal S2048x5504 .fp8e4m3) (x7 : Vec Ideal S2048x5504 .fp8e4m3) (x8 : Vec Ideal S256x2048 .fp8e4m3) (x9 : Vec Ideal S256x128 .f32) (x10 : Vec Ideal S1x2048 .f32) (x11 : Vec Ideal S256x2048 .bf16)

theorem out_A_12 (hc : cond0_0 i) :
    out0_A_12 (F := Ideal) c i a0 h0 a1 h1 a2 h2 a3 h3 a4 h4 a5 h5 a6 h6 a7 h7 a8 h8 a9 h9 a10 h10 a11 h11 a12 h12 a13 h13 hc x0 x1 x2 x3 x4 x5 x6 x7 x8 x9 x10 x11 = k0_pay1 (F := Ideal) (dv x0 x1 x2 x3 x4 x5 x6 x7) (rv (xv x9 x8)) (xtv (xv x9 x8)) x10 x11 := by
  unfold out0_A_12
  rw [View.read_writes_eq_canon _ _ _ (cover0_A_12 c i a0 h0 a1 h1 a2 h2 a3 h3 a4 h4 a5 h5 a6 h6 a7 h7 a8 h8 a9 h9 a10 h10 a11 h11 a12 h12 a13 h13 hc x0 x1 x2 x3 x4 x5 x6 x7 x8 x9 x10 x11)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S256x5504) hz, View.ld_unit_zero (S := S2048x5504) hz, View.ld_unit_zero (S := S256x2048) hz, View.ld_unit_zero (S := S256x128) hz, View.ld_unit_zero (S := S8x2048) hz, View.ld_unit_zero (S := S1x2048) hz]
  rfl

theorem out_A_13 (hc : cond0_0 i) :
    out0_A_13 (F := Ideal) c i a0 h0 a1 h1 a2 h2 a3 h3 a4 h4 a5 h5 a6 h6 a7 h7 a8 h8 a9 h9 a10 h10 a11 h11 a12 h12 a13 h13 hc x0 x1 x2 x3 x4 x5 x6 x7 x8 x9 x10 x11 = acc (dv x0 x1 x2 x3 x4 x5 x6 x7) (xv x9 x8) (k0_pay47 (F := Ideal)) := by
  unfold out0_A_13
  rw [View.read_writes_eq_canon _ _ _ (cover0_A_13 c i a0 h0 a1 h1 a2 h2 a3 h3 a4 h4 a5 h5 a6 h6 a7 h7 a8 h8 a9 h9 a10 h10 a11 h11 a12 h12 a13 h13 hc x0 x1 x2 x3 x4 x5 x6 x7 x8 x9 x10 x11)]
  unfold kernelRun0_A
  dsimp only
  sl_unfold_words
  rw [View.canon_cons_unit_zero (S := S8x2048) hz, View.readCov_unit_zero (S := S8x2048) _ hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S256x5504) hz, View.ld_unit_zero (S := S2048x5504) hz, View.ld_unit_zero (S := S256x2048) hz, View.ld_unit_zero (S := S256x128) hz, View.ld_unit_zero (S := S8x2048) hz, View.ld_unit_zero (S := S1x2048) hz]
  rfl

theorem out_B_12 (hc : ¬cond0_0 i) (xo : Vec Ideal S8x2048 .f32) :
    out0_B_12 (F := Ideal) c i a0 h0 a1 h1 a2 h2 a3 h3 a4 h4 a5 h5 a6 h6 a7 h7 a8 h8 a9 h9 a10 h10 a11 h11 a12 h12 a13 h13 hc x0 x1 x2 x3 x4 x5 x6 x7 x8 x9 x10 x11 xo = k0_pay1 (F := Ideal) (dv x0 x1 x2 x3 x4 x5 x6 x7) (rv (xv x9 x8)) (xtv (xv x9 x8)) x10 x11 := by
  unfold out0_B_12
  rw [View.read_writes_eq_canon _ _ _ (cover0_B_12 c i a0 h0 a1 h1 a2 h2 a3 h3 a4 h4 a5 h5 a6 h6 a7 h7 a8 h8 a9 h9 a10 h10 a11 h11 a12 h12 a13 h13 hc x0 x1 x2 x3 x4 x5 x6 x7 x8 x9 x10 x11 xo)]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S256x5504) hz, View.ld_unit_zero (S := S2048x5504) hz, View.ld_unit_zero (S := S256x2048) hz, View.ld_unit_zero (S := S256x128) hz, View.ld_unit_zero (S := S8x2048) hz, View.ld_unit_zero (S := S1x2048) hz]
  rfl

theorem out_B_13 (hc : ¬cond0_0 i) (xo : Vec Ideal S8x2048 .f32) :
    out0_B_13 (F := Ideal) c i a0 h0 a1 h1 a2 h2 a3 h3 a4 h4 a5 h5 a6 h6 a7 h7 a8 h8 a9 h9 a10 h10 a11 h11 a12 h12 a13 h13 hc x0 x1 x2 x3 x4 x5 x6 x7 x8 x9 x10 x11 xo = acc (dv x0 x1 x2 x3 x4 x5 x6 x7) (xv x9 x8) xo := by
  unfold out0_B_13
  rw [View.read_writes_eq_canon _ _ _ (cover0_B_13 c i a0 h0 a1 h1 a2 h2 a3 h3 a4 h4 a5 h5 a6 h6 a7 h7 a8 h8 a9 h9 a10 h10 a11 h11 a12 h12 a13 h13 hc x0 x1 x2 x3 x4 x5 x6 x7 x8 x9 x10 x11 xo)]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S256x5504) hz, View.ld_unit_zero (S := S2048x5504) hz, View.ld_unit_zero (S := S256x2048) hz, View.ld_unit_zero (S := S256x128) hz, View.ld_unit_zero (S := S8x2048) hz, View.ld_unit_zero (S := S1x2048) hz]
  rfl

end Body

end Cert.NormIdeal
-- ==== Proof.NormBlk.lean ====
/- The blocks of `NormIdeal`. -/
module

public import proofs.«01_k».proof.Proof.NormVal

@[expose] public section

set_option maxRecDepth 16384

noncomputable section

namespace Cert.NormIdeal

open Idealize.ShloMosaic Idealize.ShloMosaic.TcCoe Idealize.SL.Sem Cert.NormIdeal.Gen Cert.NormMath
open Idealize.ShloMosaic.Pipeline (Dat)

/-- The array row of a block's row. -/
def row (t : Fin cfg0.N) (r : Fin 256) : Fin 8192 :=
  ⟨t.val * 256 + r.val, by have h : t.val < 32 := lt_of_lt_of_eq t.isLt N_0; have := r.isLt; omega⟩

variable (m : (ℓ : Loc nD τ sig) → Buf (Elt Ideal) ℓ) (c : Dev nD)

theorem idx_4 : ∀ t : Fin cfg0.N, win0_4.index t = ![t.val, 0] := (by decide +kernel : ∀ t : Fin grid0.N, _)

theorem iblk_4 (t : Fin cfg0.N) (r : Fin 256) (k : Fin 5504) :
    (iblk m c 4 t : Vec Ideal S256x5504 .fp8e5m2) (ix2 r k) = m ((c : Thread nD τ).loc main_arg4) (ix2 (row t r) k) := by
  unfold row
  blk_simp [iblk, idx_4]
  rw [V_main_arg4]
  congr 1
  blk_ext [idx_4]

theorem idx_5 : ∀ t : Fin cfg0.N, win0_5.index t = ![t.val, 0] := (by decide +kernel : ∀ t : Fin grid0.N, _)

theorem iblk_5 (t : Fin cfg0.N) (r : Fin 256) (k : Fin 5504) :
    (iblk m c 5 t : Vec Ideal S256x5504 .fp8e5m2) (ix2 r k) = m ((c : Thread nD τ).loc main_arg5) (ix2 (row t r) k) := by
  unfold row
  blk_simp [iblk, idx_5]
  rw [V_main_arg5]
  congr 1
  blk_ext [idx_5]

theorem idx_8 : ∀ t : Fin cfg0.N, win0_8.index t = ![t.val, 0] := (by decide +kernel : ∀ t : Fin grid0.N, _)

theorem iblk_8 (t : Fin cfg0.N) (r : Fin 256) (k : Fin 2048) :
    (iblk m c 8 t : Vec Ideal S256x2048 .fp8e4m3) (ix2 r k) = m ((c : Thread nD τ).loc main_arg8) (ix2 (row t r) k) := by
  unfold row
  blk_simp [iblk, idx_8]
  rw [V_main_arg8]
  congr 1
  blk_ext [idx_8]

theorem idx_9 : ∀ t : Fin cfg0.N, win0_9.index t = ![t.val, 0] := (by decide +kernel : ∀ t : Fin grid0.N, _)

theorem iblk_9 (t : Fin cfg0.N) (r : Fin 256) (k : Fin 128) :
    (iblk m c 9 t : Vec Ideal S256x128 .f32) (ix2 r k) = m ((c : Thread nD τ).loc main_arg9) (ix2 (row t r) k) := by
  unfold row
  blk_simp [iblk, idx_9]
  rw [V_main_arg9]
  congr 1
  blk_ext [idx_9]

theorem idx_11 : ∀ t : Fin cfg0.N, win0_11.index t = ![t.val, 0] := (by decide +kernel : ∀ t : Fin grid0.N, _)

theorem iblk_11 (t : Fin cfg0.N) (r : Fin 256) (k : Fin 2048) :
    (iblk m c 11 t : Vec Ideal S256x2048 .bf16) (ix2 r k) = m ((c : Thread nD τ).loc main_arg11) (ix2 (row t r) k) := by
  unfold row
  blk_simp [iblk, idx_11]
  rw [V_main_arg11]
  congr 1
  blk_ext [idx_11]

theorem idx_0 : ∀ t : Fin cfg0.N, win0_0.index t = ![0] := (by decide +kernel : ∀ t : Fin grid0.N, _)

theorem iblk_0 (t : Fin cfg0.N) : (iblk m c 0 t : Vec Ideal S1 .f32) = m ((c : Thread nD τ).loc main_arg0) := by
  funext i
  blk_simp [iblk, idx_0]
  rw [V_main_arg0]
  congr 1
  blk_ext [idx_0]

theorem idx_1 : ∀ t : Fin cfg0.N, win0_1.index t = ![0] := (by decide +kernel : ∀ t : Fin grid0.N, _)

theorem iblk_1 (t : Fin cfg0.N) : (iblk m c 1 t : Vec Ideal S1 .f32) = m ((c : Thread nD τ).loc main_arg1) := by
  funext i
  blk_simp [iblk, idx_1]
  rw [V_main_arg1]
  congr 1
  blk_ext [idx_1]

theorem idx_2 : ∀ t : Fin cfg0.N, win0_2.index t = ![0] := (by decide +kernel : ∀ t : Fin grid0.N, _)

theorem iblk_2 (t : Fin cfg0.N) : (iblk m c 2 t : Vec Ideal S1 .f32) = m ((c : Thread nD τ).loc main_arg2) := by
  funext i
  blk_simp [iblk, idx_2]
  rw [V_main_arg2]
  congr 1
  blk_ext [idx_2]

theorem idx_3 : ∀ t : Fin cfg0.N, win0_3.index t = ![0] := (by decide +kernel : ∀ t : Fin grid0.N, _)

theorem iblk_3 (t : Fin cfg0.N) : (iblk m c 3 t : Vec Ideal S1 .f32) = m ((c : Thread nD τ).loc main_arg3) := by
  funext i
  blk_simp [iblk, idx_3]
  rw [V_main_arg3]
  congr 1
  blk_ext [idx_3]

theorem idx_6 : ∀ t : Fin cfg0.N, win0_6.index t = ![0, 0] := (by decide +kernel : ∀ t : Fin grid0.N, _)

theorem iblk_6 (t : Fin cfg0.N) : (iblk m c 6 t : Vec Ideal S2048x5504 .fp8e4m3) = m ((c : Thread nD τ).loc main_arg6) := by
  funext i
  blk_simp [iblk, idx_6]
  rw [V_main_arg6]
  congr 1
  blk_ext [idx_6]

theorem idx_7 : ∀ t : Fin cfg0.N, win0_7.index t = ![0, 0] := (by decide +kernel : ∀ t : Fin grid0.N, _)

theorem iblk_7 (t : Fin cfg0.N) : (iblk m c 7 t : Vec Ideal S2048x5504 .fp8e4m3) = m ((c : Thread nD τ).loc main_arg7) := by
  funext i
  blk_simp [iblk, idx_7]
  rw [V_main_arg7]
  congr 1
  blk_ext [idx_7]

theorem idx_10 : ∀ t : Fin cfg0.N, win0_10.index t = ![0, 0] := (by decide +kernel : ∀ t : Fin grid0.N, _)

theorem iblk_10 (t : Fin cfg0.N) : (iblk m c 10 t : Vec Ideal S1x2048 .f32) = m ((c : Thread nD τ).loc main_arg10) := by
  funext i
  blk_simp [iblk, idx_10]
  rw [V_main_arg10]
  congr 1
  blk_ext [idx_10]

end Cert.NormIdeal
-- ==== Proof.NormOuts.lean ====
/- What `NormIdeal` leaves in its result arrays, as functions of its arguments. -/
module

public import proofs.«01_k».proof.Proof.NormBlk

@[expose] public section

set_option maxRecDepth 16384

noncomputable section

namespace Cert.NormIdeal

open Idealize.ShloMosaic Idealize.ShloMosaic.TcCoe Idealize.SL.Sem Cert.NormIdeal.Gen Cert.NormMath
open Idealize.ShloMosaic.Pipeline (Dat)

variable (m : (ℓ : Loc nD τ sig) → Buf (Elt Ideal) ℓ) (c : Dev nD)

/-- The norm's gradient, from the program's arguments. -/
def dnM : Fin 8192 → Fin 2048 → EReal :=
  dnA (m ((c : Thread nD τ).loc main_arg0) (ix1 0)) (m ((c : Thread nD τ).loc main_arg2) (ix1 0))
    (m ((c : Thread nD τ).loc main_arg1) (ix1 0)) (m ((c : Thread nD τ).loc main_arg3) (ix1 0))
    (fun r f => m ((c : Thread nD τ).loc main_arg4) (ix2 r f)) (fun r f => m ((c : Thread nD τ).loc main_arg5) (ix2 r f))
    (fun k f => m ((c : Thread nD τ).loc main_arg6) (ix2 k f)) (fun k f => m ((c : Thread nD τ).loc main_arg7) (ix2 k f))

/-- The input, from the program's arguments. -/
def xM (r : Fin 8192) : Fin 2048 → EReal :=
  xr (fun k => m ((c : Thread nD τ).loc main_arg8) (ix2 r k)) (fun k => m ((c : Thread nD τ).loc main_arg9) (ix2 r k))

/-- The first result. -/
def dxM (r : Fin 8192) (k : Fin 2048) : EReal :=
  dx (dnM m c r) (xM m c r) (fun k => m ((c : Thread nD τ).loc main_arg10) (ix2 0 k))
    (fun k => m ((c : Thread nD τ).loc main_arg11) (ix2 r k)) k

/-- A row's term of the second result. -/
def dgM (r : Fin 8192) (k : Fin 2048) : EReal := dnM m c r k * xt (xM m c r) k

/-- … at any number, nothing past the last row. -/
def dgN (k : Fin 2048) (n : ℕ) : EReal := if h : n < 8192 then dgM m c ⟨n, h⟩ k else 0

/-- The norm's gradient on the block of point `t`. -/
def dB (t : Fin cfg0.N) : FVec Ideal S256x2048 .f32 :=
  dv (iblk m c 0 t) (iblk m c 1 t) (iblk m c 2 t) (iblk m c 3 t) (iblk m c 4 t) (iblk m c 5 t) (iblk m c 6 t) (iblk m c 7 t)

/-- The input on the block of point `t`. -/
def xB (t : Fin cfg0.N) : FVec Ideal S256x2048 .f32 := xv (iblk m c 9 t) (iblk m c 8 t)

theorem dB_apply (t : Fin cfg0.N) (r : Fin 256) (k : Fin 2048) : dB m c t (ix2 r k) = dnM m c (row t r) k := by
  unfold dB dv dnM dnA
  rw [pay2_apply]
  simp only [sc_eq, iblk_0, iblk_1, iblk_2, iblk_3, iblk_4, iblk_5, iblk_6, iblk_7]

theorem xB_apply (t : Fin cfg0.N) (r : Fin 256) (k : Fin 2048) : xB m c t (ix2 r k) = xM m c (row t r) k := by
  unfold xB xM
  rw [xv_apply]
  simp only [iblk_8, iblk_9]

/-- The block of the first result at point `t`. -/
def oB (t : Fin cfg0.N) : FVec Ideal S256x2048 .bf16 :=
  k0_pay1 (F := Ideal) (dB m c t) (rv (xB m c t)) (xtv (xB m c t)) (iblk m c 10 t) (iblk m c 11 t)

theorem oB_apply (t : Fin cfg0.N) (r : Fin 256) (k : Fin 2048) : oB m c t (ix2 r k) = dxM m c (row t r) k := by
  unfold oB dxM
  rw [pay1_apply]
  simp only [dB_apply, xB_apply, iblk_10, iblk_11]

theorem outs_12 (t : Fin cfg0.N) : (outsAt0 m c t.val t.isLt).1 = oB m c t := by
  by_cases h0 : t.val % 32 = 0
  · rw [outsAt0_A m c t h0]
    dsimp only
    unfold oB dB xB
    rw [out_A_12]
  · rw [outsAt0_B m c t h0]
    dsimp only
    unfold oB dB xB
    rw [out_B_12]

theorem accB_apply (t : Fin cfg0.N) (old : Vec Ideal S8x2048 .f32) (s : Fin 8) (k : Fin 2048) :
    acc (dB m c t) (xB m c t) old (ix2 s k)
      = old (ix2 s k) + ∑ j : Fin 32, dgN m c k (t.val * 256 + (j.val * 8 + s.val)) := by
  rw [acc_apply]
  congr 1
  refine Finset.sum_congr rfl fun j _ => ?_
  have ht : t.val < 32 := lt_of_lt_of_eq t.isLt N_0
  have hj := j.isLt
  have hs := s.isLt
  unfold dgN
  rw [dif_pos (by omega), dB_apply]
  simp only [xB_apply]
  rfl

theorem outs_13 (s : Fin 8) (k : Fin 2048) : ∀ (n : ℕ) (hn : n < cfg0.N),
    (outsAt0 m c n hn).2 (ix2 s k)
      = ∑ u ∈ Finset.range (n + 1), ∑ j : Fin 32, dgN m c k (u * 256 + (j.val * 8 + s.val)) := by
  intro n
  induction n with
  | zero =>
    intro hn
    rw [outsAt0_A m c ⟨0, hn⟩ rfl]
    dsimp only
    rw [out_A_13]
    refine (accB_apply m c ⟨0, hn⟩ _ s k).trans ?_
    rw [Finset.sum_range_one, show (k0_pay47 (F := Ideal)) (ix2 s k) = 0 from by pointwise [k0_pay47], zero_add]
  | succ n ih =>
    intro hn
    have h32 : n + 1 < 32 := lt_of_lt_of_eq hn N_0
    rw [outsAt0_B m c ⟨n + 1, hn⟩ (by show ¬ (n + 1) % 32 = 0; omega)]
    dsimp only
    rw [out_B_13]
    refine (accB_apply m c ⟨n + 1, hn⟩ _ s k).trans ?_
    rw [Finset.sum_range_succ]
    congr 1
    exact ih _

/-- The first result's array. -/
def G12 : Vec Ideal S8192x2048 .bf16 := fun i => dxM m c (i 0) (i 1)

theorem idx_12 : ∀ t : Fin cfg0.N, win0_12.index t = ![t.val, 0] := (by decide +kernel : ∀ t : Fin grid0.N, _)

end Cert.NormIdeal
-- ==== Proof.NormFin.lean ====
/- The result arrays of `NormIdeal`. -/
module

public import proofs.«01_k».proof.Proof.NormOuts

@[expose] public section

set_option maxRecDepth 16384

noncomputable section

namespace Cert.NormIdeal

open Idealize.ShloMosaic Idealize.ShloMosaic.TcCoe Idealize.SL.Sem Cert.NormIdeal.Gen Cert.NormMath
open Idealize.ShloMosaic.Pipeline (Dat)

variable (m : (ℓ : Loc nD τ sig) → Buf (Elt Ideal) ℓ) (c : Dev nD)

theorem emb_12 (t : Fin cfg0.N) (r : Fin 256) (k : Fin 2048) :
    ((win0_12.blk t).view.emb (ix2 r k) : S8192x2048.Idx) = ix2 (row t r) k := by
  unfold row
  blk_ext [idx_12]

theorem covers_12 : win0_12.Covers := by decide +kernel

theorem final_12 : (dats m 0 c).arrAt 12 cfg0.N = G12 m c := by
  refine (dats m 0 c).arrAt_eq_of_covers 12 (G12 m c) covers_12 fun t hf y => ?_
  rw [after0_12, outs_12]
  have hy : y = (ix2 (n0 := 256) (n1 := 2048) (y 0) (y 1) : S256x2048.Idx) := eq_ix2 (n0 := 256) (n1 := 2048) y
  generalize (y 0 : Fin 256) = r, (y 1 : Fin 2048) = k at hy
  subst hy
  have e := congrArg (G12 m c) (emb_12 t r k)
  exact (oB_apply m c t r k).trans e.symm

theorem whole_13 : ∀ t : Fin cfg0.N, t.val = 31 → win0_13.WholeAt t := (by decide +kernel : ∀ t : Fin grid0.N, t.val = 31 → win0_13.WholeAt t)

theorem final_13 (s : Fin 8) (k : Fin 2048) :
    ((dats m 0 c).arrAt 13 cfg0.N : Vec Ideal S8x2048 .f32) (ix2 s k)
      = ∑ u ∈ Finset.range 32, ∑ j : Fin 32, dgN m c k (u * 256 + (j.val * 8 + s.val)) := by
  have h31 : 31 < cfg0.N := lt_of_lt_of_eq (by decide) N_0.symm
  refine ((dats m 0 c).arrAt_emb_eq_after_last 13 ⟨31, h31⟩ (whole_13 _ rfl) (ix2 s k)).trans ?_
  rw [after0_13]
  exact outs_13 m c s k 31 h31

theorem sum_dgN (k : Fin 2048) : ∑ r : Fin 8192, dgN m c k r.val = ∑ r : Fin 8192, dgM m c r k :=
  Finset.sum_congr rfl fun r _ => by unfold dgN; rw [dif_pos r.isLt]

/-- The second result's array. -/
def G1 : Vec Ideal S2048 .f32 := fun i => ∑ r : Fin 8192, dgM m c r (i 0)

theorem final_v1 : Pipeline.afterTail₀ cfgs (dats m) 0 (V0 m) [hostOps1] c main_v1 = G1 m c := by
  unfold Pipeline.afterTail₀
  dsimp only [List.flatten, List.append]
  after_results
  have e : Pipeline.withArrays (cfgs 0).spec c (V0 m c) (fun w => (dats m 0 c).arrAt w (cfgs 0).N) (Proc.tc.devRef main_v0_1)
      = (dats m 0 c).arrAt 13 cfg0.N :=
    Pipeline.withArrays_arr spec0 (by decide) c (V0 m c) (fun w => (dats m 0 c).arrAt w (cfgs 0).N) 13
  rw [e]
  refine funext fun i => ?_
  obtain ⟨k, rfl⟩ : ∃ k : Fin 2048, i = ix1 k := ⟨i 0, eq_ix1 i⟩
  have e2 : ∀ A : Vec Ideal S8x2048 .f32,
      Host.reduceAdd A (constant (F := Ideal) S_ FTy.f32 0#32) reducesTo_S8x2048_S2048_d0 h_S_ (ix1 k) = ∑ s : Fin 8, A (ix2 s k) := by
    intro A
    pointwise
  refine (e2 _).trans ?_
  simp only [final_13]
  rw [sum_rows (dgN m c k)]
  exact sum_dgN m c k

theorem run (ρ : Dev nD → PrngReg) : θ_run defs (onTc (τ := τ) (main (F := Ideal))) ⟨m, fun _ => 0, ρ⟩ (fun r => ∀ c : Dev nD,
    r.2.mem ((c.tc : Thread nD τ).loc main_v0_0) = G12 m c ∧ r.2.mem ((c.tc : Thread nD τ).loc main_v1) = G1 m c) := by
  run_from run_main m ρ
  · exact final_12 m c
  · exact final_v1 m c

end Cert.NormIdeal
-- ==== Proof.NormRefVal.lean ====
/- What the reference `NormRefIdeal` leaves in its two result arrays, as functions of its arguments. -/
module

public import proofs.«01_k».proof.Proof.NormRef
public import proofs.«01_k».proof.Proof.NormFin
public import proofs.«01_k».proof.Proof.Gen.NormRefIdeal.Value
public import Idealize.ShloMosaic.Lib.Pipeline.ValueKit.Geometry

@[expose] public section

set_option maxRecDepth 16384

noncomputable section

namespace Cert.NormRefIdeal

open Idealize.ShloMosaic Idealize.ShloMosaic.TcCoe Idealize.SL.Sem Cert.NormRefIdeal.Gen Cert.NormMath
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a <;> rfl

/-- The load of the one element of a one-element vector. -/
def sc (x : Vec Ideal S1 .f32) : EReal := View.ld x (Rect.unit (s := S1) ![0] S1.size inb_S1_S1_0) (Shape.Idx.first (by decide))

theorem sc_eq (x : Vec Ideal S1 .f32) : sc x = x (ix1 0) := by
  unfold sc
  pointwise

/-- The norm's gradient. -/
def dv (x0 x1 x2 x3 : Vec Ideal S1 .f32) (x4 x5 : Vec Ideal S8192x5504 .fp8e5m2) (x6 x7 : Vec Ideal S2048x5504 .fp8e4m3) : FVec Ideal S8192x2048 .f32 :=
  k0_pay4 (F := Ideal) x4 x6 (sc x0) (sc x2) x5 x7 (sc x1) (sc x3)

section Body
variable (c : Dev nD) (a0 : Memref sig .tc .smem S1 .f32) (h0 : a0.IsWhole) (a1 : Memref sig .tc .smem S1 .f32) (h1 : a1.IsWhole) (a2 : Memref sig .tc .smem S1 .f32) (h2 : a2.IsWhole) (a3 : Memref sig .tc .smem S1 .f32) (h3 : a3.IsWhole) (a4 : Memref sig .tc .vmem S8192x5504 .fp8e5m2) (h4 : a4.IsWhole) (a5 : Memref sig .tc .vmem S8192x5504 .fp8e5m2) (h5 : a5.IsWhole) (a6 : Memref sig .tc .vmem S2048x5504 .fp8e4m3) (h6 : a6.IsWhole) (a7 : Memref sig .tc .vmem S2048x5504 .fp8e4m3) (h7 : a7.IsWhole) (a8 : Memref sig .tc .vmem S8192x2048 .fp8e4m3) (h8 : a8.IsWhole) (a9 : Memref sig .tc .vmem S8192x128 .f32) (h9 : a9.IsWhole) (a10 : Memref sig .tc .vmem S1x2048 .f32) (h10 : a10.IsWhole) (a11 : Memref sig .tc .vmem S8192x2048 .bf16) (h11 : a11.IsWhole) (a12 : Memref sig .tc .vmem S8192x2048 .bf16) (h12 : a12.IsWhole) (a13 : Memref sig .tc .vmem S2048 .f32) (h13 : a13.IsWhole)
  (x0 : Vec Ideal S1 .f32) (x1 : Vec Ideal S1 .f32) (x2 : Vec Ideal S1 .f32) (x3 : Vec Ideal S1 .f32) (x4 : Vec Ideal S8192x5504 .fp8e5m2) (x5 : Vec Ideal S8192x5504 .fp8e5m2) (x6 : Vec Ideal S2048x5504 .fp8e4m3) (x7 : Vec Ideal S2048x5504 .fp8e4m3) (x8 : Vec Ideal S8192x2048 .fp8e4m3) (x9 : Vec Ideal S8192x128 .f32) (x10 : Vec Ideal S1x2048 .f32) (x11 : Vec Ideal S8192x2048 .bf16)

theorem out_12 : out0_A_12 (F := Ideal) c a0 h0 a1 h1 a2 h2 a3 h3 a4 h4 a5 h5 a6 h6 a7 h7 a8 h8 a9 h9 a10 h10 a11 h11 a12 h12 a13 h13 x0 x1 x2 x3 x4 x5 x6 x7 x8 x9 x10 x11 = k0_pay3 (F := Ideal) (dv x0 x1 x2 x3 x4 x5 x6 x7) (k0_pay5 x8 x9) (k0_pay6 x8 x9) (k0_pay7 x8 x9) x10 x11 := by
  unfold out0_A_12
  rw [View.read_writes_eq_canon _ _ _ (cover0_A_12 c a0 h0 a1 h1 a2 h2 a3 h3 a4 h4 a5 h5 a6 h6 a7 h7 a8 h8 a9 h9 a10 h10 a11 h11 a12 h12 a13 h13 x0 x1 x2 x3 x4 x5 x6 x7 x8 x9 x10 x11)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S8192x5504) hz, View.ld_unit_zero (S := S2048x5504) hz, View.ld_unit_zero (S := S8192x2048) hz, View.ld_unit_zero (S := S8192x128) hz, View.ld_unit_zero (S := S1x2048) hz]
  rfl

theorem out_13 : out0_A_13 (F := Ideal) c a0 h0 a1 h1 a2 h2 a3 h3 a4 h4 a5 h5 a6 h6 a7 h7 a8 h8 a9 h9 a10 h10 a11 h11 a12 h12 a13 h13 x0 x1 x2 x3 x4 x5 x6 x7 x8 x9 x10 x11 = k0_pay2 (F := Ideal) (dv x0 x1 x2 x3 x4 x5 x6 x7) (k0_pay5 x8 x9) (k0_pay7 x8 x9) := by
  unfold out0_A_13
  rw [View.read_writes_eq_canon _ _ _ (cover0_A_13 c a0 h0 a1 h1 a2 h2 a3 h3 a4 h4 a5 h5 a6 h6 a7 h7 a8 h8 a9 h9 a10 h10 a11 h11 a12 h12 a13 h13 x0 x1 x2 x3 x4 x5 x6 x7 x8 x9 x10 x11)]
  unfold kernelRun0_A
  dsimp only
  sl_unfold_words
  rw [View.canon_unit_zero hz1]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S8192x5504) hz, View.ld_unit_zero (S := S2048x5504) hz, View.ld_unit_zero (S := S8192x2048) hz, View.ld_unit_zero (S := S8192x128) hz, View.ld_unit_zero (S := S1x2048) hz]
  rfl

end Body

variable (m : (ℓ : Loc nD τ sig) → Buf (Elt Ideal) ℓ) (c : Dev nD)

theorem idx_0 : ∀ t : Fin cfg0.N, win0_0.index t = ![0] := (by decide +kernel : ∀ t : Fin grid0.N, _)

theorem iblk_0 (t : Fin cfg0.N) : (iblk m c 0 t : Vec Ideal S1 .f32) = m ((c : Thread nD τ).loc main_arg0) := by
  funext i
  blk_simp [iblk, idx_0]
  rw [V_main_arg0]
  congr 1
  blk_ext [idx_0]

theorem idx_1 : ∀ t : Fin cfg0.N, win0_1.index t = ![0] := (by decide +kernel : ∀ t : Fin grid0.N, _)

theorem iblk_1 (t : Fin cfg0.N) : (iblk m c 1 t : Vec Ideal S1 .f32) = m ((c : Thread nD τ).loc main_arg1) := by
  funext i
  blk_simp [iblk, idx_1]
  rw [V_main_arg1]
  congr 1
  blk_ext [idx_1]

theorem idx_2 : ∀ t : Fin cfg0.N, win0_2.index t = ![0] := (by decide +kernel : ∀ t : Fin grid0.N, _)

theorem iblk_2 (t : Fin cfg0.N) : (iblk m c 2 t : Vec Ideal S1 .f32) = m ((c : Thread nD τ).loc main_arg2) := by
  funext i
  blk_simp [iblk, idx_2]
  rw [V_main_arg2]
  congr 1
  blk_ext [idx_2]

theorem idx_3 : ∀ t : Fin cfg0.N, win0_3.index t = ![0] := (by decide +kernel : ∀ t : Fin grid0.N, _)

theorem iblk_3 (t : Fin cfg0.N) : (iblk m c 3 t : Vec Ideal S1 .f32) = m ((c : Thread nD τ).loc main_arg3) := by
  funext i
  blk_simp [iblk, idx_3]
  rw [V_main_arg3]
  congr 1
  blk_ext [idx_3]

theorem idx_4 : ∀ t : Fin cfg0.N, win0_4.index t = ![0, 0] := (by decide +kernel : ∀ t : Fin grid0.N, _)

theorem iblk_4 (t : Fin cfg0.N) : (iblk m c 4 t : Vec Ideal S8192x5504 .fp8e5m2) = m ((c : Thread nD τ).loc main_arg4) := by
  funext i
  blk_simp [iblk, idx_4]
  rw [V_main_arg4]
  congr 1
  blk_ext [idx_4]

theorem idx_5 : ∀ t : Fin cfg0.N, win0_5.index t = ![0, 0] := (by decide +kernel : ∀ t : Fin grid0.N, _)

theorem iblk_5 (t : Fin cfg0.N) : (iblk m c 5 t : Vec Ideal S8192x5504 .fp8e5m2) = m ((c : Thread nD τ).loc main_arg5) := by
  funext i
  blk_simp [iblk, idx_5]
  rw [V_main_arg5]
  congr 1
  blk_ext [idx_5]

theorem idx_6 : ∀ t : Fin cfg0.N, win0_6.index t = ![0, 0] := (by decide +kernel : ∀ t : Fin grid0.N, _)

theorem iblk_6 (t : Fin cfg0.N) : (iblk m c 6 t : Vec Ideal S2048x5504 .fp8e4m3) = m ((c : Thread nD τ).loc main_arg6) := by
  funext i
  blk_simp [iblk, idx_6]
  rw [V_main_arg6]
  congr 1
  blk_ext [idx_6]

theorem idx_7 : ∀ t : Fin cfg0.N, win0_7.index t = ![0, 0] := (by decide +kernel : ∀ t : Fin grid0.N, _)

theorem iblk_7 (t : Fin cfg0.N) : (iblk m c 7 t : Vec Ideal S2048x5504 .fp8e4m3) = m ((c : Thread nD τ).loc main_arg7) := by
  funext i
  blk_simp [iblk, idx_7]
  rw [V_main_arg7]
  congr 1
  blk_ext [idx_7]

theorem idx_8 : ∀ t : Fin cfg0.N, win0_8.index t = ![0, 0] := (by decide +kernel : ∀ t : Fin grid0.N, _)

theorem iblk_8 (t : Fin cfg0.N) : (iblk m c 8 t : Vec Ideal S8192x2048 .fp8e4m3) = m ((c : Thread nD τ).loc main_arg8) := by
  funext i
  blk_simp [iblk, idx_8]
  rw [V_main_arg8]
  congr 1
  blk_ext [idx_8]

theorem idx_9 : ∀ t : Fin cfg0.N, win0_9.index t = ![0, 0] := (by decide +kernel : ∀ t : Fin grid0.N, _)

theorem iblk_9 (t : Fin cfg0.N) : (iblk m c 9 t : Vec Ideal S8192x128 .f32) = m ((c : Thread nD τ).loc main_arg9) := by
  funext i
  blk_simp [iblk, idx_9]
  rw [V_main_arg9]
  congr 1
  blk_ext [idx_9]

theorem idx_10 : ∀ t : Fin cfg0.N, win0_10.index t = ![0, 0] := (by decide +kernel : ∀ t : Fin grid0.N, _)

theorem iblk_10 (t : Fin cfg0.N) : (iblk m c 10 t : Vec Ideal S1x2048 .f32) = m ((c : Thread nD τ).loc main_arg10) := by
  funext i
  blk_simp [iblk, idx_10]
  rw [V_main_arg10]
  congr 1
  blk_ext [idx_10]

theorem idx_11 : ∀ t : Fin cfg0.N, win0_11.index t = ![0, 0] := (by decide +kernel : ∀ t : Fin grid0.N, _)

theorem iblk_11 (t : Fin cfg0.N) : (iblk m c 11 t : Vec Ideal S8192x2048 .bf16) = m ((c : Thread nD τ).loc main_arg11) := by
  funext i
  blk_simp [iblk, idx_11]
  rw [V_main_arg11]
  congr 1
  blk_ext [idx_11]

/-- The norm's gradient, from the program's arguments. -/
def dnM : Fin 8192 → Fin 2048 → EReal :=
  dnA (m ((c : Thread nD τ).loc main_arg0) (ix1 0)) (m ((c : Thread nD τ).loc main_arg2) (ix1 0))
    (m ((c : Thread nD τ).loc main_arg1) (ix1 0)) (m ((c : Thread nD τ).loc main_arg3) (ix1 0))
    (fun r f => m ((c : Thread nD τ).loc main_arg4) (ix2 r f)) (fun r f => m ((c : Thread nD τ).loc main_arg5) (ix2 r f))
    (fun k f => m ((c : Thread nD τ).loc main_arg6) (ix2 k f)) (fun k f => m ((c : Thread nD τ).loc main_arg7) (ix2 k f))

/-- The input, from the program's arguments. -/
def xM (r : Fin 8192) : Fin 2048 → EReal :=
  xr (fun k => m ((c : Thread nD τ).loc main_arg8) (ix2 r k)) (fun k => m ((c : Thread nD τ).loc main_arg9) (ix2 r k))

/-- The first result. -/
def dxM (r : Fin 8192) (k : Fin 2048) : EReal :=
  dx (dnM m c r) (xM m c r) (fun k => m ((c : Thread nD τ).loc main_arg10) (ix2 0 k))
    (fun k => m ((c : Thread nD τ).loc main_arg11) (ix2 r k)) k

/-- A row's term of the second result. -/
def dgM (r : Fin 8192) (k : Fin 2048) : EReal := dnM m c r k * xt (xM m c r) k

/-- The first result's array. -/
def G12 : Vec Ideal S8192x2048 .bf16 := fun i => dxM m c (i 0) (i 1)

/-- The second result's array. -/
def G13 : Vec Ideal S2048 .f32 := fun i => ∑ r : Fin 8192, dgM m c r (i 0)

theorem dv_apply (t : Fin cfg0.N) (r : Fin 8192) (k : Fin 2048) :
    dv (iblk m c 0 t) (iblk m c 1 t) (iblk m c 2 t) (iblk m c 3 t) (iblk m c 4 t) (iblk m c 5 t) (iblk m c 6 t) (iblk m c 7 t) (ix2 r k)
      = dnM m c r k := by
  unfold dv dnM dnA
  rw [pay4_apply]
  simp only [sc_eq, iblk_0, iblk_1, iblk_2, iblk_3, iblk_4, iblk_5, iblk_6, iblk_7]

theorem pay5_iblk (t : Fin cfg0.N) (r : Fin 8192) (k : Fin 2048) :
    k0_pay5 (F := Ideal) (iblk m c 8 t) (iblk m c 9 t) (ix2 r k) = xM m c r k := by
  unfold xM
  rw [pay5_apply]
  simp only [iblk_8, iblk_9]

theorem outs_12 (t : Fin cfg0.N) : (outsAt0 m c t).1 = G12 m c := by
  unfold outsAt0
  dsimp only
  rw [out_12]
  funext i
  obtain ⟨r, k, rfl⟩ : ∃ (r : Fin 8192) (k : Fin 2048), i = ix2 r k := ⟨i 0, i 1, eq_ix2 i⟩
  rw [pay3_apply _ _ _ _ _ _ r k (pay6_apply _ _ r 0) (fun k => (pay7_apply _ _ r k).trans (pay6_apply _ _ r 0))]
  simp only [dv_apply, pay5_iblk, iblk_10, iblk_11]
  rfl

theorem outs_13 (t : Fin cfg0.N) : (outsAt0 m c t).2 = G13 m c := by
  unfold outsAt0
  dsimp only
  rw [out_13]
  funext i
  obtain ⟨k, rfl⟩ : ∃ k : Fin 2048, i = ix1 k := ⟨i 0, eq_ix1 i⟩
  rw [pay2_apply]
  refine Finset.sum_congr rfl fun r _ => ?_
  rw [pay7_apply, pay6_apply, dv_apply]
  simp only [pay5_iblk]
  rfl

theorem whole_12 : ∀ t : Fin cfg0.N, win0_12.WholeAt t := (by decide +kernel : ∀ t : Fin grid0.N, win0_12.WholeAt t)
theorem whole_13 : ∀ t : Fin cfg0.N, win0_13.WholeAt t := (by decide +kernel : ∀ t : Fin grid0.N, win0_13.WholeAt t)

/-- The one point of the grid. -/
def pt : Fin cfg0.N := ⟨0, by decide⟩

theorem final_12 : (dats m 0 c).arrAt 12 cfg0.N = G12 m c := by
  funext i
  refine ((dats m 0 c).arrAt_emb_eq_after_last 12 pt (whole_12 _) i).trans ?_
  rw [after0_12, outs_12]
  rfl

theorem final_13 : (dats m 0 c).arrAt 13 cfg0.N = G13 m c := by
  funext i
  refine ((dats m 0 c).arrAt_emb_eq_after_last 13 pt (whole_13 _) i).trans ?_
  rw [after0_13, outs_13]
  rfl

theorem run (ρ : Dev nD → PrngReg) : θ_run defs (onTc (τ := τ) (main (F := Ideal))) ⟨m, fun _ => 0, ρ⟩ (fun r => ∀ c : Dev nD,
    r.2.mem ((c.tc : Thread nD τ).loc main_v0_0) = G12 m c ∧ r.2.mem ((c.tc : Thread nD τ).loc main_v0_1) = G13 m c) :=
  (θ_run defs _ _).mono (fun _ h c => ⟨(h c).1.trans (final_12 m c), (h c).2.1.trans (final_13 m c)⟩) (Cert.NormRefIdeal.Value.run_blocks m ρ)

end Cert.NormRefIdeal
-- ==== Proof.NormEq.lean ====
/- `norm_bwd` and its reference compute the same two arrays. -/
module

public import proofs.«01_k».proof.Defs
public import proofs.«01_k».proof.Proof.NormFin
public import proofs.«01_k».proof.Proof.NormRefVal

@[expose] public section

set_option maxRecDepth 16384

noncomputable section

namespace Cert.NormEq

open Idealize.ShloMosaic Idealize.ShloMosaic.TcCoe Idealize.SL.Sem

theorem algebraic : Cert.algebraic_NormIdeal_NormRefIdeal (hNormIdeal := Cert.NormIdeal.Gen.facts) (hNormRefIdeal := Cert.NormRefIdeal.Gen.facts) := by
  pair_intro
  · run_from Cert.NormIdeal.run m g & Cert.NormIdeal.Gen.unchanged m g
  · run_from Cert.NormRefIdeal.run m' g' & Cert.NormRefIdeal.Gen.unchanged m' g'
    · obtain ⟨a0, a1, a2, a3, a4, a5, a6, a7, a8, a9, a10, a11⟩ := hagree c
      unfold NormRefIdeal.G12 NormRefIdeal.dxM NormRefIdeal.dnM NormRefIdeal.xM
      rw [a0, a1, a2, a3, a4, a5, a6, a7, a8, a9, a10, a11]
      rfl
    · obtain ⟨a0, a1, a2, a3, a4, a5, a6, a7, a8, a9, a10, a11⟩ := hagree c
      unfold NormRefIdeal.G13 NormRefIdeal.dgM NormRefIdeal.dnM NormRefIdeal.xM
      rw [a0, a1, a2, a3, a4, a5, a6, a7]
      simp only [a8, a9]
      rfl

end Cert.NormEq

end
-- ==== Proof.WgradStep.lean ====
/- One grid step of the weight-gradient kernel `Wgrad`: what its body leaves in each staging buffer and scratch. -/
module

public import proofs.«01_k».proof.Proof.Gen.Wgrad.Frame
public import proofs.«01_k».proof.Proof.Gen.Wgrad.Skeleton
public import Idealize.ShloMosaic.Lib.VecWindow
public import Idealize.ShloMosaic.Lib.Exec

@[expose] public section

set_option maxRecDepth 16384

noncomputable section

namespace Cert.Wgrad

open Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The step is the first of its row of the grid. -/
abbrev isFirst (i : grid0.Coords) : Prop := (Scalar.cmpi .ne (Scalar.extui (Scalar.cmpi .eq (BitVec.ofNat 32 (i 1).val) 0#32)) 0#32) = 1#1
/-- The step is the last of its row of the grid. -/
abbrev isLast (i : grid0.Coords) : Prop := k0_cond2 i = 1#1

/-- The kernel's load of the one element of a one-element vector. -/
def sc (x : Vec F S1 .f32) : F .f32 := View.ld x (Rect.unit (s := S1) ![0] S1.size inb_S1_S1_0) (Shape.Idx.first (by decide))

/-- The rows of the normalised activations that the step multiplies by. -/
def nblk (i : grid0.Coords) (x3 : Vec F S8192x2048 .fp8e4m3) : Vec F S1024x2048 .fp8e4m3 :=
  View.ld x3 (Rect.unit (s := S8192x2048) (k0_off1 i) S1024x2048.size (k0_off1_inb i))

open Classical in
/-- The first accumulator after the step. -/
def newG (i : grid0.Coords) (x0 : Vec F S1 .f32) (x3 : Vec F S8192x2048 .fp8e4m3) (x4 : Vec F S1024x512 .f32) (s0 : Vec F S2048x512 .f32) : Vec F S2048x512 .f32 :=
  k0_pay8 x4 (sc x0) (nblk i x3) (if isFirst i then k0_pay4 (F := F) else s0)

open Classical in
/-- The second accumulator after the step. -/
def newU (i : grid0.Coords) (x1 : Vec F S1 .f32) (x3 : Vec F S8192x2048 .fp8e4m3) (x5 : Vec F S1024x512 .f32) (s1 : Vec F S2048x512 .f32) : Vec F S2048x512 .f32 :=
  k0_pay1 (k0_pay7 x5 (sc x1)) (nblk i x3) (if isFirst i then k0_pay5 (F := F) else s1)

open Classical in
/-- The first gradient's block after the step. -/
def newDg (i : grid0.Coords) (x0 x2 : Vec F S1 .f32) (g : Vec F S2048x512 .f32) (y : Vec F S2048x512 .bf16) : Vec F S2048x512 .bf16 :=
  if isLast i then k0_pay2 g (sc x2) (sc x0) else y

open Classical in
/-- The second gradient's block after the step. -/
def newDu (i : grid0.Coords) (x1 x2 : Vec F S1 .f32) (g : Vec F S2048x512 .f32) (y : Vec F S2048x512 .bf16) : Vec F S2048x512 .bf16 :=
  if isLast i then k0_pay3 g (sc x2) (sc x1) else y

section Cases
variable (i : grid0.Coords) (x0 x1 x2 : Vec F S1 .f32) (x3 : Vec F S8192x2048 .fp8e4m3) (x4 x5 : Vec F S1024x512 .f32) (s g : Vec F S2048x512 .f32) (y : Vec F S2048x512 .bf16)
theorem newG_first (h : isFirst i) : newG i x0 x3 x4 s = k0_pay8 x4 (sc x0) (nblk i x3) (k0_pay4 (F := F)) := by unfold newG; rw [if_pos h]
theorem newG_next (h : ¬isFirst i) : newG i x0 x3 x4 s = k0_pay8 x4 (sc x0) (nblk i x3) s := by unfold newG; rw [if_neg h]
theorem newU_first (h : isFirst i) : newU i x1 x3 x5 s = k0_pay1 (k0_pay7 x5 (sc x1)) (nblk i x3) (k0_pay5 (F := F)) := by unfold newU; rw [if_pos h]
theorem newU_next (h : ¬isFirst i) : newU i x1 x3 x5 s = k0_pay1 (k0_pay7 x5 (sc x1)) (nblk i x3) s := by unfold newU; rw [if_neg h]
theorem newDg_last (h : isLast i) : newDg i x0 x2 g y = k0_pay2 g (sc x2) (sc x0) := by unfold newDg; rw [if_pos h]
theorem newDg_idle (h : ¬isLast i) : newDg i x0 x2 g y = y := by unfold newDg; rw [if_neg h]
theorem newDu_last (h : isLast i) : newDu i x1 x2 g y = k0_pay3 g (sc x2) (sc x1) := by unfold newDu; rw [if_pos h]
theorem newDu_idle (h : ¬isLast i) : newDu i x1 x2 g y = y := by unfold newDu; rw [if_neg h]
end Cases

section Loads
variable {κ : Kind} {sp : Space}
/-- A load of a whole block reads its contents. -/
theorem rdA {e : EltTy} (a : Memref sig κ sp S1024x512 e) (h : a.IsWhole) (x : Vec F S1024x512 e) :
    View.readAt (Elt F) a.view (Rect.unit (s := S1024x512) ![0, 0] ![1024, 512] inb_S1024x512_S1024x512_0_0).toLoadRect (h.unread x) = x :=
  (View.readAt_full a.view (s := S1024x512) (h.unread x) inb_S1024x512_S1024x512_0_0).trans (h.read_unread _)
/-- A load of a whole accumulator reads its contents. -/
theorem rdB {e : EltTy} (a : Memref sig κ sp S2048x512 e) (h : a.IsWhole) (x : Vec F S2048x512 e) :
    View.readAt (Elt F) a.view (Rect.unit (s := S2048x512) ![0, 0] ![2048, 512] inb_S2048x512_S2048x512_0_0).toLoadRect (h.unread x) = x :=
  (View.readAt_full a.view (s := S2048x512) (h.unread x) inb_S2048x512_S2048x512_0_0).trans (h.read_unread _)
/-- A load of a whole accumulator after a store of all of it reads what was stored. -/
theorem rdC {e : EltTy} (a : Memref sig κ sp S2048x512 e) (f : a.view.ty.Contents (Elt F)) (w : Vec F S2048x512 e) (L : List (View.Piece (Elt F) S2048x512 e)) :
    View.readAt (Elt F) a.view (Rect.unit (s := S2048x512) ![0, 0] ![2048, 512] inb_S2048x512_S2048x512_0_0).toLoadRect
      (a.view.writes (Elt F) f (⟨Rect.unit (s := S2048x512) ![0, 0] ![2048, 512] inb_S2048x512_S2048x512_0_0, w⟩ :: L)) = w :=
  View.readAt_writes_full a.view f inb_S2048x512_S2048x512_0_0 inb_S2048x512_S2048x512_0_0 w L
/-- The same of a load stated over the stores alone. -/
theorem rdD {e : EltTy} [∀ e, Nonempty (Elt F e)] (a : Memref sig κ sp S2048x512 e) (w : Vec F S2048x512 e) (L : List (View.Piece (Elt F) S2048x512 e)) :
    a.view.readCov (⟨Rect.unit (s := S2048x512) ![0, 0] ![2048, 512] inb_S2048x512_S2048x512_0_0, w⟩ :: L)
      (Rect.unit (s := S2048x512) ![0, 0] ![2048, 512] inb_S2048x512_S2048x512_0_0).toLoadRect = w :=
  View.readCov_full a.view inb_S2048x512_S2048x512_0_0 inb_S2048x512_S2048x512_0_0 w L
/-- The scalar loads. -/
theorem rdS (a : Memref sig κ sp S1 .f32) (h : a.IsWhole) (x : Vec F S1 .f32) (hp) :
    View.readAt (Elt F) a.view (Rect.unit (s := S1) ![0] ![1] inb_S1_S1_0).toLoadRect (h.unread x) (Shape.Idx.first hp) = sc x := by
  refine (congrFun (View.readAt_eq_ld a.view _ _) _).trans ?_
  rw [h.read_unread]; rfl
/-- The load of the step's rows of the normalised activations. -/
theorem rdN (i : grid0.Coords) (a : Memref sig κ sp S8192x2048 .fp8e4m3) (h : a.IsWhole) (x : Vec F S8192x2048 .fp8e4m3) :
    View.readAt (Elt F) a.view (Rect.unit (s := S8192x2048) (k0_off1 i) ![1024, 2048] (k0_off1_inb i)).toLoadRect (h.unread x) = nblk i x := by
  refine (View.readAt_eq_ld a.view _ _).trans ?_
  rw [h.read_unread]; rfl
end Loads

set_option maxHeartbeats 4000000 in
/-- The body, run on whole buffers at any contents, leaves its inputs as they were, the codes of its two blocks, the
    accumulators with the block's product added, and on the last step of a row the two scaled gradients. -/
theorem body_run (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e4m3) (h5 : arg5.IsWhole) (arg6 : Memref sig .tc .vmem S1024x512 .f32) (h6 : arg6.IsWhole) (arg7 : Memref sig .tc .vmem S1024x512 .f32) (h7 : arg7.IsWhole) (arg8 : Memref sig .tc .vmem S1024x512 .fp8e5m2) (h8 : arg8.IsWhole) (arg9 : Memref sig .tc .vmem S1024x512 .fp8e5m2) (h9 : arg9.IsWhole) (arg10 : Memref sig .tc .vmem S2048x512 .bf16) (h10 : arg10.IsWhole) (arg11 : Memref sig .tc .vmem S2048x512 .bf16) (h11 : arg11.IsWhole) (arg12 : Memref sig .tc .vmem S2048x512 .f32) (h12 : arg12.IsWhole) (arg13 : Memref sig .tc .vmem S2048x512 .f32) (h13 : arg13.IsWhole)
    (x0 x1 x2 : Vec F S1 .f32) (x3 : Vec F S8192x2048 .fp8e4m3) (x4 x5 : Vec F S1024x512 .f32) (y8 y9 : Vec F S2048x512 .bf16) (s0 s1 : Vec F S2048x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare y8 ∗ owns (c : Thread nD τ) arg11 fullShare y9 ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay6 x4 (sc x0)) ∗ owns (c : Thread nD τ) arg9 fullShare (k0_pay7 x5 (sc x1))
            ∗ owns (c : Thread nD τ) arg10 fullShare (newDg i x0 x2 (newG i x0 x3 x4 s0) y8) ∗ owns (c : Thread nD τ) arg11 fullShare (newDu i x1 x2 (newU i x1 x3 x5 s1) y9)
            ∗ owns (c : Thread nD τ) arg12 fullShare (newG i x0 x3 x4 s0) ∗ owns (c : Thread nD τ) arg13 fullShare (newU i x1 x3 x5 s1)) -∗ K ⟨⟩))
      ⊢ wp frame (wpE (defs₀ (F := F)) Variants.none c none) E (cc0_wgrad i arg2 h2 arg3 h3 arg4 h4 arg5 h5 arg6 h6 arg7 h7 arg8 h8 arg9 h9 arg10 h10 arg11 h11 arg12 h12 arg13 h13) K := by
  simp only [cc0_wgrad_eq_skeleton]; unfold cc0_wgrad_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, ⟨%f11, %hf11, H11⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h10.eq_unread hf8; obtain rfl := h11.eq_unread hf9
  obtain rfl := h12.eq_unread hf10; obtain rfl := h13.eq_unread hf11
  by_cases hc0 : isFirst i <;> by_cases hc1 : isLast i
  all_goals
    sl_exec (disch := first | sl_exact hc0 | sl_exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; swap; · iexact H6
      ipureintro
      try sl_unfold_words
      refine (View.read_writes_full _ _ _ _ _).trans ?_
      simp only [rdA, rdB, rdC, rdD, rdS]; first | done | (rw [← rdN i arg5 h5 x3]; rfl)
    isplitl [H7]
    · iexists _; isplitr; swap; · iexact H7
      ipureintro
      try sl_unfold_words
      refine (View.read_writes_full _ _ _ _ _).trans ?_
      simp only [rdA, rdB, rdC, rdD, rdS]; first | done | (rw [← rdN i arg5 h5 x3]; rfl)
    isplitl [H8]
    · iexists _; isplitr; swap; · iexact H8
      ipureintro
      try sl_unfold_words
      first
      | rw [newDg_last (h := hc1)]; refine (View.read_writes_full _ _ _ _ _).trans ?_; (first | rw [newG_first (h := hc0)] | rw [newG_next (h := hc0)]); simp only [rdA, rdB, rdC, rdD, rdS]; first | done | (rw [← rdN i arg5 h5 x3]; rfl)
      | rw [newDg_idle (h := hc1)]; exact hf8
    isplitl [H9]
    · iexists _; isplitr; swap; · iexact H9
      ipureintro
      try sl_unfold_words
      first
      | rw [newDu_last (h := hc1)]; refine (View.read_writes_full _ _ _ _ _).trans ?_; (first | rw [newU_first (h := hc0)] | rw [newU_next (h := hc0)]); simp only [rdA, rdB, rdC, rdD, rdS]; first | done | (rw [← rdN i arg5 h5 x3]; rfl)
      | rw [newDu_idle (h := hc1)]; exact hf9
    isplitl [H10]
    · iexists _; isplitr; swap; · iexact H10
      ipureintro
      try sl_unfold_words
      refine (View.read_writes_full _ _ _ _ _).trans ?_; (first | rw [newG_first (h := hc0)] | rw [newG_next (h := hc0)]); simp only [rdA, rdB, rdC, rdD, rdS]; first | done | (rw [← rdN i arg5 h5 x3]; rfl)
    iexists _; isplitr; swap; · iexact H11
    ipureintro
    try sl_unfold_words
    refine (View.read_writes_full _ _ _ _ _).trans ?_; (first | rw [newU_first (h := hc0)] | rw [newU_next (h := hc0)]); simp only [rdA, rdB, rdC, rdD, rdS]; first | done | (rw [← rdN i arg5 h5 x3]; rfl)

end Cert.Wgrad
-- ==== Proof.WgradFrame.lean ====
/- The weight-gradient kernel `Wgrad` terminates without fault and leaves its arguments unchanged. -/
module

public import proofs.«01_k».proof.Proof.Gen.Wgrad.Frame
public import proofs.«01_k».proof.Proof.WgradStep
public import Idealize.ShloMosaic.Lib.Exec

@[expose] public section

set_option maxRecDepth 16384

noncomputable section

namespace Cert.Wgrad

open Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data that name the arrays at the launch and nothing of the buffers. -/
def dats (_ : Fin 1) (c : Dev nD) : Dat τ (Elt F) Unit ℕ (UR sig nD τ) ℕ cfg0 c where
  A w := V m c (Pipeline.arrRef spec0 w)
  after w t := (cfg0.win w).fill (grid0.coords t) (fun _ => Classical.arbitrary _) (iblk m c w t)
  Φ _ := Pipeline.ΦA spec0 c
  q _ := fullShare
  owed _ := 0

/-- The two scratch buffers as the body names them. -/
theorem PhiA_eq (c : Dev nD) :
    (Pipeline.ΦA spec0 c : sProp 𝕄)
      = iprop(iprop((∃ d, owns (c : Thread nD τ) (Memref.whole cc0_scratch0 : Memref sig .tc .vmem S2048x512 .f32) fullShare d)
          ∗ (∃ d, owns (c : Thread nD τ) (Memref.whole cc0_scratch1 : Memref sig .tc .vmem S2048x512 .f32) fullShare d)) ∗ (∃ r, prngReg c r)) := by
  unfold Pipeline.ΦA; rw [scopedRest0_eq]; simp only [owns_whole]; try rfl

/-- The body table's row at a point is the body at its buffers. -/
theorem defs₀_row (t : Fin cfg0.N) :
    defs₀ (F := F) .tc cfg0.body (cfg0.bodyArgs t (cfg0.slots t)) = bodyAt0 t := by
  unfold defs₀; rw [Defs.onTc_tc]

/-- What the body is handed and gives back at a point: every window's buffer at some contents. -/
abbrev bufs (c : Dev nD) (t : Fin cfg0.N) : sProp 𝕄 :=
  iprop((∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X))

/-- The body at a point, on the buffers at some contents. -/
theorem sound_body (c : Dev nD) (t : Fin cfg0.N) (J : sProp 𝕄) :
    iprop(Pipeline.ΦA spec0 c ∗ J ∗ bufs c t) ⊢ wp frame (wpE (defs₀ (F := F)) Variants.none c none) Set.univ (bodyAt0 t)
      fun _ => iprop(Pipeline.ΦA spec0 c ∗ J ∗ bufs c t) := by
  rw [PhiA_eq]
  iintro ⟨⟨⟨⟨%s0, HS0⟩, ⟨%s1, HS1⟩⟩, HR⟩, HJ, ⟨%x0, H0⟩, ⟨%x1, H1⟩, ⟨%x2, H2⟩, ⟨%x3, H3⟩, ⟨%x4, H4⟩, ⟨%x5, H5⟩, H6, H7, ⟨%x8, H8⟩, ⟨%x9, H9⟩⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) _ (Memref.isWhole_whole _) _ (Memref.isWhole_whole _) x0 x1 x2 x3 x4 x5 x8 x9 s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 HR]
  · isplitl [HS0 HS1]
    · isplitl [HS0]
      · iexists _; iexact HS0
      · iexists _; iexact HS1
    · iexact HR
  isplitl [HJ]; · iexact HJ
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-- The body obligation: every buffer at some contents before and after. -/
theorem body_obligation (c : Dev nD) : BodyObligationLoose (dats m 0 c) (defs₀ (F := F)) Variants.none () Set.univ (fun _ => true) := fun t => by
  rw [bigSep_W0, defs₀_row]
  exact sound_body c t _

set_option backward.isDefEq.respectTransparency.types false in
set_option maxHeartbeats 800000 in
/-- The launch: every array of an input ends as it began and every counter at zero. -/
theorem run_main : θ_run defs (onTc (τ := τ) (main (F := F))) (s₀ m ρ)
    (fun r => RDat.FramePost cfg0 (fun c => (dats m 0 c).toRForget fun _ => true) (V m) r ∧ r.2.sem = fun _ => 0) :=
  Pipeline.θ_run_frame_forget (Q' := _) cfgs (dats m) (0 : Fin 1) launch0 defs₀ Variants.none (fun _ => true) m ρ main
    (hbody := body_obligation m) (hshare := fun c => (dats m 0 c).share_full fun _ => rfl)
    (howed := fun _ _ => rfl) (V := V m) (hmain := hmain m Variants.none) (hA := fun _ _ => rfl) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨h.1.arr_in c 0 rfl, h.1.arr_in c 1 rfl, h.1.arr_in c 2 rfl, h.1.arr_in c 3 rfl, h.1.arr_in c 4 rfl, h.1.arr_in c 5 rfl⟩, h.2⟩) (run_main m ρ)

end Cert.Wgrad
-- ==== Proof.WgradMath.lean ====
/- The mathematics of the call `wgrad`: the code of a number under a scale, and one entry of a weight's gradient
   (a sum over the 8192 rows of a code of the normalised input times a code of the gradient), also summed over
   the first rows alone. -/
module

public import Idealize.ShloMosaic.Lib.Pointwise

@[expose] public section

noncomputable section

namespace Cert.WgradMath

open Idealize.ShloMosaic

/-- A number divided by its scale and clipped to the format's range. -/
def code (x s : EReal) : EReal :=
  min (Ideal.ofBits .f32 0x47600000#32) (max (Ideal.ofBits .f32 0xC7600000#32) (Ideal.div x s))

/-- One entry of the gradient before its scales: column `n` of codes against column `d` under the scale `s`. -/
def dot (n d : Fin 8192 → EReal) (s : EReal) : EReal := ∑ r, n r * code (d r) s

/-- One entry of the gradient: with the input's scale and the gradient's. -/
def grad (n d : Fin 8192 → EReal) (ns s : EReal) : EReal := dot n d s * ns * s

/-- A row's term of `dot` at any number, nothing past the last row. -/
def term (n d : Fin 8192 → EReal) (s : EReal) (i : ℕ) : EReal := if h : i < 8192 then n ⟨i, h⟩ * code (d ⟨i, h⟩) s else 0

/-- `dot` over the first `b` blocks of 1024 rows. -/
def part (n d : Fin 8192 → EReal) (s : EReal) (b : ℕ) : EReal := ∑ i ∈ Finset.range (1024 * b), term n d s i

theorem part_zero (n d : Fin 8192 → EReal) (s : EReal) : part n d s 0 = 0 := by
  unfold part; rw [Nat.mul_zero, Finset.sum_range_zero]

/-- One more block of rows. -/
theorem part_succ (n d : Fin 8192 → EReal) (s : EReal) (b : ℕ) :
    part n d s (b + 1) = part n d s b + ∑ r : Fin 1024, term n d s (1024 * b + r.val) := by
  unfold part
  rw [Nat.mul_succ, Finset.sum_range_add, Finset.sum_range (n := 1024)]

/-- All eight blocks. -/
theorem part_eight (n d : Fin 8192 → EReal) (s : EReal) : part n d s 8 = dot n d s := by
  unfold part dot
  rw [show 1024 * 8 = 8192 from rfl, Finset.sum_range]
  exact Finset.sum_congr rfl fun r _ => by unfold term; rw [dif_pos r.isLt]

end Cert.WgradMath
-- ==== Proof.WgradBody.lean ====
/- One grid step of the weight-gradient kernel `WgradIdeal`: what its body leaves in each staging buffer and scratch. -/
module

public import proofs.«01_k».proof.Proof.Gen.WgradIdeal.Frame
public import proofs.«01_k».proof.Proof.Gen.WgradIdeal.Skeleton
public import Idealize.ShloMosaic.Lib.VecWindow
public import Idealize.ShloMosaic.Lib.Exec

@[expose] public section

set_option maxRecDepth 16384

noncomputable section

namespace Cert.WgradIdeal

open Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The step is the first of its row of the grid. -/
abbrev isFirst (i : grid0.Coords) : Prop := (Scalar.cmpi .ne (Scalar.extui (Scalar.cmpi .eq (BitVec.ofNat 32 (i 1).val) 0#32)) 0#32) = 1#1
/-- The step is the last of its row of the grid. -/
abbrev isLast (i : grid0.Coords) : Prop := k0_cond2 i = 1#1

/-- The kernel's load of the one element of a one-element vector. -/
def sc (x : Vec F S1 .f32) : F .f32 := View.ld x (Rect.unit (s := S1) ![0] S1.size inb_S1_S1_0) (Shape.Idx.first (by decide))

/-- The rows of the normalised activations that the step multiplies by. -/
def nblk (i : grid0.Coords) (x3 : Vec F S8192x2048 .fp8e4m3) : Vec F S1024x2048 .fp8e4m3 :=
  View.ld x3 (Rect.unit (s := S8192x2048) (k0_off1 i) S1024x2048.size (k0_off1_inb i))

open Classical in
/-- The first accumulator after the step. -/
def newG (i : grid0.Coords) (x0 : Vec F S1 .f32) (x3 : Vec F S8192x2048 .fp8e4m3) (x4 : Vec F S1024x512 .f32) (s0 : Vec F S2048x512 .f32) : Vec F S2048x512 .f32 :=
  k0_pay8 x4 (sc x0) (nblk i x3) (if isFirst i then k0_pay4 (F := F) else s0)

open Classical in
/-- The second accumulator after the step. -/
def newU (i : grid0.Coords) (x1 : Vec F S1 .f32) (x3 : Vec F S8192x2048 .fp8e4m3) (x5 : Vec F S1024x512 .f32) (s1 : Vec F S2048x512 .f32) : Vec F S2048x512 .f32 :=
  k0_pay1 (k0_pay7 x5 (sc x1)) (nblk i x3) (if isFirst i then k0_pay5 (F := F) else s1)

open Classical in
/-- The first gradient's block after the step. -/
def newDg (i : grid0.Coords) (x0 x2 : Vec F S1 .f32) (g : Vec F S2048x512 .f32) (y : Vec F S2048x512 .bf16) : Vec F S2048x512 .bf16 :=
  if isLast i then k0_pay2 g (sc x2) (sc x0) else y

open Classical in
/-- The second gradient's block after the step. -/
def newDu (i : grid0.Coords) (x1 x2 : Vec F S1 .f32) (g : Vec F S2048x512 .f32) (y : Vec F S2048x512 .bf16) : Vec F S2048x512 .bf16 :=
  if isLast i then k0_pay3 g (sc x2) (sc x1) else y

section Cases
variable (i : grid0.Coords) (x0 x1 x2 : Vec F S1 .f32) (x3 : Vec F S8192x2048 .fp8e4m3) (x4 x5 : Vec F S1024x512 .f32) (s g : Vec F S2048x512 .f32) (y : Vec F S2048x512 .bf16)
theorem newG_first (h : isFirst i) : newG i x0 x3 x4 s = k0_pay8 x4 (sc x0) (nblk i x3) (k0_pay4 (F := F)) := by unfold newG; rw [if_pos h]
theorem newG_next (h : ¬isFirst i) : newG i x0 x3 x4 s = k0_pay8 x4 (sc x0) (nblk i x3) s := by unfold newG; rw [if_neg h]
theorem newU_first (h : isFirst i) : newU i x1 x3 x5 s = k0_pay1 (k0_pay7 x5 (sc x1)) (nblk i x3) (k0_pay5 (F := F)) := by unfold newU; rw [if_pos h]
theorem newU_next (h : ¬isFirst i) : newU i x1 x3 x5 s = k0_pay1 (k0_pay7 x5 (sc x1)) (nblk i x3) s := by unfold newU; rw [if_neg h]
theorem newDg_last (h : isLast i) : newDg i x0 x2 g y = k0_pay2 g (sc x2) (sc x0) := by unfold newDg; rw [if_pos h]
theorem newDg_idle (h : ¬isLast i) : newDg i x0 x2 g y = y := by unfold newDg; rw [if_neg h]
theorem newDu_last (h : isLast i) : newDu i x1 x2 g y = k0_pay3 g (sc x2) (sc x1) := by unfold newDu; rw [if_pos h]
theorem newDu_idle (h : ¬isLast i) : newDu i x1 x2 g y = y := by unfold newDu; rw [if_neg h]
end Cases

section Loads
variable {κ : Kind} {sp : Space}
/-- A load of a whole block reads its contents. -/
theorem rdA {e : EltTy} (a : Memref sig κ sp S1024x512 e) (h : a.IsWhole) (x : Vec F S1024x512 e) :
    View.readAt (Elt F) a.view (Rect.unit (s := S1024x512) ![0, 0] ![1024, 512] inb_S1024x512_S1024x512_0_0).toLoadRect (h.unread x) = x :=
  (View.readAt_full a.view (s := S1024x512) (h.unread x) inb_S1024x512_S1024x512_0_0).trans (h.read_unread _)
/-- A load of a whole accumulator reads its contents. -/
theorem rdB {e : EltTy} (a : Memref sig κ sp S2048x512 e) (h : a.IsWhole) (x : Vec F S2048x512 e) :
    View.readAt (Elt F) a.view (Rect.unit (s := S2048x512) ![0, 0] ![2048, 512] inb_S2048x512_S2048x512_0_0).toLoadRect (h.unread x) = x :=
  (View.readAt_full a.view (s := S2048x512) (h.unread x) inb_S2048x512_S2048x512_0_0).trans (h.read_unread _)
/-- A load of a whole accumulator after a store of all of it reads what was stored. -/
theorem rdC {e : EltTy} (a : Memref sig κ sp S2048x512 e) (f : a.view.ty.Contents (Elt F)) (w : Vec F S2048x512 e) (L : List (View.Piece (Elt F) S2048x512 e)) :
    View.readAt (Elt F) a.view (Rect.unit (s := S2048x512) ![0, 0] ![2048, 512] inb_S2048x512_S2048x512_0_0).toLoadRect
      (a.view.writes (Elt F) f (⟨Rect.unit (s := S2048x512) ![0, 0] ![2048, 512] inb_S2048x512_S2048x512_0_0, w⟩ :: L)) = w :=
  View.readAt_writes_full a.view f inb_S2048x512_S2048x512_0_0 inb_S2048x512_S2048x512_0_0 w L
/-- The same of a load stated over the stores alone. -/
theorem rdD {e : EltTy} [∀ e, Nonempty (Elt F e)] (a : Memref sig κ sp S2048x512 e) (w : Vec F S2048x512 e) (L : List (View.Piece (Elt F) S2048x512 e)) :
    a.view.readCov (⟨Rect.unit (s := S2048x512) ![0, 0] ![2048, 512] inb_S2048x512_S2048x512_0_0, w⟩ :: L)
      (Rect.unit (s := S2048x512) ![0, 0] ![2048, 512] inb_S2048x512_S2048x512_0_0).toLoadRect = w :=
  View.readCov_full a.view inb_S2048x512_S2048x512_0_0 inb_S2048x512_S2048x512_0_0 w L
/-- The scalar loads. -/
theorem rdS (a : Memref sig κ sp S1 .f32) (h : a.IsWhole) (x : Vec F S1 .f32) (hp) :
    View.readAt (Elt F) a.view (Rect.unit (s := S1) ![0] ![1] inb_S1_S1_0).toLoadRect (h.unread x) (Shape.Idx.first hp) = sc x := by
  refine (congrFun (View.readAt_eq_ld a.view _ _) _).trans ?_
  rw [h.read_unread]; rfl
/-- The load of the step's rows of the normalised activations. -/
theorem rdN (i : grid0.Coords) (a : Memref sig κ sp S8192x2048 .fp8e4m3) (h : a.IsWhole) (x : Vec F S8192x2048 .fp8e4m3) :
    View.readAt (Elt F) a.view (Rect.unit (s := S8192x2048) (k0_off1 i) ![1024, 2048] (k0_off1_inb i)).toLoadRect (h.unread x) = nblk i x := by
  refine (View.readAt_eq_ld a.view _ _).trans ?_
  rw [h.read_unread]; rfl
end Loads

set_option maxHeartbeats 4000000 in
/-- The body, run on whole buffers at any contents, leaves its inputs as they were, the codes of its two blocks, the
    accumulators with the block's product added, and on the last step of a row the two scaled gradients. -/
theorem body_run (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e4m3) (h5 : arg5.IsWhole) (arg6 : Memref sig .tc .vmem S1024x512 .f32) (h6 : arg6.IsWhole) (arg7 : Memref sig .tc .vmem S1024x512 .f32) (h7 : arg7.IsWhole) (arg8 : Memref sig .tc .vmem S1024x512 .fp8e5m2) (h8 : arg8.IsWhole) (arg9 : Memref sig .tc .vmem S1024x512 .fp8e5m2) (h9 : arg9.IsWhole) (arg10 : Memref sig .tc .vmem S2048x512 .bf16) (h10 : arg10.IsWhole) (arg11 : Memref sig .tc .vmem S2048x512 .bf16) (h11 : arg11.IsWhole) (arg12 : Memref sig .tc .vmem S2048x512 .f32) (h12 : arg12.IsWhole) (arg13 : Memref sig .tc .vmem S2048x512 .f32) (h13 : arg13.IsWhole)
    (x0 x1 x2 : Vec F S1 .f32) (x3 : Vec F S8192x2048 .fp8e4m3) (x4 x5 : Vec F S1024x512 .f32) (y8 y9 : Vec F S2048x512 .bf16) (s0 s1 : Vec F S2048x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare y8 ∗ owns (c : Thread nD τ) arg11 fullShare y9 ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay6 x4 (sc x0)) ∗ owns (c : Thread nD τ) arg9 fullShare (k0_pay7 x5 (sc x1))
            ∗ owns (c : Thread nD τ) arg10 fullShare (newDg i x0 x2 (newG i x0 x3 x4 s0) y8) ∗ owns (c : Thread nD τ) arg11 fullShare (newDu i x1 x2 (newU i x1 x3 x5 s1) y9)
            ∗ owns (c : Thread nD τ) arg12 fullShare (newG i x0 x3 x4 s0) ∗ owns (c : Thread nD τ) arg13 fullShare (newU i x1 x3 x5 s1)) -∗ K ⟨⟩))
      ⊢ wp frame (wpE (defs₀ (F := F)) Variants.none c none) E (cc0_wgrad i arg2 h2 arg3 h3 arg4 h4 arg5 h5 arg6 h6 arg7 h7 arg8 h8 arg9 h9 arg10 h10 arg11 h11 arg12 h12 arg13 h13) K := by
  simp only [cc0_wgrad_eq_skeleton]; unfold cc0_wgrad_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, ⟨%f11, %hf11, H11⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h10.eq_unread hf8; obtain rfl := h11.eq_unread hf9
  obtain rfl := h12.eq_unread hf10; obtain rfl := h13.eq_unread hf11
  by_cases hc0 : isFirst i <;> by_cases hc1 : isLast i
  all_goals
    sl_exec (disch := first | sl_exact hc0 | sl_exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; swap; · iexact H6
      ipureintro
      try sl_unfold_words
      refine (View.read_writes_full _ _ _ _ _).trans ?_
      simp only [rdA, rdB, rdC, rdD, rdS]; first | done | (rw [← rdN i arg5 h5 x3]; rfl)
    isplitl [H7]
    · iexists _; isplitr; swap; · iexact H7
      ipureintro
      try sl_unfold_words
      refine (View.read_writes_full _ _ _ _ _).trans ?_
      simp only [rdA, rdB, rdC, rdD, rdS]; first | done | (rw [← rdN i arg5 h5 x3]; rfl)
    isplitl [H8]
    · iexists _; isplitr; swap; · iexact H8
      ipureintro
      try sl_unfold_words
      first
      | rw [newDg_last (h := hc1)]; refine (View.read_writes_full _ _ _ _ _).trans ?_; (first | rw [newG_first (h := hc0)] | rw [newG_next (h := hc0)]); simp only [rdA, rdB, rdC, rdD, rdS]; first | done | (rw [← rdN i arg5 h5 x3]; rfl)
      | rw [newDg_idle (h := hc1)]; exact hf8
    isplitl [H9]
    · iexists _; isplitr; swap; · iexact H9
      ipureintro
      try sl_unfold_words
      first
      | rw [newDu_last (h := hc1)]; refine (View.read_writes_full _ _ _ _ _).trans ?_; (first | rw [newU_first (h := hc0)] | rw [newU_next (h := hc0)]); simp only [rdA, rdB, rdC, rdD, rdS]; first | done | (rw [← rdN i arg5 h5 x3]; rfl)
      | rw [newDu_idle (h := hc1)]; exact hf9
    isplitl [H10]
    · iexists _; isplitr; swap; · iexact H10
      ipureintro
      try sl_unfold_words
      refine (View.read_writes_full _ _ _ _ _).trans ?_; (first | rw [newG_first (h := hc0)] | rw [newG_next (h := hc0)]); simp only [rdA, rdB, rdC, rdD, rdS]; first | done | (rw [← rdN i arg5 h5 x3]; rfl)
    iexists _; isplitr; swap; · iexact H11
    ipureintro
    try sl_unfold_words
    refine (View.read_writes_full _ _ _ _ _).trans ?_; (first | rw [newU_first (h := hc0)] | rw [newU_next (h := hc0)]); simp only [rdA, rdB, rdC, rdD, rdS]; first | done | (rw [← rdN i arg5 h5 x3]; rfl)

end Cert.WgradIdeal
-- ==== Proof.WgradKer.lean ====
/- The payloads of the kernel `WgradIdeal`, read at an index. -/
module

public import proofs.«01_k».proof.Proof.WgradMath
public import proofs.«01_k».proof.Proof.WgradBody
public import Idealize.ShloMosaic.Lib.Pipeline.ValueKit.Geometry

@[expose] public section

set_option maxRecDepth 16384

noncomputable section

namespace Cert.WgradIdeal

open Idealize.ShloMosaic Cert.WgradIdeal.Gen Cert.WgradMath

theorem sc_eq (x : Vec Ideal S1 .f32) : sc (F := Ideal) x = x (ix1 0) := by
  unfold sc
  pointwise

theorem pay6_apply (v : Vec Ideal S1024x512 .f32) (s : EReal) (r : Fin 1024) (f : Fin 512) :
    k0_pay6 (F := Ideal) v s (ix2 r f) = code (v (ix2 r f)) s := by
  unfold code
  pointwise [k0_pay6]

theorem pay7_apply (v : Vec Ideal S1024x512 .f32) (s : EReal) (r : Fin 1024) (f : Fin 512) :
    k0_pay7 (F := Ideal) v s (ix2 r f) = code (v (ix2 r f)) s := by
  unfold code
  pointwise [k0_pay7]

/-- A product of the transposed codes and a block, at an entry. -/
theorem mm_apply (a : Vec Ideal S1024x2048 .fp8e4m3) (b : Vec Ideal S1024x512 .fp8e5m2) (k : Fin 2048) (f : Fin 512) :
    matmul (F := Ideal) (φ₁ := .fp8e4m3) (φ₂ := .fp8e5m2) dot_S1024x2048_S1024x512_S2048x512_0_0_1_1_n_n none a b (constant S2048x512 .f32 0x00000000#32) (ix2 k f)
      = ∑ r : Fin 1024, a (ix2 r k) * b (ix2 r f) := by
  pointwise

theorem pay8_apply (v3 : Vec Ideal S1024x512 .f32) (v4 : EReal) (v25 : Vec Ideal S1024x2048 .fp8e4m3) (v26 : Vec Ideal S2048x512 .f32)
    (k : Fin 2048) (f : Fin 512) :
    k0_pay8 (F := Ideal) v3 v4 v25 v26 (ix2 k f) = v26 (ix2 k f) + ∑ r : Fin 1024, v25 (ix2 r k) * code (v3 (ix2 r f)) v4 := by
  unfold k0_pay8
  rw [shapeCast_self]
  refine Eq.trans (b := v26 (ix2 k f) + matmul (F := Ideal) (φ₁ := .fp8e4m3) (φ₂ := .fp8e5m2) dot_S1024x2048_S1024x512_S2048x512_0_0_1_1_n_n none v25 (k0_pay6 v3 v4) (constant S2048x512 .f32 0x00000000#32) (ix2 k f)) rfl ?_
  rw [mm_apply]
  simp only [pay6_apply]

theorem pay17_apply (v3 : Vec Ideal S1024x512 .f32) (v4 : EReal) (v25 : Vec Ideal S1024x2048 .fp8e4m3) (v26 : Vec Ideal S2048x512 .f32)
    (k : Fin 2048) (f : Fin 512) :
    k0_pay1 (F := Ideal) (k0_pay7 v3 v4) v25 v26 (ix2 k f) = v26 (ix2 k f) + ∑ r : Fin 1024, v25 (ix2 r k) * code (v3 (ix2 r f)) v4 := by
  unfold k0_pay1
  rw [shapeCast_self]
  refine Eq.trans (b := v26 (ix2 k f) + matmul (F := Ideal) (φ₁ := .fp8e4m3) (φ₂ := .fp8e5m2) dot_S1024x2048_S1024x512_S2048x512_0_0_1_1_n_n none v25 (k0_pay7 v3 v4) (constant S2048x512 .f32 0x00000000#32) (ix2 k f)) rfl ?_
  rw [mm_apply]
  simp only [pay7_apply]

theorem pay2_apply (v : Vec Ideal S2048x512 .f32) (a b : EReal) (k : Fin 2048) (f : Fin 512) :
    k0_pay2 (F := Ideal) v a b (ix2 k f) = v (ix2 k f) * a * b := rfl

theorem pay3_apply (v : Vec Ideal S2048x512 .f32) (a b : EReal) (k : Fin 2048) (f : Fin 512) :
    k0_pay3 (F := Ideal) v a b (ix2 k f) = v (ix2 k f) * a * b := rfl

theorem pay4_apply (k : Fin 2048) (f : Fin 512) : k0_pay4 (F := Ideal) (ix2 k f) = 0 := by
  pointwise [k0_pay4]

theorem pay5_apply (k : Fin 2048) (f : Fin 512) : k0_pay5 (F := Ideal) (ix2 k f) = 0 := by
  pointwise [k0_pay5]

/-- The rows of the codes that a point reads: the block of 1024 rows that its second coordinate names. -/
theorem nblk_apply (i : grid0.Coords) (x : Vec Ideal S8192x2048 .fp8e4m3) (r : Fin 1024) (k : Fin 2048)
    (h : 1024 * (i 1).val + r.val < 8192) :
    nblk (F := Ideal) i x (ix2 r k) = x (ix2 ⟨1024 * (i 1).val + r.val, h⟩ k) := by
  unfold nblk
  refine congrArg x ?_
  refine funext fun a => Fin.ext ?_
  refine (ValueKit.rect_emb_unit_val _ _ _ _ a).trans ?_
  refine (congrArg (· + _) (congrFun (k0_off1_eq i) a)).trans ?_
  match a with
  | ⟨0, _⟩ => rfl
  | ⟨1, _⟩ => exact Nat.zero_add _

end Cert.WgradIdeal
-- ==== Proof.WgradBlk.lean ====
/- The blocks of the kernel `WgradIdeal`: point `t` of the grid works on block `t % 8` of the rows (1024 of them) and block
   `t / 8` of the columns (512 of them, the last block with the 384 that are left). -/
module

public import proofs.«01_k».proof.Proof.WgradKer
public import proofs.«01_k».proof.Proof.Gen.WgradIdeal.Frame

@[expose] public section

set_option maxRecDepth 16384

noncomputable section

namespace Cert.WgradIdeal

open Idealize.ShloMosaic Idealize.ShloMosaic.TcCoe Idealize.SL.Sem Cert.WgradIdeal.Gen Cert.WgradMath

variable (m : (ℓ : Loc nD τ sig) → Buf (Elt Ideal) ℓ) (c : Dev nD)

/-- A row of the block of point `t`. -/
def row (t : Fin cfg0.N) (r : Fin 1024) : Fin 8192 := ⟨t.val % 8 * 1024 + r.val, by have := r.isLt; omega⟩

/-- A column of the block of point `t`, where it lies in the array. -/
def col (t : Fin cfg0.N) (y : Fin 512) (h : t.val / 8 * 512 + y.val < 5504) : Fin 5504 := ⟨t.val / 8 * 512 + y.val, h⟩

theorem idx_0 : ∀ t : Fin cfg0.N, win0_0.index t = ![0] := (by decide +kernel : ∀ t : Fin grid0.N, _)

theorem iblk_0 (t : Fin cfg0.N) : (iblk m c 0 t : Vec Ideal S1 .f32) = m ((c : Thread nD τ).loc main_arg0) := by
  funext i
  blk_simp [iblk, idx_0]
  rw [V_main_arg0]
  congr 1
  blk_ext [idx_0]

theorem idx_1 : ∀ t : Fin cfg0.N, win0_1.index t = ![0] := (by decide +kernel : ∀ t : Fin grid0.N, _)

theorem iblk_1 (t : Fin cfg0.N) : (iblk m c 1 t : Vec Ideal S1 .f32) = m ((c : Thread nD τ).loc main_arg1) := by
  funext i
  blk_simp [iblk, idx_1]
  rw [V_main_arg1]
  congr 1
  blk_ext [idx_1]

theorem idx_2 : ∀ t : Fin cfg0.N, win0_2.index t = ![0] := (by decide +kernel : ∀ t : Fin grid0.N, _)

theorem iblk_2 (t : Fin cfg0.N) : (iblk m c 2 t : Vec Ideal S1 .f32) = m ((c : Thread nD τ).loc main_arg2) := by
  funext i
  blk_simp [iblk, idx_2]
  rw [V_main_arg2]
  congr 1
  blk_ext [idx_2]

theorem idx_3 : ∀ t : Fin cfg0.N, win0_3.index t = ![0, 0] := (by decide +kernel : ∀ t : Fin grid0.N, _)

theorem iblk_3 (t : Fin cfg0.N) : (iblk m c 3 t : Vec Ideal S8192x2048 .fp8e4m3) = m ((c : Thread nD τ).loc main_arg3) := by
  funext i
  blk_simp [iblk, idx_3]
  rw [V_main_arg3]
  congr 1
  blk_ext [idx_3]

theorem idx_4 : ∀ t : Fin cfg0.N, win0_4.index t = ![t.val % 8, t.val / 8] := (by decide +kernel : ∀ t : Fin grid0.N, _)

theorem xs_4 : ∀ t : Fin cfg0.N, win0_4.xsize (grid0.coords t) 0 = 1024 ∧ win0_4.xsize (grid0.coords t) 1 = min 512 (5504 - t.val / 8 * 512) :=
  (by decide +kernel : ∀ t : Fin grid0.N, _)

/-- A fetched block's entry in the array, whatever the buffer held. -/
theorem fill_4 (t : Fin cfg0.N) (d : Vec Ideal S1024x512 .f32) (r : Fin 1024) (y : Fin 512) (h : t.val / 8 * 512 + y.val < 5504) :
    (win0_4.fill (grid0.coords t) d (iblk m c 4 t) : Vec Ideal S1024x512 .f32) (ix2 r y)
      = m ((c : Thread nD τ).loc main_arg4) (ix2 (row t r) (col t y h)) := by
  have hm : win0_4.moved (grid0.coords t) (ix2 r y : S1024x512.Idx) = true := by
    refine (win0_4.moved_iff _ _).mpr fun a => ?_
    match a with
    | ⟨0, _⟩ => exact lt_of_lt_of_eq r.isLt (xs_4 t).1.symm
    | ⟨1, _⟩ =>
      refine lt_of_lt_of_eq ?_ (xs_4 t).2.symm
      have hy := y.isLt
      show y.val < min 512 (5504 - t.val / 8 * 512)
      omega
  unfold Pipeline.Window.fill
  rw [dif_pos hm]
  blk_simp [iblk, idx_4]
  rw [V_main_arg4]
  congr 1
  unfold row col
  blk_ext [idx_4]

theorem idx_5 : ∀ t : Fin cfg0.N, win0_5.index t = ![t.val % 8, t.val / 8] := (by decide +kernel : ∀ t : Fin grid0.N, _)

theorem xs_5 : ∀ t : Fin cfg0.N, win0_5.xsize (grid0.coords t) 0 = 1024 ∧ win0_5.xsize (grid0.coords t) 1 = min 512 (5504 - t.val / 8 * 512) :=
  (by decide +kernel : ∀ t : Fin grid0.N, _)

/-- A fetched block's entry in the array, whatever the buffer held. -/
theorem fill_5 (t : Fin cfg0.N) (d : Vec Ideal S1024x512 .f32) (r : Fin 1024) (y : Fin 512) (h : t.val / 8 * 512 + y.val < 5504) :
    (win0_5.fill (grid0.coords t) d (iblk m c 5 t) : Vec Ideal S1024x512 .f32) (ix2 r y)
      = m ((c : Thread nD τ).loc main_arg5) (ix2 (row t r) (col t y h)) := by
  have hm : win0_5.moved (grid0.coords t) (ix2 r y : S1024x512.Idx) = true := by
    refine (win0_5.moved_iff _ _).mpr fun a => ?_
    match a with
    | ⟨0, _⟩ => exact lt_of_lt_of_eq r.isLt (xs_5 t).1.symm
    | ⟨1, _⟩ =>
      refine lt_of_lt_of_eq ?_ (xs_5 t).2.symm
      have hy := y.isLt
      show y.val < min 512 (5504 - t.val / 8 * 512)
      omega
  unfold Pipeline.Window.fill
  rw [dif_pos hm]
  blk_simp [iblk, idx_5]
  rw [V_main_arg5]
  congr 1
  unfold row col
  blk_ext [idx_5]

theorem idx_6 : ∀ t : Fin cfg0.N, win0_6.index t = ![t.val % 8, t.val / 8] := (by decide +kernel : ∀ t : Fin grid0.N, _)

theorem xs_6 : ∀ t : Fin cfg0.N, win0_6.xsize (grid0.coords t) 0 = 1024 ∧ win0_6.xsize (grid0.coords t) 1 = min 512 (5504 - t.val / 8 * 512) :=
  (by decide +kernel : ∀ t : Fin grid0.N, _)

/-- A buffer that holds an array's block where the block lies in the array: what is written back is that block. -/
theorem cut_6 (t : Fin cfg0.N) (X : Vec Ideal S1024x512 .fp8e5m2) (G : Vec Ideal S8192x5504 .fp8e5m2)
    (hX : ∀ (r : Fin 1024) (y : Fin 512) (h : t.val / 8 * 512 + y.val < 5504), X (ix2 r y) = G (ix2 (row t r) (col t y h))) :
    win0_6.cut (grid0.coords t) X = (win0_6.blk t).view.read (Elt Ideal) G := by
  funext y
  have h0 : (y 0).val < 1024 := lt_of_lt_of_eq (y 0).isLt (xs_6 t).1
  have h1 : (y 1).val < min 512 (5504 - t.val / 8 * 512) := lt_of_lt_of_eq (y 1).isLt (xs_6 t).2
  have hc : t.val / 8 * 512 + (y 1).val < 5504 := by omega
  have e1 : win0_6.xinj (grid0.coords t) y = (ix2 (⟨(y 0).val, h0⟩ : Fin 1024) (⟨(y 1).val, by omega⟩ : Fin 512) : S1024x512.Idx) := by
    funext a
    match a with
    | ⟨0, _⟩ => rfl
    | ⟨1, _⟩ => rfl
  have e2 : ((win0_6.blk t).view.emb y : S8192x5504.Idx) = ix2 (row t ⟨(y 0).val, h0⟩) (col t ⟨(y 1).val, by omega⟩ hc) := by
    unfold row col
    blk_ext [idx_6]
  exact (congrArg X e1).trans ((hX _ _ hc).trans (congrArg G e2).symm)

theorem idx_7 : ∀ t : Fin cfg0.N, win0_7.index t = ![t.val % 8, t.val / 8] := (by decide +kernel : ∀ t : Fin grid0.N, _)

theorem xs_7 : ∀ t : Fin cfg0.N, win0_7.xsize (grid0.coords t) 0 = 1024 ∧ win0_7.xsize (grid0.coords t) 1 = min 512 (5504 - t.val / 8 * 512) :=
  (by decide +kernel : ∀ t : Fin grid0.N, _)

/-- A buffer that holds an array's block where the block lies in the array: what is written back is that block. -/
theorem cut_7 (t : Fin cfg0.N) (X : Vec Ideal S1024x512 .fp8e5m2) (G : Vec Ideal S8192x5504 .fp8e5m2)
    (hX : ∀ (r : Fin 1024) (y : Fin 512) (h : t.val / 8 * 512 + y.val < 5504), X (ix2 r y) = G (ix2 (row t r) (col t y h))) :
    win0_7.cut (grid0.coords t) X = (win0_7.blk t).view.read (Elt Ideal) G := by
  funext y
  have h0 : (y 0).val < 1024 := lt_of_lt_of_eq (y 0).isLt (xs_7 t).1
  have h1 : (y 1).val < min 512 (5504 - t.val / 8 * 512) := lt_of_lt_of_eq (y 1).isLt (xs_7 t).2
  have hc : t.val / 8 * 512 + (y 1).val < 5504 := by omega
  have e1 : win0_7.xinj (grid0.coords t) y = (ix2 (⟨(y 0).val, h0⟩ : Fin 1024) (⟨(y 1).val, by omega⟩ : Fin 512) : S1024x512.Idx) := by
    funext a
    match a with
    | ⟨0, _⟩ => rfl
    | ⟨1, _⟩ => rfl
  have e2 : ((win0_7.blk t).view.emb y : S8192x5504.Idx) = ix2 (row t ⟨(y 0).val, h0⟩) (col t ⟨(y 1).val, by omega⟩ hc) := by
    unfold row col
    blk_ext [idx_7]
  exact (congrArg X e1).trans ((hX _ _ hc).trans (congrArg G e2).symm)

theorem idx_8 : ∀ t : Fin cfg0.N, win0_8.index t = ![0, t.val / 8] := (by decide +kernel : ∀ t : Fin grid0.N, _)

theorem xs_8 : ∀ t : Fin cfg0.N, win0_8.xsize (grid0.coords t) 0 = 2048 ∧ win0_8.xsize (grid0.coords t) 1 = min 512 (5504 - t.val / 8 * 512) :=
  (by decide +kernel : ∀ t : Fin grid0.N, _)

/-- A buffer that holds an array's block where the block lies in the array: what is written back is that block. -/
theorem cut_8 (t : Fin cfg0.N) (X : Vec Ideal S2048x512 .bf16) (G : Vec Ideal S2048x5504 .bf16)
    (hX : ∀ (k : Fin 2048) (y : Fin 512) (h : t.val / 8 * 512 + y.val < 5504), X (ix2 k y) = G (ix2 k (col t y h))) :
    win0_8.cut (grid0.coords t) X = (win0_8.blk t).view.read (Elt Ideal) G := by
  funext y
  have h0 : (y 0).val < 2048 := lt_of_lt_of_eq (y 0).isLt (xs_8 t).1
  have h1 : (y 1).val < min 512 (5504 - t.val / 8 * 512) := lt_of_lt_of_eq (y 1).isLt (xs_8 t).2
  have hc : t.val / 8 * 512 + (y 1).val < 5504 := by omega
  have e1 : win0_8.xinj (grid0.coords t) y = (ix2 (⟨(y 0).val, h0⟩ : Fin 2048) (⟨(y 1).val, by omega⟩ : Fin 512) : S2048x512.Idx) := by
    funext a
    match a with
    | ⟨0, _⟩ => rfl
    | ⟨1, _⟩ => rfl
  have e2 : ((win0_8.blk t).view.emb y : S2048x5504.Idx) = ix2 (⟨(y 0).val, h0⟩ : Fin 2048) (col t ⟨(y 1).val, by omega⟩ hc) := by
    unfold col
    blk_ext [idx_8]
  exact (congrArg X e1).trans ((hX _ _ hc).trans (congrArg G e2).symm)

theorem idx_9 : ∀ t : Fin cfg0.N, win0_9.index t = ![0, t.val / 8] := (by decide +kernel : ∀ t : Fin grid0.N, _)

theorem xs_9 : ∀ t : Fin cfg0.N, win0_9.xsize (grid0.coords t) 0 = 2048 ∧ win0_9.xsize (grid0.coords t) 1 = min 512 (5504 - t.val / 8 * 512) :=
  (by decide +kernel : ∀ t : Fin grid0.N, _)

/-- A buffer that holds an array's block where the block lies in the array: what is written back is that block. -/
theorem cut_9 (t : Fin cfg0.N) (X : Vec Ideal S2048x512 .bf16) (G : Vec Ideal S2048x5504 .bf16)
    (hX : ∀ (k : Fin 2048) (y : Fin 512) (h : t.val / 8 * 512 + y.val < 5504), X (ix2 k y) = G (ix2 k (col t y h))) :
    win0_9.cut (grid0.coords t) X = (win0_9.blk t).view.read (Elt Ideal) G := by
  funext y
  have h0 : (y 0).val < 2048 := lt_of_lt_of_eq (y 0).isLt (xs_9 t).1
  have h1 : (y 1).val < min 512 (5504 - t.val / 8 * 512) := lt_of_lt_of_eq (y 1).isLt (xs_9 t).2
  have hc : t.val / 8 * 512 + (y 1).val < 5504 := by omega
  have e1 : win0_9.xinj (grid0.coords t) y = (ix2 (⟨(y 0).val, h0⟩ : Fin 2048) (⟨(y 1).val, by omega⟩ : Fin 512) : S2048x512.Idx) := by
    funext a
    match a with
    | ⟨0, _⟩ => rfl
    | ⟨1, _⟩ => rfl
  have e2 : ((win0_9.blk t).view.emb y : S2048x5504.Idx) = ix2 (⟨(y 0).val, h0⟩ : Fin 2048) (col t ⟨(y 1).val, by omega⟩ hc) := by
    unfold col
    blk_ext [idx_9]
  exact (congrArg X e1).trans ((hX _ _ hc).trans (congrArg G e2).symm)

/-- The coordinates of a point. -/
theorem coord_1 : ∀ t : Fin cfg0.N, ((grid0.coords t) 1).val = t.val % 8 := (by decide +kernel : ∀ t : Fin grid0.N, _)

/-- The first block of rows. -/
theorem isFirst_iff : ∀ t : Fin cfg0.N, isFirst (grid0.coords t) ↔ t.val % 8 = 0 := (by decide +kernel : ∀ t : Fin grid0.N, _)

/-- The last block of rows. -/
theorem isLast_iff : ∀ t : Fin cfg0.N, isLast (grid0.coords t) ↔ t.val % 8 = 7 := (by decide +kernel : ∀ t : Fin grid0.N, _)

end Cert.WgradIdeal
-- ==== Proof.WgradAcc.lean ====
/- The accumulators of the kernel `WgradIdeal` and the arrays that it leaves, as functions of its arguments: before point `t`,
   where `t % 8` is not zero, an accumulator holds the product over the first `t % 8` blocks of rows. -/
module

public import proofs.«01_k».proof.Proof.WgradBlk

@[expose] public section

set_option maxRecDepth 16384

noncomputable section

namespace Cert.WgradIdeal

open Idealize.ShloMosaic Idealize.ShloMosaic.TcCoe Idealize.SL.Sem Cert.WgradIdeal.Gen Cert.WgradMath

variable (m : (ℓ : Loc nD τ sig) → Buf (Elt Ideal) ℓ) (c : Dev nD)

/-- The codes of the gate's gradient. -/
def G6 : Vec Ideal S8192x5504 .fp8e5m2 := fun i =>
  code (m ((c : Thread nD τ).loc main_arg4) (ix2 (i 0) (i 1))) (m ((c : Thread nD τ).loc main_arg0) (ix1 0))

/-- The codes of the up projection's gradient. -/
def G7 : Vec Ideal S8192x5504 .fp8e5m2 := fun i =>
  code (m ((c : Thread nD τ).loc main_arg5) (ix2 (i 0) (i 1))) (m ((c : Thread nD τ).loc main_arg1) (ix1 0))

/-- The gradient of the gate's weight. -/
def G8 : Vec Ideal S2048x5504 .bf16 := fun i =>
  grad (fun r => m ((c : Thread nD τ).loc main_arg3) (ix2 r (i 0))) (fun r => m ((c : Thread nD τ).loc main_arg4) (ix2 r (i 1)))
    (m ((c : Thread nD τ).loc main_arg2) (ix1 0)) (m ((c : Thread nD τ).loc main_arg0) (ix1 0))

/-- The gradient of the up projection's weight. -/
def G9 : Vec Ideal S2048x5504 .bf16 := fun i =>
  grad (fun r => m ((c : Thread nD τ).loc main_arg3) (ix2 r (i 0))) (fun r => m ((c : Thread nD τ).loc main_arg5) (ix2 r (i 1)))
    (m ((c : Thread nD τ).loc main_arg2) (ix1 0)) (m ((c : Thread nD τ).loc main_arg1) (ix1 0))

/-- The gate's gradient before its scales, over the first `b` blocks of rows. -/
def partG (k : Fin 2048) (f : Fin 5504) (b : ℕ) : EReal :=
  part (fun r => m ((c : Thread nD τ).loc main_arg3) (ix2 r k)) (fun r => m ((c : Thread nD τ).loc main_arg4) (ix2 r f))
    (m ((c : Thread nD τ).loc main_arg0) (ix1 0)) b

/-- The up projection's gradient before its scales, over the first `b` blocks of rows. -/
def partU (k : Fin 2048) (f : Fin 5504) (b : ℕ) : EReal :=
  part (fun r => m ((c : Thread nD τ).loc main_arg3) (ix2 r k)) (fun r => m ((c : Thread nD τ).loc main_arg5) (ix2 r f))
    (m ((c : Thread nD τ).loc main_arg1) (ix1 0)) b

/-- The accumulators before point `n`. -/
def Inv (n : ℕ) (s0 s1 : Vec Ideal S2048x512 .f32) : Prop :=
  n % 8 ≠ 0 → ∀ (k : Fin 2048) (y : Fin 512) (h : n / 8 * 512 + y.val < 5504),
    s0 (ix2 k y) = partG m c k ⟨n / 8 * 512 + y.val, h⟩ (n % 8) ∧ s1 (ix2 k y) = partU m c k ⟨n / 8 * 512 + y.val, h⟩ (n % 8)

/-- One block's product of codes, as the next terms of the sum over all rows. -/
theorem sum_blk (t : Fin cfg0.N) (n : Vec Ideal S8192x2048 .fp8e4m3) (X : Vec Ideal S1024x512 .f32) (D : Fin 8192 → EReal) (s : EReal)
    (k : Fin 2048) (y : Fin 512) (hX : ∀ r : Fin 1024, X (ix2 r y) = D (row t r)) :
    ∑ r : Fin 1024, nblk (F := Ideal) (grid0.coords t) n (ix2 r k) * code (X (ix2 r y)) s
      = ∑ r : Fin 1024, term (fun r => n (ix2 r k)) D s (1024 * (t.val % 8) + r.val) := by
  refine Finset.sum_congr rfl fun r _ => ?_
  have hr := r.isLt
  have e1 := coord_1 t
  have h8 : 1024 * (t.val % 8) + r.val < 8192 := by omega
  have h8' : 1024 * ((grid0.coords t) 1).val + r.val < 8192 := by rw [e1]; exact h8
  have er : row t r = ⟨1024 * (t.val % 8) + r.val, h8⟩ := Fin.ext (by show t.val % 8 * 1024 + r.val = 1024 * (t.val % 8) + r.val; omega)
  have er' : (⟨1024 * ((grid0.coords t) 1).val + r.val, h8'⟩ : Fin 8192) = ⟨1024 * (t.val % 8) + r.val, h8⟩ :=
    Fin.ext (congrArg (1024 * · + r.val) e1)
  unfold term
  rw [dif_pos h8, nblk_apply _ _ _ _ h8', hX, er, er']

section Step
variable (t : Fin cfg0.N) (s0 s1 : Vec Ideal S2048x512 .f32) (hI : Inv m c t.val s0 s1)
include hI

/-- The gate's accumulator after point `t`. -/
theorem newG_apply (X : Vec Ideal S1024x512 .f32)
    (hX : ∀ (r : Fin 1024) (y : Fin 512) (h : t.val / 8 * 512 + y.val < 5504), X (ix2 r y) = m ((c : Thread nD τ).loc main_arg4) (ix2 (row t r) (col t y h)))
    (k : Fin 2048) (y : Fin 512) (h : t.val / 8 * 512 + y.val < 5504) :
    newG (F := Ideal) (grid0.coords t) (m ((c : Thread nD τ).loc main_arg0)) (m ((c : Thread nD τ).loc main_arg3)) X s0 (ix2 k y)
      = partG m c k (col t y h) (t.val % 8 + 1) := by
  unfold partG
  rw [part_succ]
  by_cases h0 : t.val % 8 = 0
  · rw [newG_first (h := (isFirst_iff t).mpr h0), pay8_apply, pay4_apply, sc_eq,
      sum_blk t _ X (fun r => m ((c : Thread nD τ).loc main_arg4) (ix2 r (col t y h))) _ k y fun r => hX r y h]
    congr 1
    rw [h0, part_zero]
  · rw [newG_next (h := fun hf => h0 ((isFirst_iff t).mp hf)), pay8_apply, sc_eq,
      sum_blk t _ X (fun r => m ((c : Thread nD τ).loc main_arg4) (ix2 r (col t y h))) _ k y fun r => hX r y h]
    congr 1
    exact (hI h0 k y h).1

/-- The up projection's accumulator after point `t`. -/
theorem newU_apply (X : Vec Ideal S1024x512 .f32)
    (hX : ∀ (r : Fin 1024) (y : Fin 512) (h : t.val / 8 * 512 + y.val < 5504), X (ix2 r y) = m ((c : Thread nD τ).loc main_arg5) (ix2 (row t r) (col t y h)))
    (k : Fin 2048) (y : Fin 512) (h : t.val / 8 * 512 + y.val < 5504) :
    newU (F := Ideal) (grid0.coords t) (m ((c : Thread nD τ).loc main_arg1)) (m ((c : Thread nD τ).loc main_arg3)) X s1 (ix2 k y)
      = partU m c k (col t y h) (t.val % 8 + 1) := by
  unfold partU
  rw [part_succ]
  by_cases h0 : t.val % 8 = 0
  · rw [newU_first (h := (isFirst_iff t).mpr h0), pay17_apply, pay5_apply, sc_eq,
      sum_blk t _ X (fun r => m ((c : Thread nD τ).loc main_arg5) (ix2 r (col t y h))) _ k y fun r => hX r y h]
    congr 1
    rw [h0, part_zero]
  · rw [newU_next (h := fun hf => h0 ((isFirst_iff t).mp hf)), pay17_apply, sc_eq,
      sum_blk t _ X (fun r => m ((c : Thread nD τ).loc main_arg5) (ix2 r (col t y h))) _ k y fun r => hX r y h]
    congr 1
    exact (hI h0 k y h).2

end Step

/-- The accumulators before the next point. -/
theorem Inv_succ (t : Fin cfg0.N) (s0 s1 : Vec Ideal S2048x512 .f32)
    (h0 : ∀ (k : Fin 2048) (y : Fin 512) (h : t.val / 8 * 512 + y.val < 5504), s0 (ix2 k y) = partG m c k (col t y h) (t.val % 8 + 1))
    (h1 : ∀ (k : Fin 2048) (y : Fin 512) (h : t.val / 8 * 512 + y.val < 5504), s1 (ix2 k y) = partU m c k (col t y h) (t.val % 8 + 1)) :
    Inv m c (t.val + 1) s0 s1 := by
  intro hn k y h
  have ed : (t.val + 1) / 8 = t.val / 8 := by omega
  have em : (t.val + 1) % 8 = t.val % 8 + 1 := by omega
  have h' : t.val / 8 * 512 + y.val < 5504 := by rw [← ed]; exact h
  have ec : (⟨(t.val + 1) / 8 * 512 + y.val, h⟩ : Fin 5504) = col t y h' := Fin.ext (congrArg (· * 512 + y.val) ed)
  rw [ec, em]
  exact ⟨h0 k y h', h1 k y h'⟩

/-- After the last block of rows the first gradient's block is the array's. -/
theorem last_8 (t : Fin cfg0.N) (h7 : t.val % 8 = 7) (g : Vec Ideal S2048x512 .f32)
    (hg : ∀ (k : Fin 2048) (y : Fin 512) (h : t.val / 8 * 512 + y.val < 5504), g (ix2 k y) = partG m c k (col t y h) (t.val % 8 + 1)) :
    win0_8.cut (grid0.coords t) (k0_pay2 (F := Ideal) g (sc (m ((c : Thread nD τ).loc main_arg2))) (sc (m ((c : Thread nD τ).loc main_arg0))))
      = (win0_8.blk t).view.read (Elt Ideal) (G8 m c) := by
  refine cut_8 t _ _ fun k y h => ?_
  rw [pay2_apply, hg k y h, h7, sc_eq, sc_eq]
  unfold partG
  rw [part_eight]
  rfl

/-- After the last block of rows the second gradient's block is the array's. -/
theorem last_9 (t : Fin cfg0.N) (h7 : t.val % 8 = 7) (g : Vec Ideal S2048x512 .f32)
    (hg : ∀ (k : Fin 2048) (y : Fin 512) (h : t.val / 8 * 512 + y.val < 5504), g (ix2 k y) = partU m c k (col t y h) (t.val % 8 + 1)) :
    win0_9.cut (grid0.coords t) (k0_pay3 (F := Ideal) g (sc (m ((c : Thread nD τ).loc main_arg2))) (sc (m ((c : Thread nD τ).loc main_arg1))))
      = (win0_9.blk t).view.read (Elt Ideal) (G9 m c) := by
  refine cut_9 t _ _ fun k y h => ?_
  rw [pay3_apply, hg k y h, h7, sc_eq, sc_eq]
  unfold partU
  rw [part_eight]
  rfl

/-- The codes of a block of the gate's gradient are the array's. -/
theorem code_6 (t : Fin cfg0.N) (X : Vec Ideal S1024x512 .f32)
    (hX : ∀ (r : Fin 1024) (y : Fin 512) (h : t.val / 8 * 512 + y.val < 5504), X (ix2 r y) = m ((c : Thread nD τ).loc main_arg4) (ix2 (row t r) (col t y h))) :
    win0_6.cut (grid0.coords t) (k0_pay6 (F := Ideal) X (sc (m ((c : Thread nD τ).loc main_arg0))))
      = (win0_6.blk t).view.read (Elt Ideal) (G6 m c) := by
  refine cut_6 t _ _ fun r y h => ?_
  rw [pay6_apply, hX r y h, sc_eq]
  rfl

/-- The codes of a block of the up projection's gradient are the array's. -/
theorem code_7 (t : Fin cfg0.N) (X : Vec Ideal S1024x512 .f32)
    (hX : ∀ (r : Fin 1024) (y : Fin 512) (h : t.val / 8 * 512 + y.val < 5504), X (ix2 r y) = m ((c : Thread nD τ).loc main_arg5) (ix2 (row t r) (col t y h))) :
    win0_7.cut (grid0.coords t) (k0_pay7 (F := Ideal) X (sc (m ((c : Thread nD τ).loc main_arg1))))
      = (win0_7.blk t).view.read (Elt Ideal) (G7 m c) := by
  refine cut_7 t _ _ fun r y h => ?_
  rw [pay7_apply, hX r y h, sc_eq]
  rfl

end Cert.WgradIdeal
-- ==== Proof.WgradDat.lean ====
/- The kernel `WgradIdeal` at the extended reals: what every point of its grid leaves, and the launch. -/
module

public import proofs.«01_k».proof.Proof.WgradAcc
public import Idealize.ShloMosaic.Lib.Exec

@[expose] public section

set_option maxRecDepth 16384

noncomputable section

namespace Cert.WgradIdeal

open Cert.WgradIdeal.Gen Cert.WgradMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

local notation "𝕄" => MT nD τ sig Unit (Elt Ideal) ℕ (UR sig nD τ) ℕ

variable (m : (ℓ : Loc nD τ sig) → Buf (Elt Ideal) ℓ) (c : Dev nD)

/-- Between two points: the accumulators, at what has been summed so far, and the generator register. -/
def Phi (n : ℕ) : sProp 𝕄 :=
  iprop(∃ s0, ∃ s1, ⌜Inv m c n s0 s1⌝
    ∗ owns (c : Thread nD τ) (Memref.whole cc0_scratch0 : Memref sig .tc .vmem S2048x512 .f32) fullShare s0
    ∗ owns (c : Thread nD τ) (Memref.whole cc0_scratch1 : Memref sig .tc .vmem S2048x512 .f32) fullShare s1
    ∗ (∃ r, prngReg c r))

/-- The proof data: an input's buffer holds its block, an output's the block of the array that the launch leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) (fun _ => Classical.arbitrary _) (iblk m c 4 t)
    | ⟨5, _⟩ => win0_5.fill (grid0.coords t) (fun _ => Classical.arbitrary _) (iblk m c 5 t)
    | ⟨6, _⟩ => win0_6.fill (grid0.coords t) (fun _ => Classical.arbitrary _) ((win0_6.blk t).view.read (Elt Ideal) (G6 m c))
    | ⟨7, _⟩ => win0_7.fill (grid0.coords t) (fun _ => Classical.arbitrary _) ((win0_7.blk t).view.read (Elt Ideal) (G7 m c))
    | ⟨8, _⟩ => win0_8.fill (grid0.coords t) (fun _ => Classical.arbitrary _) ((win0_8.blk t).view.read (Elt Ideal) (G8 m c))
    | ⟨9, _⟩ => win0_9.fill (grid0.coords t) (fun _ => Classical.arbitrary _) ((win0_9.blk t).view.read (Elt Ideal) (G9 m c))
  Φ n := Phi m c n.val
  q _ := fullShare
  owed _ := 0

theorem A_eq (c : Dev nD) (w : Fin cfg0.W) : (dats m 0 c).A w = V m c (Pipeline.arrRef spec0 w) := by dsimp only [dats]

theorem after_0 (t : Fin cfg0.N) : (dats m 0 c).after 0 t = iblk m c 0 t := by dsimp only [dats]

theorem before_0 (t : Fin cfg0.N) (d) : (dats m 0 c).before 0 t d = m ((c : Thread nD τ).loc main_arg0) :=
  (before0_0_of m (dats m 0 c) (A_eq m c 0) (after_0 m c) t d).trans (iblk_0 m c t)

theorem leaves_0 (t : Fin cfg0.N) :
    (dats m 0 c).leaves 0 t = owns (c : Thread nD τ) (win0_0.stage (cfg0.slots t 0)) fullShare (m ((c : Thread nD τ).loc main_arg0)) := by
  refine Eq.trans (b := owns (c : Thread nD τ) (win0_0.stage (cfg0.slots t 0)) fullShare ((dats m 0 c).after 0 t)) rfl ?_
  rw [after_0, iblk_0]

theorem after_1 (t : Fin cfg0.N) : (dats m 0 c).after 1 t = iblk m c 1 t := by dsimp only [dats]

theorem before_1 (t : Fin cfg0.N) (d) : (dats m 0 c).before 1 t d = m ((c : Thread nD τ).loc main_arg1) :=
  (before0_1_of m (dats m 0 c) (A_eq m c 1) (after_1 m c) t d).trans (iblk_1 m c t)

theorem leaves_1 (t : Fin cfg0.N) :
    (dats m 0 c).leaves 1 t = owns (c : Thread nD τ) (win0_1.stage (cfg0.slots t 1)) fullShare (m ((c : Thread nD τ).loc main_arg1)) := by
  refine Eq.trans (b := owns (c : Thread nD τ) (win0_1.stage (cfg0.slots t 1)) fullShare ((dats m 0 c).after 1 t)) rfl ?_
  rw [after_1, iblk_1]

theorem after_2 (t : Fin cfg0.N) : (dats m 0 c).after 2 t = iblk m c 2 t := by dsimp only [dats]

theorem before_2 (t : Fin cfg0.N) (d) : (dats m 0 c).before 2 t d = m ((c : Thread nD τ).loc main_arg2) :=
  (before0_2_of m (dats m 0 c) (A_eq m c 2) (after_2 m c) t d).trans (iblk_2 m c t)

theorem leaves_2 (t : Fin cfg0.N) :
    (dats m 0 c).leaves 2 t = owns (c : Thread nD τ) (win0_2.stage (cfg0.slots t 2)) fullShare (m ((c : Thread nD τ).loc main_arg2)) := by
  refine Eq.trans (b := owns (c : Thread nD τ) (win0_2.stage (cfg0.slots t 2)) fullShare ((dats m 0 c).after 2 t)) rfl ?_
  rw [after_2, iblk_2]

theorem after_3 (t : Fin cfg0.N) : (dats m 0 c).after 3 t = iblk m c 3 t := by dsimp only [dats]

theorem before_3 (t : Fin cfg0.N) (d) : (dats m 0 c).before 3 t d = m ((c : Thread nD τ).loc main_arg3) :=
  (before0_3_of m (dats m 0 c) (A_eq m c 3) (after_3 m c) t d).trans (iblk_3 m c t)

theorem leaves_3 (t : Fin cfg0.N) :
    (dats m 0 c).leaves 3 t = owns (c : Thread nD τ) (win0_3.stage (cfg0.slots t 3)) fullShare (m ((c : Thread nD τ).loc main_arg3)) := by
  refine Eq.trans (b := owns (c : Thread nD τ) (win0_3.stage (cfg0.slots t 3)) fullShare ((dats m 0 c).after 3 t)) rfl ?_
  rw [after_3, iblk_3]

theorem cutafter_4 (t : Fin cfg0.N) : win0_4.cut (grid0.coords t) ((dats m 0 c).after 4 t) = iblk m c 4 t := by
  dsimp only [dats]
  exact win0_4.cut_fill _ _ _

theorem before_4 (t : Fin cfg0.N) (d) : (dats m 0 c).before 4 t d = win0_4.fill (grid0.coords t) d (iblk m c 4 t) := by
  unfold Dat.before
  rw [if_pos (fetch0_4 t)]
  rfl

theorem cutafter_5 (t : Fin cfg0.N) : win0_5.cut (grid0.coords t) ((dats m 0 c).after 5 t) = iblk m c 5 t := by
  dsimp only [dats]
  exact win0_5.cut_fill _ _ _

theorem before_5 (t : Fin cfg0.N) (d) : (dats m 0 c).before 5 t d = win0_5.fill (grid0.coords t) d (iblk m c 5 t) := by
  unfold Dat.before
  rw [if_pos (fetch0_5 t)]
  rfl

theorem cutafter_6 (t : Fin cfg0.N) :
    win0_6.cut (grid0.coords t) ((dats m 0 c).after 6 t) = (win0_6.blk t).view.read (Elt Ideal) (G6 m c) := by
  dsimp only [dats]
  exact win0_6.cut_fill _ _ _

theorem cutafter_7 (t : Fin cfg0.N) :
    win0_7.cut (grid0.coords t) ((dats m 0 c).after 7 t) = (win0_7.blk t).view.read (Elt Ideal) (G7 m c) := by
  dsimp only [dats]
  exact win0_7.cut_fill _ _ _

theorem cutafter_8 (t : Fin cfg0.N) :
    win0_8.cut (grid0.coords t) ((dats m 0 c).after 8 t) = (win0_8.blk t).view.read (Elt Ideal) (G8 m c) := by
  dsimp only [dats]
  exact win0_8.cut_fill _ _ _

theorem cutafter_9 (t : Fin cfg0.N) :
    win0_9.cut (grid0.coords t) ((dats m 0 c).after 9 t) = (win0_9.blk t).view.read (Elt Ideal) (G9 m c) := by
  dsimp only [dats]
  exact win0_9.cut_fill _ _ _

/-- A buffer that agrees with the data where the block lies in the array is what the body is to leave. -/
theorem leaves_of_cut (w : Fin cfg0.W) (t : Fin cfg0.N) (hi : cfg0.idle w (grid0.coords t) = false) (hl : cfg0.loose w = true)
    (X : (cfg0.win w).block.Idx → Elt Ideal (cfg0.win w).elt)
    (hX : (cfg0.win w).cut (grid0.coords t) X = (cfg0.win w).cut (grid0.coords t) ((dats m 0 c).after w t)) :
    (owns (c : Thread nD τ) ((cfg0.win w).stage (cfg0.slots t w)) fullShare X : sProp 𝕄) ⊢ (dats m 0 c).leaves w t := by
  unfold Dat.leaves
  rw [show cfg0.idle w (cfg0.grid.coords t) = false from hi, hl]
  show (owns (c : Thread nD τ) ((cfg0.win w).stage (cfg0.slots t w)) fullShare X : sProp 𝕄)
    ⊢ iprop(∃ d, owns (c : Thread nD τ) ((cfg0.win w).stage (cfg0.slots t w)) fullShare ((cfg0.win w).fill (grid0.coords t) d ((cfg0.win w).cut (grid0.coords t) ((dats m 0 c).after w t))))
  iintro H
  iexists X
  rw [← hX, (cfg0.win w).fill_cut]
  iexact H

theorem idle_8 : ∀ t : Fin cfg0.N, t.val % 8 ≠ 7 → cfg0.idle 8 (grid0.coords t) = true ∧ win0_8.flush t = false :=
  (by decide +kernel : ∀ t : Fin grid0.N, t.val % 8 ≠ 7 → idle0 8 (grid0.coords t) = true ∧ win0_8.flush t = false)
theorem idle_9 : ∀ t : Fin cfg0.N, t.val % 8 ≠ 7 → cfg0.idle 9 (grid0.coords t) = true ∧ win0_9.flush t = false :=
  (by decide +kernel : ∀ t : Fin grid0.N, t.val % 8 ≠ 7 → idle0 9 (grid0.coords t) = true ∧ win0_9.flush t = false)
theorem live_8 : ∀ t : Fin cfg0.N, t.val % 8 = 7 → cfg0.idle 8 (grid0.coords t) = false :=
  (by decide +kernel : ∀ t : Fin grid0.N, t.val % 8 = 7 → idle0 8 (grid0.coords t) = false)
theorem live_9 : ∀ t : Fin cfg0.N, t.val % 8 = 7 → cfg0.idle 9 (grid0.coords t) = false :=
  (by decide +kernel : ∀ t : Fin grid0.N, t.val % 8 = 7 → idle0 9 (grid0.coords t) = false)

/-- What the body leaves in window 8: the array's block at the last block of rows, before that what it found. -/
theorem give_8 (t : Fin cfg0.N) (d) (g : Vec Ideal S2048x512 .f32)
    (hg : ∀ (k : Fin 2048) (y : Fin 512) (h : t.val / 8 * 512 + y.val < 5504), g (ix2 k y) = partG m c k (col t y h) (t.val % 8 + 1)) :
    (owns (c : Thread nD τ) (win0_8.stage (cfg0.slots t 8)) fullShare (newDg (F := Ideal) (grid0.coords t) (m ((c : Thread nD τ).loc main_arg0)) (m ((c : Thread nD τ).loc main_arg2)) g ((dats m 0 c).before 8 t d)) : sProp 𝕄)
      ⊢ (dats m 0 c).leaves 8 t := by
  by_cases h7 : t.val % 8 = 7
  · rw [newDg_last (h := (isLast_iff t).mpr h7)]
    exact leaves_of_cut m c 8 t (live_8 t h7) rfl _ ((last_8 m c t h7 g hg).trans (cutafter_8 m c t).symm)
  · rw [newDg_idle (h := fun hl => h7 ((isLast_iff t).mp hl)), (dats m 0 c).leaves_idle 8 t (idle_8 t h7).1 (idle_8 t h7).2]
    iintro H
    iexists d
    iexact H

/-- What the body leaves in window 9: the array's block at the last block of rows, before that what it found. -/
theorem give_9 (t : Fin cfg0.N) (d) (g : Vec Ideal S2048x512 .f32)
    (hg : ∀ (k : Fin 2048) (y : Fin 512) (h : t.val / 8 * 512 + y.val < 5504), g (ix2 k y) = partU m c k (col t y h) (t.val % 8 + 1)) :
    (owns (c : Thread nD τ) (win0_9.stage (cfg0.slots t 9)) fullShare (newDu (F := Ideal) (grid0.coords t) (m ((c : Thread nD τ).loc main_arg1)) (m ((c : Thread nD τ).loc main_arg2)) g ((dats m 0 c).before 9 t d)) : sProp 𝕄)
      ⊢ (dats m 0 c).leaves 9 t := by
  by_cases h7 : t.val % 8 = 7
  · rw [newDu_last (h := (isLast_iff t).mpr h7)]
    exact leaves_of_cut m c 9 t (live_9 t h7) rfl _ ((last_9 m c t h7 g hg).trans (cutafter_9 m c t).symm)
  · rw [newDu_idle (h := fun hl => h7 ((isLast_iff t).mp hl)), (dats m 0 c).leaves_idle 9 t (idle_9 t h7).1 (idle_9 t h7).2]
    iintro H
    iexists d
    iexact H

/-- The two scratch buffers as the body names them. -/
theorem PhiA_eq (c : Dev nD) :
    (Pipeline.ΦA spec0 c : sProp 𝕄)
      = iprop(iprop((∃ d, owns (c : Thread nD τ) (Memref.whole cc0_scratch0 : Memref sig .tc .vmem S2048x512 .f32) fullShare d)
          ∗ (∃ d, owns (c : Thread nD τ) (Memref.whole cc0_scratch1 : Memref sig .tc .vmem S2048x512 .f32) fullShare d)) ∗ (∃ r, prngReg c r)) := by
  unfold Pipeline.ΦA; rw [scopedRest0_eq]; simp only [owns_whole]; try rfl

/-- Before the first point the accumulators may hold anything. -/
theorem Phi_in : (Pipeline.ΦA spec0 c : sProp 𝕄) ⊢ Phi m c 0 := by
  rw [PhiA_eq]
  unfold Phi
  iintro ⟨⟨⟨%s0, H0⟩, ⟨%s1, H1⟩⟩, HR⟩
  iexists s0
  iexists s1
  isplitr
  · ipureintro
    exact fun h => absurd rfl h
  isplitl [H0]; · iexact H0
  isplitl [H1]; · iexact H1
  iexact HR

/-- What the accumulators hold is forgotten. -/
theorem Phi_out (n : ℕ) : Phi m c n ⊢ (Pipeline.ΦA spec0 c : sProp 𝕄) := by
  rw [PhiA_eq]
  unfold Phi
  iintro ⟨%s0, %s1, %hI, H0, H1, HR⟩
  isplitl [H0 H1]
  · isplitl [H0]
    · iexists s0; iexact H0
    · iexists s1; iexact H1
  · iexact HR

/-- The body table's row at a point is the body at its buffers. -/
theorem defs₀_row (t : Fin cfg0.N) :
    defs₀ (F := Ideal) .tc cfg0.body (cfg0.bodyArgs t (cfg0.slots t)) = bodyAt0 t := by
  unfold defs₀; rw [Defs.onTc_tc]

/-- What the body is handed at a point. -/
abbrev pre (t : Fin cfg0.N) : sProp 𝕄 :=
  iprop((∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)))

/-- What the body gives back at a point. -/
abbrev post (t : Fin cfg0.N) : sProp 𝕄 :=
  iprop((dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t)

/-- The body at a point. -/
theorem sound_body (t : Fin cfg0.N) (J : sProp 𝕄) :
    iprop(Phi m c t.val ∗ J ∗ pre m c t) ⊢ wp frame (wpE (defs₀ (F := Ideal)) Variants.none c none) Set.univ (bodyAt0 t)
      fun _ => iprop(Phi m c (t.val + 1) ∗ J ∗ post m c t) := by
  unfold pre post Phi
  simp only [before_0, before_1, before_2, before_3, before_4, before_5, leaves_0, leaves_1, leaves_2, leaves_3]
  iintro ⟨⟨%s0, %s1, %hI, HS0, HS1, HR⟩, HJ, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) _ (Memref.isWhole_whole _) _ (Memref.isWhole_whole _) (m ((c : Thread nD τ).loc main_arg0)) (m ((c : Thread nD τ).loc main_arg1)) (m ((c : Thread nD τ).loc main_arg2)) (m ((c : Thread nD τ).loc main_arg3)) (win0_4.fill (grid0.coords t) d4 (iblk m c 4 t)) (win0_5.fill (grid0.coords t) d5 (iblk m c 5 t)) ((dats m 0 c).before 8 t d8) ((dats m 0 c).before 9 t d9) s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  have hG := newG_apply m c t s0 s1 hI _ (fill_4 m c t d4)
  have hU := newU_apply m c t s0 s1 hI _ (fill_5 m c t d5)
  isplitl [HS0 HS1 HR]
  · iexists _
    iexists _
    isplitr
    · ipureintro
      exact Inv_succ m c t _ _ hG hU
    isplitl [HS0]; · iexact HS0
    isplitl [HS1]; · iexact HS1
    iexact HR
  isplitl [HJ]; · iexact HJ
  isplitl [H0]; · iexact H0
  isplitl [H1]; · iexact H1
  isplitl [H2]; · iexact H2
  isplitl [H3]; · iexact H3
  isplitl [H4]
  · iapply (leaves_of_cut m c 4 t rfl rfl (win0_4.fill (grid0.coords t) d4 (iblk m c 4 t)) ((win0_4.cut_fill _ _ _).trans (cutafter_4 m c t).symm))
    iexact H4
  isplitl [H5]
  · iapply (leaves_of_cut m c 5 t rfl rfl (win0_5.fill (grid0.coords t) d5 (iblk m c 5 t)) ((win0_5.cut_fill _ _ _).trans (cutafter_5 m c t).symm))
    iexact H5
  isplitl [H6]
  · iapply (leaves_of_cut m c 6 t rfl rfl _ ((code_6 m c t _ (fill_4 m c t d4)).trans (cutafter_6 m c t).symm))
    iexact H6
  isplitl [H7]
  · iapply (leaves_of_cut m c 7 t rfl rfl _ ((code_7 m c t _ (fill_5 m c t d5)).trans (cutafter_7 m c t).symm))
    iexact H7
  isplitl [H8]
  · iapply (give_8 m c t d8 _ hG)
    iexact H8
  iapply (give_9 m c t d9 _ hU)
  iexact H9

/-- The body obligation. -/
theorem body_obligation (c : Dev nD) : BodyObligationLoose (dats m 0 c) (defs₀ (F := Ideal)) Variants.none () Set.univ := fun t => by
  rw [bigSep_W0, bigSep_W0, defs₀_row]
  exact sound_body m c t _

variable (ρ : Dev nD → PrngReg)

set_option backward.isDefEq.respectTransparency.types false in
set_option maxHeartbeats 800000 in
/-- The launch: every array as the data say and every counter at zero. -/
theorem run_main_quiescent : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := fun _ _ => rfl)
    (hin := fun c => Phi_in m c) (hout := fun c => Phi_out m c _)

theorem run_main : θ_run defs (onTc (τ := τ) (main (F := Ideal))) (s₀ m ρ) (Pipeline.FramePost cfgs (dats m) 0 (V m)) :=
  (θ_run defs _ _).mono (fun _ h => h.1) (run_main_quiescent m ρ)

end Cert.WgradIdeal
-- ==== Proof.WgradFin.lean ====
/- The result arrays of `WgradIdeal`, and its frame. -/
module

public import proofs.«01_k».proof.Proof.WgradDat
public import Idealize.ShloMosaic.Lib.Claim

@[expose] public section

set_option maxRecDepth 16384

noncomputable section

namespace Cert.WgradIdeal

open Idealize.ShloMosaic Idealize.ShloMosaic.TcCoe Idealize.SL.Sem Cert.WgradIdeal.Gen Cert.WgradMath
open Idealize.ShloMosaic.Pipeline (Dat)

variable (m : (ℓ : Loc nD τ sig) → Buf (Elt Ideal) ℓ) (c : Dev nD) (ρ : Dev nD → PrngReg)

theorem covers_6 : win0_6.Covers := by decide +kernel

theorem final_6 : (dats m 0 c).arrAt 6 cfg0.N = G6 m c := by
  refine (dats m 0 c).arrAt_eq_of_covers 6 (G6 m c) covers_6 fun t hf y => ?_
  exact congrFun (cutafter_6 m c t) y

theorem covers_7 : win0_7.Covers := by decide +kernel

theorem final_7 : (dats m 0 c).arrAt 7 cfg0.N = G7 m c := by
  refine (dats m 0 c).arrAt_eq_of_covers 7 (G7 m c) covers_7 fun t hf y => ?_
  exact congrFun (cutafter_7 m c t) y

theorem covers_8 : win0_8.Covers := by decide +kernel

theorem final_8 : (dats m 0 c).arrAt 8 cfg0.N = G8 m c := by
  refine (dats m 0 c).arrAt_eq_of_covers 8 (G8 m c) covers_8 fun t hf y => ?_
  exact congrFun (cutafter_8 m c t) y

theorem covers_9 : win0_9.Covers := by decide +kernel

theorem final_9 : (dats m 0 c).arrAt 9 cfg0.N = G9 m c := by
  refine (dats m 0 c).arrAt_eq_of_covers 9 (G9 m c) covers_9 fun t hf y => ?_
  exact congrFun (cutafter_9 m c t) y

theorem run (ρ : Dev nD → PrngReg) : θ_run defs (onTc (τ := τ) (main (F := Ideal))) ⟨m, fun _ => 0, ρ⟩ (fun r => ∀ c : Dev nD,
    r.2.mem ((c.tc : Thread nD τ).loc main_v0_0) = G6 m c ∧ r.2.mem ((c.tc : Thread nD τ).loc main_v0_1) = G7 m c
    ∧ r.2.mem ((c.tc : Thread nD τ).loc main_v0_2) = G8 m c ∧ r.2.mem ((c.tc : Thread nD τ).loc main_v0_3) = G9 m c) :=
  (θ_run defs _ _).mono (fun _ h c => ⟨((h c).1 6).trans (final_6 m c), ((h c).1 7).trans (final_7 m c), ((h c).1 8).trans (final_8 m c),
    ((h c).1 9).trans (final_9 m c)⟩) (run_main m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_of m ρ (dats m) (A_eq m) (run_main m ρ)

/-- The frame: the arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.WgradIdeal
-- ==== Proof.WgradRefVal.lean ====
/- What the reference `WgradRefIdeal` leaves in its four result arrays, as functions of its arguments. -/
module

public import proofs.«01_k».proof.Proof.WgradMath
public import proofs.«01_k».proof.Proof.Gen.WgradRefIdeal.Value
public import Idealize.ShloMosaic.Lib.Pipeline.ValueKit.Geometry

@[expose] public section

set_option maxRecDepth 16384

noncomputable section

namespace Cert.WgradRefIdeal

open Idealize.ShloMosaic Idealize.ShloMosaic.TcCoe Idealize.SL.Sem Cert.WgradRefIdeal.Gen Cert.WgradMath
open Idealize.ShloMosaic.Pipeline (Dat)

theorem hz : (![0, 0] : Fin 2 → Nat) = fun _ => 0 := funext fun a => by fin_cases a <;> rfl

/-- The load of the one element of a one-element vector. -/
def sc (x : Vec Ideal S1 .f32) : EReal := View.ld x (Rect.unit (s := S1) ![0] S1.size inb_S1_S1_0) (Shape.Idx.first (by decide))

theorem sc_eq (x : Vec Ideal S1 .f32) : sc x = x (ix1 0) := by
  unfold sc
  pointwise

theorem pay2_apply (v : Vec Ideal S8192x5504 .f32) (s : EReal) (r : Fin 8192) (f : Fin 5504) :
    k0_pay2 (F := Ideal) v s (ix2 r f) = code (v (ix2 r f)) s := by
  unfold code
  pointwise [k0_pay2]

theorem pay3_apply (v : Vec Ideal S8192x5504 .f32) (s : EReal) (r : Fin 8192) (f : Fin 5504) :
    k0_pay3 (F := Ideal) v s (ix2 r f) = code (v (ix2 r f)) s := by
  unfold code
  pointwise [k0_pay3]

/-- A product of the transposed codes and an array, at an entry. -/
theorem mm_apply (a : Vec Ideal S8192x2048 .fp8e4m3) (b : Vec Ideal S8192x5504 .fp8e5m2) (k : Fin 2048) (f : Fin 5504) :
    matmul (F := Ideal) (φ₁ := .fp8e4m3) (φ₂ := .fp8e5m2) dot_S8192x2048_S8192x5504_S2048x5504_0_0_1_1_n_n none a b (constant S2048x5504 .f32 0x00000000#32) (ix2 k f)
      = ∑ r : Fin 8192, a (ix2 r k) * b (ix2 r f) := by
  pointwise

theorem pay4_apply (v0 : Vec Ideal S8192x5504 .f32) (v1 : EReal) (v20 : Vec Ideal S8192x2048 .fp8e4m3) (v22 v25 : EReal) (k : Fin 2048) (f : Fin 5504) :
    k0_pay4 (F := Ideal) v0 v1 v20 v22 v25 (ix2 k f) = dot (fun r => v20 (ix2 r k)) (fun r => v0 (ix2 r f)) v1 * v22 * v25 := by
  refine Eq.trans (b := matmul (F := Ideal) (φ₁ := .fp8e4m3) (φ₂ := .fp8e5m2) dot_S8192x2048_S8192x5504_S2048x5504_0_0_1_1_n_n none v20 (k0_pay2 v0 v1) (constant S2048x5504 .f32 0x00000000#32) (ix2 k f) * v22 * v25) rfl ?_
  rw [mm_apply]
  simp only [pay2_apply]
  rfl

theorem pay15_apply (v0 : Vec Ideal S8192x5504 .f32) (v1 : EReal) (v20 : Vec Ideal S8192x2048 .fp8e4m3) (v22 v25 : EReal) (k : Fin 2048) (f : Fin 5504) :
    k0_pay1 (F := Ideal) (k0_pay5 v0 v1 v20) v22 v25 (ix2 k f) = dot (fun r => v20 (ix2 r k)) (fun r => v0 (ix2 r f)) v1 * v22 * v25 := by
  refine Eq.trans (b := matmul (F := Ideal) (φ₁ := .fp8e4m3) (φ₂ := .fp8e5m2) dot_S8192x2048_S8192x5504_S2048x5504_0_0_1_1_n_n none v20 (k0_pay3 v0 v1) (constant S2048x5504 .f32 0x00000000#32) (ix2 k f) * v22 * v25) rfl ?_
  rw [mm_apply]
  simp only [pay3_apply]
  rfl

section Body
variable (c : Dev nD) (a0 : Memref sig .tc .smem S1 .f32) (h0 : a0.IsWhole) (a1 : Memref sig .tc .smem S1 .f32) (h1 : a1.IsWhole) (a2 : Memref sig .tc .smem S1 .f32) (h2 : a2.IsWhole) (a3 : Memref sig .tc .vmem S8192x2048 .fp8e4m3) (h3 : a3.IsWhole) (a4 : Memref sig .tc .vmem S8192x5504 .f32) (h4 : a4.IsWhole) (a5 : Memref sig .tc .vmem S8192x5504 .f32) (h5 : a5.IsWhole) (a6 : Memref sig .tc .vmem S8192x5504 .fp8e5m2) (h6 : a6.IsWhole) (a7 : Memref sig .tc .vmem S8192x5504 .fp8e5m2) (h7 : a7.IsWhole) (a8 : Memref sig .tc .vmem S2048x5504 .bf16) (h8 : a8.IsWhole) (a9 : Memref sig .tc .vmem S2048x5504 .bf16) (h9 : a9.IsWhole)
  (x0 : Vec Ideal S1 .f32) (x1 : Vec Ideal S1 .f32) (x2 : Vec Ideal S1 .f32) (x3 : Vec Ideal S8192x2048 .fp8e4m3) (x4 : Vec Ideal S8192x5504 .f32) (x5 : Vec Ideal S8192x5504 .f32)

theorem out_6 : out0_A_6 (F := Ideal) c a0 h0 a1 h1 a2 h2 a3 h3 a4 h4 a5 h5 a6 h6 a7 h7 a8 h8 a9 h9 x0 x1 x2 x3 x4 x5 = k0_pay2 (F := Ideal) x4 (sc x0) := by
  unfold out0_A_6
  rw [View.read_writes_eq_canon _ _ _ (cover0_A_6 c a0 h0 a1 h1 a2 h2 a3 h3 a4 h4 a5 h5 a6 h6 a7 h7 a8 h8 a9 h9 x0 x1 x2 x3 x4 x5)]
  unfold kernelRun0_A
  dsimp only
  sl_unfold_words
  rw [View.canon_unit_zero hz]
  simp only [View.readAt_eq_ld, h0.read_unread, h1.read_unread, h2.read_unread, h3.read_unread, h4.read_unread, h5.read_unread, View.ld_unit_zero (S := S8192x5504) hz, View.ld_unit_zero (S := S8192x2048) hz]
  rfl

theorem out_7 : out0_A_7 (F := Ideal) c a0 h0 a1 h1 a2 h2 a3 h3 a4 h4 a5 h5 a6 h6 a7 h7 a8 h8 a9 h9 x0 x1 x2 x3 x4 x5 = k0_pay3 (F := Ideal) x5 (sc x1) := by
  unfold out0_A_7
  rw [View.read_writes_eq_canon _ _ _ (cover0_A_7 c a0 h0 a1 h1 a2 h2 a3 h3 a4 h4 a5 h5 a6 h6 a7 h7 a8 h8 a9 h9 x0 x1 x2 x3 x4 x5)]
  unfold kernelRun0_A
  dsimp only
  sl_unfold_words
  rw [View.canon_unit_zero hz]
  simp only [View.readAt_eq_ld, h0.read_unread, h1.read_unread, h2.read_unread, h3.read_unread, h4.read_unread, h5.read_unread, View.ld_unit_zero (S := S8192x5504) hz, View.ld_unit_zero (S := S8192x2048) hz]
  rfl

theorem out_8 : out0_A_8 (F := Ideal) c a0 h0 a1 h1 a2 h2 a3 h3 a4 h4 a5 h5 a6 h6 a7 h7 a8 h8 a9 h9 x0 x1 x2 x3 x4 x5 = k0_pay4 (F := Ideal) x4 (sc x0) x3 (sc x2) (sc x0) := by
  unfold out0_A_8
  rw [View.read_writes_eq_canon _ _ _ (cover0_A_8 c a0 h0 a1 h1 a2 h2 a3 h3 a4 h4 a5 h5 a6 h6 a7 h7 a8 h8 a9 h9 x0 x1 x2 x3 x4 x5)]
  unfold kernelRun0_A
  dsimp only
  sl_unfold_words
  rw [View.canon_unit_zero hz]
  simp only [View.readAt_eq_ld, h0.read_unread, h1.read_unread, h2.read_unread, h3.read_unread, h4.read_unread, h5.read_unread, View.ld_unit_zero (S := S8192x5504) hz, View.ld_unit_zero (S := S8192x2048) hz]
  rfl

theorem out_9 : out0_A_9 (F := Ideal) c a0 h0 a1 h1 a2 h2 a3 h3 a4 h4 a5 h5 a6 h6 a7 h7 a8 h8 a9 h9 x0 x1 x2 x3 x4 x5 = k0_pay1 (F := Ideal) (k0_pay5 x5 (sc x1) x3) (sc x2) (sc x1) := by
  unfold out0_A_9
  rw [View.read_writes_eq_canon _ _ _ (cover0_A_9 c a0 h0 a1 h1 a2 h2 a3 h3 a4 h4 a5 h5 a6 h6 a7 h7 a8 h8 a9 h9 x0 x1 x2 x3 x4 x5)]
  unfold kernelRun0_A
  dsimp only
  sl_unfold_words
  rw [View.canon_unit_zero hz]
  simp only [View.readAt_eq_ld, h0.read_unread, h1.read_unread, h2.read_unread, h3.read_unread, h4.read_unread, h5.read_unread, View.ld_unit_zero (S := S8192x5504) hz, View.ld_unit_zero (S := S8192x2048) hz]
  rfl

end Body

variable (m : (ℓ : Loc nD τ sig) → Buf (Elt Ideal) ℓ) (c : Dev nD)

theorem idx_0 : ∀ t : Fin cfg0.N, win0_0.index t = ![0] := (by decide +kernel : ∀ t : Fin grid0.N, _)

theorem iblk_0 (t : Fin cfg0.N) : (iblk m c 0 t : Vec Ideal S1 .f32) = m ((c : Thread nD τ).loc main_arg0) := by
  funext i
  blk_simp [iblk, idx_0]
  rw [V_main_arg0]
  congr 1
  blk_ext [idx_0]

theorem idx_1 : ∀ t : Fin cfg0.N, win0_1.index t = ![0] := (by decide +kernel : ∀ t : Fin grid0.N, _)

theorem iblk_1 (t : Fin cfg0.N) : (iblk m c 1 t : Vec Ideal S1 .f32) = m ((c : Thread nD τ).loc main_arg1) := by
  funext i
  blk_simp [iblk, idx_1]
  rw [V_main_arg1]
  congr 1
  blk_ext [idx_1]

theorem idx_2 : ∀ t : Fin cfg0.N, win0_2.index t = ![0] := (by decide +kernel : ∀ t : Fin grid0.N, _)

theorem iblk_2 (t : Fin cfg0.N) : (iblk m c 2 t : Vec Ideal S1 .f32) = m ((c : Thread nD τ).loc main_arg2) := by
  funext i
  blk_simp [iblk, idx_2]
  rw [V_main_arg2]
  congr 1
  blk_ext [idx_2]

theorem idx_3 : ∀ t : Fin cfg0.N, win0_3.index t = ![0, 0] := (by decide +kernel : ∀ t : Fin grid0.N, _)

theorem iblk_3 (t : Fin cfg0.N) : (iblk m c 3 t : Vec Ideal S8192x2048 .fp8e4m3) = m ((c : Thread nD τ).loc main_arg3) := by
  funext i
  blk_simp [iblk, idx_3]
  rw [V_main_arg3]
  congr 1
  blk_ext [idx_3]

theorem idx_4 : ∀ t : Fin cfg0.N, win0_4.index t = ![0, 0] := (by decide +kernel : ∀ t : Fin grid0.N, _)

theorem iblk_4 (t : Fin cfg0.N) : (iblk m c 4 t : Vec Ideal S8192x5504 .f32) = m ((c : Thread nD τ).loc main_arg4) := by
  funext i
  blk_simp [iblk, idx_4]
  rw [V_main_arg4]
  congr 1
  blk_ext [idx_4]

theorem idx_5 : ∀ t : Fin cfg0.N, win0_5.index t = ![0, 0] := (by decide +kernel : ∀ t : Fin grid0.N, _)

theorem iblk_5 (t : Fin cfg0.N) : (iblk m c 5 t : Vec Ideal S8192x5504 .f32) = m ((c : Thread nD τ).loc main_arg5) := by
  funext i
  blk_simp [iblk, idx_5]
  rw [V_main_arg5]
  congr 1
  blk_ext [idx_5]

/-- The codes of the gate's gradient. -/
def G6 : Vec Ideal S8192x5504 .fp8e5m2 := fun i =>
  code (m ((c : Thread nD τ).loc main_arg4) (ix2 (i 0) (i 1))) (m ((c : Thread nD τ).loc main_arg0) (ix1 0))

/-- The codes of the up projection's gradient. -/
def G7 : Vec Ideal S8192x5504 .fp8e5m2 := fun i =>
  code (m ((c : Thread nD τ).loc main_arg5) (ix2 (i 0) (i 1))) (m ((c : Thread nD τ).loc main_arg1) (ix1 0))

/-- The gradient of the gate's weight. -/
def G8 : Vec Ideal S2048x5504 .bf16 := fun i =>
  grad (fun r => m ((c : Thread nD τ).loc main_arg3) (ix2 r (i 0))) (fun r => m ((c : Thread nD τ).loc main_arg4) (ix2 r (i 1)))
    (m ((c : Thread nD τ).loc main_arg2) (ix1 0)) (m ((c : Thread nD τ).loc main_arg0) (ix1 0))

/-- The gradient of the up projection's weight. -/
def G9 : Vec Ideal S2048x5504 .bf16 := fun i =>
  grad (fun r => m ((c : Thread nD τ).loc main_arg3) (ix2 r (i 0))) (fun r => m ((c : Thread nD τ).loc main_arg5) (ix2 r (i 1)))
    (m ((c : Thread nD τ).loc main_arg2) (ix1 0)) (m ((c : Thread nD τ).loc main_arg1) (ix1 0))

theorem outs_6 (t : Fin cfg0.N) : (outsAt0 m c t).1 = G6 m c := by
  unfold outsAt0
  dsimp only
  rw [out_6]
  funext i
  obtain ⟨r, k, rfl⟩ : ∃ (r : Fin 8192) (k : Fin 5504), i = ix2 r k := ⟨i 0, i 1, eq_ix2 i⟩
  rw [pay2_apply]
  simp only [sc_eq, iblk_0, iblk_4]
  rfl

theorem outs_7 (t : Fin cfg0.N) : (outsAt0 m c t).2.1 = G7 m c := by
  unfold outsAt0
  dsimp only
  rw [out_7]
  funext i
  obtain ⟨r, k, rfl⟩ : ∃ (r : Fin 8192) (k : Fin 5504), i = ix2 r k := ⟨i 0, i 1, eq_ix2 i⟩
  rw [pay3_apply]
  simp only [sc_eq, iblk_1, iblk_5]
  rfl

theorem outs_8 (t : Fin cfg0.N) : (outsAt0 m c t).2.2.1 = G8 m c := by
  unfold outsAt0
  dsimp only
  rw [out_8]
  funext i
  obtain ⟨r, k, rfl⟩ : ∃ (r : Fin 2048) (k : Fin 5504), i = ix2 r k := ⟨i 0, i 1, eq_ix2 i⟩
  rw [pay4_apply]
  simp only [sc_eq, iblk_0, iblk_2, iblk_3, iblk_4]
  rfl

theorem outs_9 (t : Fin cfg0.N) : (outsAt0 m c t).2.2.2 = G9 m c := by
  unfold outsAt0
  dsimp only
  rw [out_9]
  funext i
  obtain ⟨r, k, rfl⟩ : ∃ (r : Fin 2048) (k : Fin 5504), i = ix2 r k := ⟨i 0, i 1, eq_ix2 i⟩
  rw [pay15_apply]
  simp only [sc_eq, iblk_1, iblk_2, iblk_3, iblk_5]
  rfl

/-- The one point of the grid. -/
def pt : Fin cfg0.N := ⟨0, by decide⟩

theorem whole_6 : ∀ t : Fin cfg0.N, win0_6.WholeAt t := (by decide +kernel : ∀ t : Fin grid0.N, win0_6.WholeAt t)

theorem final_6 : (dats m 0 c).arrAt 6 cfg0.N = G6 m c := by
  funext i
  refine ((dats m 0 c).arrAt_emb_eq_after_last 6 pt (whole_6 _) i).trans ?_
  rw [after0_6, outs_6]
  rfl

theorem whole_7 : ∀ t : Fin cfg0.N, win0_7.WholeAt t := (by decide +kernel : ∀ t : Fin grid0.N, win0_7.WholeAt t)

theorem final_7 : (dats m 0 c).arrAt 7 cfg0.N = G7 m c := by
  funext i
  refine ((dats m 0 c).arrAt_emb_eq_after_last 7 pt (whole_7 _) i).trans ?_
  rw [after0_7, outs_7]
  rfl

theorem whole_8 : ∀ t : Fin cfg0.N, win0_8.WholeAt t := (by decide +kernel : ∀ t : Fin grid0.N, win0_8.WholeAt t)

theorem final_8 : (dats m 0 c).arrAt 8 cfg0.N = G8 m c := by
  funext i
  refine ((dats m 0 c).arrAt_emb_eq_after_last 8 pt (whole_8 _) i).trans ?_
  rw [after0_8, outs_8]
  rfl

theorem whole_9 : ∀ t : Fin cfg0.N, win0_9.WholeAt t := (by decide +kernel : ∀ t : Fin grid0.N, win0_9.WholeAt t)

theorem final_9 : (dats m 0 c).arrAt 9 cfg0.N = G9 m c := by
  funext i
  refine ((dats m 0 c).arrAt_emb_eq_after_last 9 pt (whole_9 _) i).trans ?_
  rw [after0_9, outs_9]
  rfl

theorem run (ρ : Dev nD → PrngReg) : θ_run defs (onTc (τ := τ) (main (F := Ideal))) ⟨m, fun _ => 0, ρ⟩ (fun r => ∀ c : Dev nD,
    r.2.mem ((c.tc : Thread nD τ).loc main_v0_0) = G6 m c ∧ r.2.mem ((c.tc : Thread nD τ).loc main_v0_1) = G7 m c
    ∧ r.2.mem ((c.tc : Thread nD τ).loc main_v0_2) = G8 m c ∧ r.2.mem ((c.tc : Thread nD τ).loc main_v0_3) = G9 m c) :=
  (θ_run defs _ _).mono (fun _ h c => ⟨(h c).1.trans (final_6 m c), (h c).2.1.trans (final_7 m c), (h c).2.2.1.trans (final_8 m c),
    (h c).2.2.2.1.trans (final_9 m c)⟩) (Cert.WgradRefIdeal.Value.run_blocks m ρ)

end Cert.WgradRefIdeal
-- ==== Proof.WgradEq.lean ====
/- `wgrad` and its reference compute the same four arrays. -/
module

public import proofs.«01_k».proof.Defs
public import proofs.«01_k».proof.Proof.WgradFin
public import proofs.«01_k».proof.Proof.WgradRefVal

@[expose] public section

set_option maxRecDepth 16384

noncomputable section

namespace Cert.WgradEq

open Idealize.ShloMosaic Idealize.ShloMosaic.TcCoe Idealize.SL.Sem

theorem algebraic : Cert.algebraic_WgradIdeal_WgradRefIdeal (hWgradIdeal := Cert.WgradIdeal.Gen.facts) (hWgradRefIdeal := Cert.WgradRefIdeal.Gen.facts) := by
  pair_intro
  · run_from Cert.WgradIdeal.run m g & Cert.WgradIdeal.unchanged m g
  · run_from Cert.WgradRefIdeal.run m' g' & Cert.WgradRefIdeal.Gen.unchanged m' g'
    · obtain ⟨a0, a1, a2, a3, a4, a5⟩ := hagree c
      unfold WgradRefIdeal.G6
      rw [a0, a4]
      rfl
    · obtain ⟨a0, a1, a2, a3, a4, a5⟩ := hagree c
      unfold WgradRefIdeal.G7
      rw [a1, a5]
      rfl
    · obtain ⟨a0, a1, a2, a3, a4, a5⟩ := hagree c
      unfold WgradRefIdeal.G8
      rw [a0, a2, a3, a4]
      rfl
    · obtain ⟨a0, a1, a2, a3, a4, a5⟩ := hagree c
      unfold WgradRefIdeal.G9
      rw [a1, a2, a3, a5]
      rfl

end Cert.WgradEq

end
-- ==== Proof.DownStep.lean ====
/- One grid step of the down-projection backward kernel `Down`: what its body leaves in each staging buffer and scratch. -/
module

public import proofs.«01_k».proof.Proof.Gen.Down.Frame
public import proofs.«01_k».proof.Proof.Gen.Down.Skeleton
public import Idealize.ShloMosaic.Lib.VecWindow
public import Idealize.ShloMosaic.Lib.Exec

@[expose] public section

set_option maxRecDepth 16384

noncomputable section

namespace Cert.Down

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The step is the first of its row of the grid. -/
abbrev isFirst (i : grid0.Coords) : Prop := (Scalar.cmpi .ne (Scalar.extui (Scalar.cmpi .eq (BitVec.ofNat 32 (i 1).val) 0#32)) 0#32) = 1#1
/-- The step is the first of all. -/
abbrev isStart (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
/-- The step is the last of its row of the grid. -/
abbrev isLast (i : grid0.Coords) : Prop := k0_cond3 i = 1#1
/-- The step is the last of all. -/
abbrev isEnd (i : grid0.Coords) : Prop := k0_cond4 i = 1#1

/-- The kernel's load of the one element of a one-element vector. -/
def sc (x : Vec F S1 .f32) : F .f32 := View.ld x (Rect.unit (s := S1) ![0] S1.size inb_S1_S1_0) (Shape.Idx.first (by decide))

/-- The rows of the output gradient's codes that the step multiplies by. -/
def dblk (i : grid0.Coords) (x3 : Vec F S8192x2048 .fp8e5m2) : Vec F S1024x2048 .fp8e5m2 :=
  View.ld x3 (Rect.unit (s := S8192x2048) (k0_off1 i) S1024x2048.size (k0_off1_inb i))

/-- The block of the gate gradient. -/
def outDg (i : grid0.Coords) (x0 x1 : Vec F S1 .f32) (x3 : Vec F S8192x2048 .fp8e5m2) (x5 x6 : Vec F S1024x512 .fp8e4m3) (x7 x8 : Vec F S1x32x1024 .f32) (x9 : Vec F S512x2048 .fp8e4m3) : Vec F S1024x512 .f32 :=
  k0_pay28 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32) (k0_pay18 x6) (k0_pay26 (k0_pay10 x8) (iota .tc S1024x128 32 [1] iota_S1024x128_d1_w32) (k0_pay19 (k0_pay10 x8)) (k0_pay22 (k0_pay10 x8) (iota .tc S1024x128 32 [1] iota_S1024x128_d1_w32) 16#32 k0_pay20 k0_pay21 0#32) (k0_pay23 (iota .tc S1024x128 32 [1] iota_S1024x128_d1_w32)) (k0_pay24 (iota .tc S1024x128 32 [1] iota_S1024x128_d1_w32)) k0_pay25)

/-- The block of the up gradient. -/
def outDu (i : grid0.Coords) (x0 x1 : Vec F S1 .f32) (x3 : Vec F S8192x2048 .fp8e5m2) (x5 : Vec F S1024x512 .fp8e4m3) (x7 : Vec F S1x32x1024 .f32) (x9 : Vec F S512x2048 .fp8e4m3) : Vec F S1024x512 .f32 :=
  k0_pay29 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32)

open Classical in
/-- The accumulator after the step. -/
def newAcc (i : grid0.Coords) (x3 : Vec F S8192x2048 .fp8e5m2) (x4 : Vec F S1024x512 .fp8e4m3) (s : Vec F S512x2048 .f32) : Vec F S512x2048 .f32 :=
  k0_pay7 (dblk i x3) (if isFirst i then k0_pay6 (F := F) else s) x4

open Classical in
/-- The running maxima of the gate gradient after the step. -/
def newMg (i : grid0.Coords) (x0 x1 : Vec F S1 .f32) (x3 : Vec F S8192x2048 .fp8e5m2) (x5 x6 : Vec F S1024x512 .fp8e4m3) (x7 x8 : Vec F S1x32x1024 .f32) (x9 : Vec F S512x2048 .fp8e4m3) (s : Vec F S8x512 .f32) : Vec F S8x512 .f32 :=
  k0_pay1 (k0_pay30 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32) (k0_pay18 x6) (k0_pay26 (k0_pay10 x8) (iota .tc S1024x128 32 [1] iota_S1024x128_d1_w32) (k0_pay19 (k0_pay10 x8)) (k0_pay22 (k0_pay10 x8) (iota .tc S1024x128 32 [1] iota_S1024x128_d1_w32) 16#32 k0_pay20 k0_pay21 0#32) (k0_pay23 (iota .tc S1024x128 32 [1] iota_S1024x128_d1_w32)) (k0_pay24 (iota .tc S1024x128 32 [1] iota_S1024x128_d1_w32)) k0_pay25)) (k0_pay34 (BitVec.ofNat 32 (i 0).val)) (if isStart i then k0_pay32 (F := F) else s) (k0_pay35 (F := F))

open Classical in
/-- The running maxima of the up gradient after the step. -/
def newMu (i : grid0.Coords) (x0 x1 : Vec F S1 .f32) (x3 : Vec F S8192x2048 .fp8e5m2) (x5 : Vec F S1024x512 .fp8e4m3) (x7 : Vec F S1x32x1024 .f32) (x9 : Vec F S512x2048 .fp8e4m3) (s : Vec F S8x512 .f32) : Vec F S8x512 .f32 :=
  k0_pay2 (k0_pay31 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32)) (k0_pay34 (BitVec.ofNat 32 (i 0).val)) (if isStart i then k0_pay33 (F := F) else s)

open Classical in
/-- The block of the weight gradient after the step. -/
def newDwd (i : grid0.Coords) (x0 x2 : Vec F S1 .f32) (g : Vec F S512x2048 .f32) (y : Vec F S512x2048 .bf16) : Vec F S512x2048 .bf16 :=
  if isLast i then k0_pay3 g (sc x2) (sc x0) else y

open Classical in
/-- The largest gate gradient after the step. -/
def newAg (i : grid0.Coords) (s : Vec F S8x512 .f32) (y : Vec F S1 .f32) : Vec F S1 .f32 :=
  if isEnd i then fun _ => k0_pay4 s else y

open Classical in
/-- The largest up gradient after the step. -/
def newAu (i : grid0.Coords) (s : Vec F S8x512 .f32) (y : Vec F S1 .f32) : Vec F S1 .f32 :=
  if isEnd i then fun _ => k0_pay5 s else y

section Cases
variable (i : grid0.Coords) (x2 : Vec F S1 .f32) (x0 x1 : Vec F S1 .f32) (x3 : Vec F S8192x2048 .fp8e5m2) (x5 x6 : Vec F S1024x512 .fp8e4m3) (x7 x8 : Vec F S1x32x1024 .f32) (x9 : Vec F S512x2048 .fp8e4m3) (x4 : Vec F S1024x512 .fp8e4m3) (s g : Vec F S512x2048 .f32) (y : Vec F S512x2048 .bf16) (z : Vec F S1 .f32) (v : Vec F S8x512 .f32)
theorem newAcc_first (h : isFirst i) : newAcc i x3 x4 s = k0_pay7 (dblk i x3) (k0_pay6 (F := F)) x4 := by unfold newAcc; rw [if_pos h]
theorem newAcc_next (h : ¬isFirst i) : newAcc i x3 x4 s = k0_pay7 (dblk i x3) s x4 := by unfold newAcc; rw [if_neg h]
theorem newMg_first (h : isStart i) : newMg i x0 x1 x3 x5 x6 x7 x8 x9 v = k0_pay1 (k0_pay30 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32) (k0_pay18 x6) (k0_pay26 (k0_pay10 x8) (iota .tc S1024x128 32 [1] iota_S1024x128_d1_w32) (k0_pay19 (k0_pay10 x8)) (k0_pay22 (k0_pay10 x8) (iota .tc S1024x128 32 [1] iota_S1024x128_d1_w32) 16#32 k0_pay20 k0_pay21 0#32) (k0_pay23 (iota .tc S1024x128 32 [1] iota_S1024x128_d1_w32)) (k0_pay24 (iota .tc S1024x128 32 [1] iota_S1024x128_d1_w32)) k0_pay25)) (k0_pay34 (BitVec.ofNat 32 (i 0).val)) (k0_pay32 (F := F)) (k0_pay35 (F := F)) := by unfold newMg; rw [if_pos h]
theorem newMg_next (h : ¬isStart i) : newMg i x0 x1 x3 x5 x6 x7 x8 x9 v = k0_pay1 (k0_pay30 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32) (k0_pay18 x6) (k0_pay26 (k0_pay10 x8) (iota .tc S1024x128 32 [1] iota_S1024x128_d1_w32) (k0_pay19 (k0_pay10 x8)) (k0_pay22 (k0_pay10 x8) (iota .tc S1024x128 32 [1] iota_S1024x128_d1_w32) 16#32 k0_pay20 k0_pay21 0#32) (k0_pay23 (iota .tc S1024x128 32 [1] iota_S1024x128_d1_w32)) (k0_pay24 (iota .tc S1024x128 32 [1] iota_S1024x128_d1_w32)) k0_pay25)) (k0_pay34 (BitVec.ofNat 32 (i 0).val)) v (k0_pay35 (F := F)) := by unfold newMg; rw [if_neg h]
theorem newMu_first (h : isStart i) : newMu i x0 x1 x3 x5 x7 x9 v = k0_pay2 (k0_pay31 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32)) (k0_pay34 (BitVec.ofNat 32 (i 0).val)) (k0_pay33 (F := F)) := by unfold newMu; rw [if_pos h]
theorem newMu_next (h : ¬isStart i) : newMu i x0 x1 x3 x5 x7 x9 v = k0_pay2 (k0_pay31 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32)) (k0_pay34 (BitVec.ofNat 32 (i 0).val)) v := by unfold newMu; rw [if_neg h]
theorem newDwd_last (h : isLast i) : newDwd i x0 x2 g y = k0_pay3 g (sc x2) (sc x0) := by unfold newDwd; rw [if_pos h]
theorem newDwd_idle (h : ¬isLast i) : newDwd i x0 x2 g y = y := by unfold newDwd; rw [if_neg h]
theorem newAg_last (h : isEnd i) : newAg i v z = fun _ => k0_pay4 v := by unfold newAg; rw [if_pos h]
theorem newAg_idle (h : ¬isEnd i) : newAg i v z = z := by unfold newAg; rw [if_neg h]
theorem newAu_last (h : isEnd i) : newAu i v z = fun _ => k0_pay5 v := by unfold newAu; rw [if_pos h]
theorem newAu_idle (h : ¬isEnd i) : newAu i v z = z := by unfold newAu; rw [if_neg h]
end Cases

section Loads
variable {κ : Kind} {sp : Space}
/-- A load of a whole block reads its contents. -/
theorem rd1A {e : EltTy} (a : Memref sig κ sp S1024x512 e) (h : a.IsWhole) (x : Vec F S1024x512 e) :
    View.readAt (Elt F) a.view (Rect.unit (s := S1024x512) ![0, 0] ![1024, 512] inb_S1024x512_S1024x512_0_0).toLoadRect (h.unread x) = x :=
  (View.readAt_full a.view (s := S1024x512) (h.unread x) inb_S1024x512_S1024x512_0_0).trans (h.read_unread _)
/-- A load of a whole block after a store of all of it reads what was stored. -/
theorem rd1C {e : EltTy} (a : Memref sig κ sp S1024x512 e) (f : a.view.ty.Contents (Elt F)) (w : Vec F S1024x512 e) (L : List (View.Piece (Elt F) S1024x512 e)) :
    View.readAt (Elt F) a.view (Rect.unit (s := S1024x512) ![0, 0] ![1024, 512] inb_S1024x512_S1024x512_0_0).toLoadRect
      (a.view.writes (Elt F) f (⟨Rect.unit (s := S1024x512) ![0, 0] ![1024, 512] inb_S1024x512_S1024x512_0_0, w⟩ :: L)) = w :=
  View.readAt_writes_full a.view f inb_S1024x512_S1024x512_0_0 inb_S1024x512_S1024x512_0_0 w L
/-- The same of a load stated over the stores alone. -/
theorem rd1D {e : EltTy} [∀ e, Nonempty (Elt F e)] (a : Memref sig κ sp S1024x512 e) (w : Vec F S1024x512 e) (L : List (View.Piece (Elt F) S1024x512 e)) :
    a.view.readCov (⟨Rect.unit (s := S1024x512) ![0, 0] ![1024, 512] inb_S1024x512_S1024x512_0_0, w⟩ :: L)
      (Rect.unit (s := S1024x512) ![0, 0] ![1024, 512] inb_S1024x512_S1024x512_0_0).toLoadRect = w :=
  View.readCov_full a.view inb_S1024x512_S1024x512_0_0 inb_S1024x512_S1024x512_0_0 w L
/-- A load of a whole block reads its contents. -/
theorem rd2A {e : EltTy} (a : Memref sig κ sp S512x2048 e) (h : a.IsWhole) (x : Vec F S512x2048 e) :
    View.readAt (Elt F) a.view (Rect.unit (s := S512x2048) ![0, 0] ![512, 2048] inb_S512x2048_S512x2048_0_0).toLoadRect (h.unread x) = x :=
  (View.readAt_full a.view (s := S512x2048) (h.unread x) inb_S512x2048_S512x2048_0_0).trans (h.read_unread _)
/-- A load of a whole block after a store of all of it reads what was stored. -/
theorem rd2C {e : EltTy} (a : Memref sig κ sp S512x2048 e) (f : a.view.ty.Contents (Elt F)) (w : Vec F S512x2048 e) (L : List (View.Piece (Elt F) S512x2048 e)) :
    View.readAt (Elt F) a.view (Rect.unit (s := S512x2048) ![0, 0] ![512, 2048] inb_S512x2048_S512x2048_0_0).toLoadRect
      (a.view.writes (Elt F) f (⟨Rect.unit (s := S512x2048) ![0, 0] ![512, 2048] inb_S512x2048_S512x2048_0_0, w⟩ :: L)) = w :=
  View.readAt_writes_full a.view f inb_S512x2048_S512x2048_0_0 inb_S512x2048_S512x2048_0_0 w L
/-- The same of a load stated over the stores alone. -/
theorem rd2D {e : EltTy} [∀ e, Nonempty (Elt F e)] (a : Memref sig κ sp S512x2048 e) (w : Vec F S512x2048 e) (L : List (View.Piece (Elt F) S512x2048 e)) :
    a.view.readCov (⟨Rect.unit (s := S512x2048) ![0, 0] ![512, 2048] inb_S512x2048_S512x2048_0_0, w⟩ :: L)
      (Rect.unit (s := S512x2048) ![0, 0] ![512, 2048] inb_S512x2048_S512x2048_0_0).toLoadRect = w :=
  View.readCov_full a.view inb_S512x2048_S512x2048_0_0 inb_S512x2048_S512x2048_0_0 w L
/-- A load of a whole block reads its contents. -/
theorem rd3A {e : EltTy} (a : Memref sig κ sp S1x32x1024 e) (h : a.IsWhole) (x : Vec F S1x32x1024 e) :
    View.readAt (Elt F) a.view (Rect.unit (s := S1x32x1024) ![0, 0, 0] ![1, 32, 1024] inb_S1x32x1024_S1x32x1024_0_0_0).toLoadRect (h.unread x) = x :=
  (View.readAt_full a.view (s := S1x32x1024) (h.unread x) inb_S1x32x1024_S1x32x1024_0_0_0).trans (h.read_unread _)
/-- A load of a whole block after a store of all of it reads what was stored. -/
theorem rd3C {e : EltTy} (a : Memref sig κ sp S1x32x1024 e) (f : a.view.ty.Contents (Elt F)) (w : Vec F S1x32x1024 e) (L : List (View.Piece (Elt F) S1x32x1024 e)) :
    View.readAt (Elt F) a.view (Rect.unit (s := S1x32x1024) ![0, 0, 0] ![1, 32, 1024] inb_S1x32x1024_S1x32x1024_0_0_0).toLoadRect
      (a.view.writes (Elt F) f (⟨Rect.unit (s := S1x32x1024) ![0, 0, 0] ![1, 32, 1024] inb_S1x32x1024_S1x32x1024_0_0_0, w⟩ :: L)) = w :=
  View.readAt_writes_full a.view f inb_S1x32x1024_S1x32x1024_0_0_0 inb_S1x32x1024_S1x32x1024_0_0_0 w L
/-- The same of a load stated over the stores alone. -/
theorem rd3D {e : EltTy} [∀ e, Nonempty (Elt F e)] (a : Memref sig κ sp S1x32x1024 e) (w : Vec F S1x32x1024 e) (L : List (View.Piece (Elt F) S1x32x1024 e)) :
    a.view.readCov (⟨Rect.unit (s := S1x32x1024) ![0, 0, 0] ![1, 32, 1024] inb_S1x32x1024_S1x32x1024_0_0_0, w⟩ :: L)
      (Rect.unit (s := S1x32x1024) ![0, 0, 0] ![1, 32, 1024] inb_S1x32x1024_S1x32x1024_0_0_0).toLoadRect = w :=
  View.readCov_full a.view inb_S1x32x1024_S1x32x1024_0_0_0 inb_S1x32x1024_S1x32x1024_0_0_0 w L
/-- A load of a whole block reads its contents. -/
theorem rd4A {e : EltTy} (a : Memref sig κ sp S8x512 e) (h : a.IsWhole) (x : Vec F S8x512 e) :
    View.readAt (Elt F) a.view (Rect.unit (s := S8x512) ![0, 0] ![8, 512] inb_S8x512_S8x512_0_0).toLoadRect (h.unread x) = x :=
  (View.readAt_full a.view (s := S8x512) (h.unread x) inb_S8x512_S8x512_0_0).trans (h.read_unread _)
/-- A load of a whole block after a store of all of it reads what was stored. -/
theorem rd4C {e : EltTy} (a : Memref sig κ sp S8x512 e) (f : a.view.ty.Contents (Elt F)) (w : Vec F S8x512 e) (L : List (View.Piece (Elt F) S8x512 e)) :
    View.readAt (Elt F) a.view (Rect.unit (s := S8x512) ![0, 0] ![8, 512] inb_S8x512_S8x512_0_0).toLoadRect
      (a.view.writes (Elt F) f (⟨Rect.unit (s := S8x512) ![0, 0] ![8, 512] inb_S8x512_S8x512_0_0, w⟩ :: L)) = w :=
  View.readAt_writes_full a.view f inb_S8x512_S8x512_0_0 inb_S8x512_S8x512_0_0 w L
/-- The same of a load stated over the stores alone. -/
theorem rd4D {e : EltTy} [∀ e, Nonempty (Elt F e)] (a : Memref sig κ sp S8x512 e) (w : Vec F S8x512 e) (L : List (View.Piece (Elt F) S8x512 e)) :
    a.view.readCov (⟨Rect.unit (s := S8x512) ![0, 0] ![8, 512] inb_S8x512_S8x512_0_0, w⟩ :: L)
      (Rect.unit (s := S8x512) ![0, 0] ![8, 512] inb_S8x512_S8x512_0_0).toLoadRect = w :=
  View.readCov_full a.view inb_S8x512_S8x512_0_0 inb_S8x512_S8x512_0_0 w L
/-- The scalar loads. -/
theorem rdS (a : Memref sig κ sp S1 .f32) (h : a.IsWhole) (x : Vec F S1 .f32) (hp) :
    View.readAt (Elt F) a.view (Rect.unit (s := S1) ![0] ![1] inb_S1_S1_0).toLoadRect (h.unread x) (Shape.Idx.first hp) = sc x := by
  refine (congrFun (View.readAt_eq_ld a.view _ _) _).trans ?_
  rw [h.read_unread]; rfl
/-- The load of the step's rows of the codes. -/
theorem rdN (i : grid0.Coords) (a : Memref sig κ sp S8192x2048 .fp8e5m2) (h : a.IsWhole) (x : Vec F S8192x2048 .fp8e5m2) :
    View.readAt (Elt F) a.view (Rect.unit (s := S8192x2048) (k0_off1 i) ![1024, 2048] (k0_off1_inb i)).toLoadRect (h.unread x) = dblk i x := by
  refine (View.readAt_eq_ld a.view _ _).trans ?_
  rw [h.read_unread]; rfl
end Loads

end Cert.Down
-- ==== Proof.DownStepStart.lean ====
/- One grid step of `Down`: the body at the first step of all. -/
module

public import proofs.«01_k».proof.Proof.DownStep

@[expose] public section

set_option maxRecDepth 16384

noncomputable section

namespace Cert.Down

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at the first step of all. -/
theorem body_start (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (hF : (isFirst i)) (hFF : (isStart i)) (hL : (¬isLast i)) (hE : (¬isEnd i))
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  simp only [cc0_down_eq_skeleton]; unfold cc0_down_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9
  obtain rfl := h14.eq_unread hf12; obtain rfl := h15.eq_unread hf13; obtain rfl := h16.eq_unread hf14; obtain rfl := h17.eq_unread hf15; obtain rfl := h18.eq_unread hf16; obtain rfl := h19.eq_unread hf17
  sl_exec (disch := first | sl_exact hF | sl_exact hFF | sl_exact hL | sl_exact hE)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [H9]
  · iexists _; isplitr; · ipureintro; exact h11.read_unread _
    iexact H9
  isplitl [H10]
  · iexists _; isplitr; swap; · iexact H10
    ipureintro
    try sl_unfold_words
    refine (View.read_writes_full _ _ _ _ _).trans ?_
    unfold outDg
    simp only [rd1A, rd2A, rd3A, rd4A, rd1C, rd2C, rd4C, rd1D, rd2D, rd4D, rdS]; first | done | (rw [← rdN i arg5 h5 x3]; rfl)
  isplitl [H11]
  · iexists _; isplitr; swap; · iexact H11
    ipureintro
    try sl_unfold_words
    refine (View.read_writes_full _ _ _ _ _).trans ?_
    unfold outDu
    simp only [rd1A, rd2A, rd3A, rd4A, rd1C, rd2C, rd4C, rd1D, rd2D, rd4D, rdS]; first | done | (rw [← rdN i arg5 h5 x3]; rfl)
  isplitl [H12]
  · iexists _; isplitr; swap; · iexact H12
    ipureintro
    try sl_unfold_words
    rw [newDwd_idle (h := hL)]; exact hf12
  isplitl [H13]
  · iexists _; isplitr; swap; · iexact H13
    ipureintro
    try sl_unfold_words
    rw [newAg_idle (h := hE)]; exact hf13
  isplitl [H14]
  · iexists _; isplitr; swap; · iexact H14
    ipureintro
    try sl_unfold_words
    rw [newAu_idle (h := hE)]; exact hf14
  isplitl [H15]
  · iexists _; isplitr; swap; · iexact H15
    ipureintro
    try sl_unfold_words
    refine (View.read_writes_full _ _ _ _ _).trans ?_
    rw [newAcc_first (h := hF)]
    simp only [rd1A, rd2A, rd3A, rd4A, rd1C, rd2C, rd4C, rd1D, rd2D, rd4D, rdS]; first | done | (rw [← rdN i arg5 h5 x3]; rfl)
  isplitl [H16]
  · iexists _; isplitr; swap; · iexact H16
    ipureintro
    try sl_unfold_words
    refine (View.read_writes_full _ _ _ _ _).trans ?_
    rw [newMg_first (h := hFF)]
    simp only [rd1A, rd2A, rd3A, rd4A, rd1C, rd2C, rd4C, rd1D, rd2D, rd4D, rdS]; first | done | (rw [← rdN i arg5 h5 x3]; rfl)
  iexists _; isplitr; swap; · iexact H17
  ipureintro
  try sl_unfold_words
  refine (View.read_writes_full _ _ _ _ _).trans ?_
  rw [newMu_first (h := hFF)]
  simp only [rd1A, rd2A, rd3A, rd4A, rd1C, rd2C, rd4C, rd1D, rd2D, rd4D, rdS]; first | done | (rw [← rdN i arg5 h5 x3]; rfl)

end Cert.Down
-- ==== Proof.DownStepFirst.lean ====
/- One grid step of `Down`: the body at the first step of a later row. -/
module

public import proofs.«01_k».proof.Proof.DownStep

@[expose] public section

set_option maxRecDepth 16384

noncomputable section

namespace Cert.Down

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at the first step of a later row. -/
theorem body_first (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (hF : (isFirst i)) (hFF : (¬isStart i)) (hL : (¬isLast i)) (hE : (¬isEnd i))
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  simp only [cc0_down_eq_skeleton]; unfold cc0_down_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9
  obtain rfl := h14.eq_unread hf12; obtain rfl := h15.eq_unread hf13; obtain rfl := h16.eq_unread hf14; obtain rfl := h17.eq_unread hf15; obtain rfl := h18.eq_unread hf16; obtain rfl := h19.eq_unread hf17
  sl_exec (disch := first | sl_exact hF | sl_exact hFF | sl_exact hL | sl_exact hE)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [H9]
  · iexists _; isplitr; · ipureintro; exact h11.read_unread _
    iexact H9
  isplitl [H10]
  · iexists _; isplitr; swap; · iexact H10
    ipureintro
    try sl_unfold_words
    refine (View.read_writes_full _ _ _ _ _).trans ?_
    unfold outDg
    simp only [rd1A, rd2A, rd3A, rd4A, rd1C, rd2C, rd4C, rd1D, rd2D, rd4D, rdS]; first | done | (rw [← rdN i arg5 h5 x3]; rfl)
  isplitl [H11]
  · iexists _; isplitr; swap; · iexact H11
    ipureintro
    try sl_unfold_words
    refine (View.read_writes_full _ _ _ _ _).trans ?_
    unfold outDu
    simp only [rd1A, rd2A, rd3A, rd4A, rd1C, rd2C, rd4C, rd1D, rd2D, rd4D, rdS]; first | done | (rw [← rdN i arg5 h5 x3]; rfl)
  isplitl [H12]
  · iexists _; isplitr; swap; · iexact H12
    ipureintro
    try sl_unfold_words
    rw [newDwd_idle (h := hL)]; exact hf12
  isplitl [H13]
  · iexists _; isplitr; swap; · iexact H13
    ipureintro
    try sl_unfold_words
    rw [newAg_idle (h := hE)]; exact hf13
  isplitl [H14]
  · iexists _; isplitr; swap; · iexact H14
    ipureintro
    try sl_unfold_words
    rw [newAu_idle (h := hE)]; exact hf14
  isplitl [H15]
  · iexists _; isplitr; swap; · iexact H15
    ipureintro
    try sl_unfold_words
    refine (View.read_writes_full _ _ _ _ _).trans ?_
    rw [newAcc_first (h := hF)]
    simp only [rd1A, rd2A, rd3A, rd4A, rd1C, rd2C, rd4C, rd1D, rd2D, rd4D, rdS]; first | done | (rw [← rdN i arg5 h5 x3]; rfl)
  isplitl [H16]
  · iexists _; isplitr; swap; · iexact H16
    ipureintro
    try sl_unfold_words
    refine (View.read_writes_full _ _ _ _ _).trans ?_
    rw [newMg_next (h := hFF)]
    simp only [rd1A, rd2A, rd3A, rd4A, rd1C, rd2C, rd4C, rd1D, rd2D, rd4D, rdS]; first | done | (rw [← rdN i arg5 h5 x3]; rfl)
  iexists _; isplitr; swap; · iexact H17
  ipureintro
  try sl_unfold_words
  refine (View.read_writes_full _ _ _ _ _).trans ?_
  rw [newMu_next (h := hFF)]
  simp only [rd1A, rd2A, rd3A, rd4A, rd1C, rd2C, rd4C, rd1D, rd2D, rd4D, rdS]; first | done | (rw [← rdN i arg5 h5 x3]; rfl)

end Cert.Down
-- ==== Proof.DownStepMid.lean ====
/- One grid step of `Down`: the body at a step inside a row. -/
module

public import proofs.«01_k».proof.Proof.DownStep

@[expose] public section

set_option maxRecDepth 16384

noncomputable section

namespace Cert.Down

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at a step inside a row. -/
theorem body_mid (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (hF : (¬isFirst i)) (hFF : (¬isStart i)) (hL : (¬isLast i)) (hE : (¬isEnd i))
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  simp only [cc0_down_eq_skeleton]; unfold cc0_down_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9
  obtain rfl := h14.eq_unread hf12; obtain rfl := h15.eq_unread hf13; obtain rfl := h16.eq_unread hf14; obtain rfl := h17.eq_unread hf15; obtain rfl := h18.eq_unread hf16; obtain rfl := h19.eq_unread hf17
  sl_exec (disch := first | sl_exact hF | sl_exact hFF | sl_exact hL | sl_exact hE)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [H9]
  · iexists _; isplitr; · ipureintro; exact h11.read_unread _
    iexact H9
  isplitl [H10]
  · iexists _; isplitr; swap; · iexact H10
    ipureintro
    try sl_unfold_words
    refine (View.read_writes_full _ _ _ _ _).trans ?_
    unfold outDg
    simp only [rd1A, rd2A, rd3A, rd4A, rd1C, rd2C, rd4C, rd1D, rd2D, rd4D, rdS]; first | done | (rw [← rdN i arg5 h5 x3]; rfl)
  isplitl [H11]
  · iexists _; isplitr; swap; · iexact H11
    ipureintro
    try sl_unfold_words
    refine (View.read_writes_full _ _ _ _ _).trans ?_
    unfold outDu
    simp only [rd1A, rd2A, rd3A, rd4A, rd1C, rd2C, rd4C, rd1D, rd2D, rd4D, rdS]; first | done | (rw [← rdN i arg5 h5 x3]; rfl)
  isplitl [H12]
  · iexists _; isplitr; swap; · iexact H12
    ipureintro
    try sl_unfold_words
    rw [newDwd_idle (h := hL)]; exact hf12
  isplitl [H13]
  · iexists _; isplitr; swap; · iexact H13
    ipureintro
    try sl_unfold_words
    rw [newAg_idle (h := hE)]; exact hf13
  isplitl [H14]
  · iexists _; isplitr; swap; · iexact H14
    ipureintro
    try sl_unfold_words
    rw [newAu_idle (h := hE)]; exact hf14
  isplitl [H15]
  · iexists _; isplitr; swap; · iexact H15
    ipureintro
    try sl_unfold_words
    refine (View.read_writes_full _ _ _ _ _).trans ?_
    rw [newAcc_next (h := hF)]
    simp only [rd1A, rd2A, rd3A, rd4A, rd1C, rd2C, rd4C, rd1D, rd2D, rd4D, rdS]; first | done | (rw [← rdN i arg5 h5 x3]; rfl)
  isplitl [H16]
  · iexists _; isplitr; swap; · iexact H16
    ipureintro
    try sl_unfold_words
    refine (View.read_writes_full _ _ _ _ _).trans ?_
    rw [newMg_next (h := hFF)]
    simp only [rd1A, rd2A, rd3A, rd4A, rd1C, rd2C, rd4C, rd1D, rd2D, rd4D, rdS]; first | done | (rw [← rdN i arg5 h5 x3]; rfl)
  iexists _; isplitr; swap; · iexact H17
  ipureintro
  try sl_unfold_words
  refine (View.read_writes_full _ _ _ _ _).trans ?_
  rw [newMu_next (h := hFF)]
  simp only [rd1A, rd2A, rd3A, rd4A, rd1C, rd2C, rd4C, rd1D, rd2D, rd4D, rdS]; first | done | (rw [← rdN i arg5 h5 x3]; rfl)

end Cert.Down
-- ==== Proof.DownStepLast.lean ====
/- One grid step of `Down`: the body at the last step of a row but the last row. -/
module

public import proofs.«01_k».proof.Proof.DownStep

@[expose] public section

set_option maxRecDepth 16384

noncomputable section

namespace Cert.Down

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at the last step of a row but the last row. -/
theorem body_last (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (hF : (¬isFirst i)) (hFF : (¬isStart i)) (hL : (isLast i)) (hE : (¬isEnd i))
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  simp only [cc0_down_eq_skeleton]; unfold cc0_down_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9
  obtain rfl := h14.eq_unread hf12; obtain rfl := h15.eq_unread hf13; obtain rfl := h16.eq_unread hf14; obtain rfl := h17.eq_unread hf15; obtain rfl := h18.eq_unread hf16; obtain rfl := h19.eq_unread hf17
  sl_exec (disch := first | sl_exact hF | sl_exact hFF | sl_exact hL | sl_exact hE)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [H9]
  · iexists _; isplitr; · ipureintro; exact h11.read_unread _
    iexact H9
  isplitl [H10]
  · iexists _; isplitr; swap; · iexact H10
    ipureintro
    try sl_unfold_words
    refine (View.read_writes_full _ _ _ _ _).trans ?_
    unfold outDg
    simp only [rd1A, rd2A, rd3A, rd4A, rd1C, rd2C, rd4C, rd1D, rd2D, rd4D, rdS]; first | done | (rw [← rdN i arg5 h5 x3]; rfl)
  isplitl [H11]
  · iexists _; isplitr; swap; · iexact H11
    ipureintro
    try sl_unfold_words
    refine (View.read_writes_full _ _ _ _ _).trans ?_
    unfold outDu
    simp only [rd1A, rd2A, rd3A, rd4A, rd1C, rd2C, rd4C, rd1D, rd2D, rd4D, rdS]; first | done | (rw [← rdN i arg5 h5 x3]; rfl)
  isplitl [H12]
  · iexists _; isplitr; swap; · iexact H12
    ipureintro
    try sl_unfold_words
    refine (View.read_writes_full _ _ _ _ _).trans ?_
    rw [newDwd_last (h := hL)]; rw [newAcc_next (h := hF)]
    simp only [rd1A, rd2A, rd3A, rd4A, rd1C, rd2C, rd4C, rd1D, rd2D, rd4D, rdS]; first | done | (rw [← rdN i arg5 h5 x3]; rfl)
  isplitl [H13]
  · iexists _; isplitr; swap; · iexact H13
    ipureintro
    try sl_unfold_words
    rw [newAg_idle (h := hE)]; exact hf13
  isplitl [H14]
  · iexists _; isplitr; swap; · iexact H14
    ipureintro
    try sl_unfold_words
    rw [newAu_idle (h := hE)]; exact hf14
  isplitl [H15]
  · iexists _; isplitr; swap; · iexact H15
    ipureintro
    try sl_unfold_words
    refine (View.read_writes_full _ _ _ _ _).trans ?_
    rw [newAcc_next (h := hF)]
    simp only [rd1A, rd2A, rd3A, rd4A, rd1C, rd2C, rd4C, rd1D, rd2D, rd4D, rdS]; first | done | (rw [← rdN i arg5 h5 x3]; rfl)
  isplitl [H16]
  · iexists _; isplitr; swap; · iexact H16
    ipureintro
    try sl_unfold_words
    refine (View.read_writes_full _ _ _ _ _).trans ?_
    rw [newMg_next (h := hFF)]
    simp only [rd1A, rd2A, rd3A, rd4A, rd1C, rd2C, rd4C, rd1D, rd2D, rd4D, rdS]; first | done | (rw [← rdN i arg5 h5 x3]; rfl)
  iexists _; isplitr; swap; · iexact H17
  ipureintro
  try sl_unfold_words
  refine (View.read_writes_full _ _ _ _ _).trans ?_
  rw [newMu_next (h := hFF)]
  simp only [rd1A, rd2A, rd3A, rd4A, rd1C, rd2C, rd4C, rd1D, rd2D, rd4D, rdS]; first | done | (rw [← rdN i arg5 h5 x3]; rfl)

end Cert.Down
-- ==== Proof.DownStepEnd.lean ====
/- One grid step of `Down`: the body at the last step of all. -/
module

public import proofs.«01_k».proof.Proof.DownStep

@[expose] public section

set_option maxRecDepth 16384

noncomputable section

namespace Cert.Down

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at the last step of all. -/
theorem body_end (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (hF : (¬isFirst i)) (hFF : (¬isStart i)) (hL : (isLast i)) (hE : (isEnd i))
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  simp only [cc0_down_eq_skeleton]; unfold cc0_down_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9
  obtain rfl := h14.eq_unread hf12; obtain rfl := h15.eq_unread hf13; obtain rfl := h16.eq_unread hf14; obtain rfl := h17.eq_unread hf15; obtain rfl := h18.eq_unread hf16; obtain rfl := h19.eq_unread hf17
  sl_exec (disch := first | sl_exact hF | sl_exact hFF | sl_exact hL | sl_exact hE)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [H9]
  · iexists _; isplitr; · ipureintro; exact h11.read_unread _
    iexact H9
  isplitl [H10]
  · iexists _; isplitr; swap; · iexact H10
    ipureintro
    try sl_unfold_words
    refine (View.read_writes_full _ _ _ _ _).trans ?_
    unfold outDg
    simp only [rd1A, rd2A, rd3A, rd4A, rd1C, rd2C, rd4C, rd1D, rd2D, rd4D, rdS]; first | done | (rw [← rdN i arg5 h5 x3]; rfl)
  isplitl [H11]
  · iexists _; isplitr; swap; · iexact H11
    ipureintro
    try sl_unfold_words
    refine (View.read_writes_full _ _ _ _ _).trans ?_
    unfold outDu
    simp only [rd1A, rd2A, rd3A, rd4A, rd1C, rd2C, rd4C, rd1D, rd2D, rd4D, rdS]; first | done | (rw [← rdN i arg5 h5 x3]; rfl)
  isplitl [H12]
  · iexists _; isplitr; swap; · iexact H12
    ipureintro
    try sl_unfold_words
    refine (View.read_writes_full _ _ _ _ _).trans ?_
    rw [newDwd_last (h := hL)]; rw [newAcc_next (h := hF)]
    simp only [rd1A, rd2A, rd3A, rd4A, rd1C, rd2C, rd4C, rd1D, rd2D, rd4D, rdS]; first | done | (rw [← rdN i arg5 h5 x3]; rfl)
  isplitl [H13]
  · iexists _; isplitr; swap; · iexact H13
    ipureintro
    try sl_unfold_words
    refine (View.read_writes_full _ _ _ _ _).trans ?_
    rw [newAg_last (h := hE)]; rw [newMg_next (h := hFF)]
    simp only [rd1A, rd2A, rd3A, rd4A, rd1C, rd2C, rd4C, rd1D, rd2D, rd4D, rdS]; first | done | (rw [← rdN i arg5 h5 x3]; rfl)
  isplitl [H14]
  · iexists _; isplitr; swap; · iexact H14
    ipureintro
    try sl_unfold_words
    refine (View.read_writes_full _ _ _ _ _).trans ?_
    rw [newAu_last (h := hE)]; rw [newMu_next (h := hFF)]
    simp only [rd1A, rd2A, rd3A, rd4A, rd1C, rd2C, rd4C, rd1D, rd2D, rd4D, rdS]; first | done | (rw [← rdN i arg5 h5 x3]; rfl)
  isplitl [H15]
  · iexists _; isplitr; swap; · iexact H15
    ipureintro
    try sl_unfold_words
    refine (View.read_writes_full _ _ _ _ _).trans ?_
    rw [newAcc_next (h := hF)]
    simp only [rd1A, rd2A, rd3A, rd4A, rd1C, rd2C, rd4C, rd1D, rd2D, rd4D, rdS]; first | done | (rw [← rdN i arg5 h5 x3]; rfl)
  isplitl [H16]
  · iexists _; isplitr; swap; · iexact H16
    ipureintro
    try sl_unfold_words
    refine (View.read_writes_full _ _ _ _ _).trans ?_
    rw [newMg_next (h := hFF)]
    simp only [rd1A, rd2A, rd3A, rd4A, rd1C, rd2C, rd4C, rd1D, rd2D, rd4D, rdS]; first | done | (rw [← rdN i arg5 h5 x3]; rfl)
  iexists _; isplitr; swap; · iexact H17
  ipureintro
  try sl_unfold_words
  refine (View.read_writes_full _ _ _ _ _).trans ?_
  rw [newMu_next (h := hFF)]
  simp only [rd1A, rd2A, rd3A, rd4A, rd1C, rd2C, rd4C, rd1D, rd2D, rd4D, rdS]; first | done | (rw [← rdN i arg5 h5 x3]; rfl)

end Cert.Down
-- ==== Proof.DownStepRun.lean ====
/- One grid step of `Down`: its body at any step. -/
module

public import proofs.«01_k».proof.Proof.DownStepStart
public import proofs.«01_k».proof.Proof.DownStepFirst
public import proofs.«01_k».proof.Proof.DownStepMid
public import proofs.«01_k».proof.Proof.DownStepLast
public import proofs.«01_k».proof.Proof.DownStepEnd

@[expose] public section

set_option maxRecDepth 16384

noncomputable section

namespace Cert.Down

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The steps' cases exclude one another: the first of all is the first of its row, the last of all the last of its row. -/
theorem start_first (i : grid0.Coords) (h : isStart i) : isFirst i :=
  (by decide +kernel : ∀ (a : Fin 11) (b : Fin 8), (Scalar.cmpi .ne (Scalar.extui (Scalar.andi (Scalar.cmpi .eq (BitVec.ofNat 32 b.val) 0#32) (Scalar.cmpi .eq (BitVec.ofNat 32 a.val) 0#32))) 0#32) = 1#1 → (Scalar.cmpi .ne (Scalar.extui (Scalar.cmpi .eq (BitVec.ofNat 32 b.val) 0#32)) 0#32) = 1#1) (i 0) (i 1) h
theorem end_last (i : grid0.Coords) (h : isEnd i) : isLast i :=
  (by decide +kernel : ∀ (a : Fin 11) (b : Fin 8), (Scalar.cmpi .ne (Scalar.extui (Scalar.andi (Scalar.cmpi .eq (BitVec.ofNat 32 b.val) 7#32) (Scalar.cmpi .eq (BitVec.ofNat 32 a.val) 10#32))) 0#32) = 1#1 → (Scalar.cmpi .ne (Scalar.extui (Scalar.cmpi .eq (BitVec.ofNat 32 b.val) 7#32)) 0#32) = 1#1) (i 0) (i 1) h
theorem first_not_last (i : grid0.Coords) (h : isFirst i) : ¬isLast i :=
  (by decide +kernel : ∀ (b : Fin 8), (Scalar.cmpi .ne (Scalar.extui (Scalar.cmpi .eq (BitVec.ofNat 32 b.val) 0#32)) 0#32) = 1#1 → ¬(Scalar.cmpi .ne (Scalar.extui (Scalar.cmpi .eq (BitVec.ofNat 32 b.val) 7#32)) 0#32) = 1#1) (i 1) h

/-- The body, run on whole buffers at any contents, leaves its inputs as they were, the two gradients of its block, the accumulator with the block's product added, the running maxima, on the last step of a row the scaled weight gradient, and on the last step of all the two largest entries. -/
theorem body_run (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  by_cases hF : isFirst i
  · have hL := first_not_last i hF
    have hE : ¬isEnd i := fun h => hL (end_last i h)
    by_cases hFF : isStart i
    · exact body_start c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hF hFF hL hE x0 x1 x2 x3 x4 x5 x6 x7 x8 x9 y12 y13 y14 s0 s1 s2 E K
    · exact body_first c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hF hFF hL hE x0 x1 x2 x3 x4 x5 x6 x7 x8 x9 y12 y13 y14 s0 s1 s2 E K
  · have hFF : ¬isStart i := fun h => hF (start_first i h)
    by_cases hL : isLast i
    · by_cases hE : isEnd i
      · exact body_end c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hF hFF hL hE x0 x1 x2 x3 x4 x5 x6 x7 x8 x9 y12 y13 y14 s0 s1 s2 E K
      · exact body_last c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hF hFF hL hE x0 x1 x2 x3 x4 x5 x6 x7 x8 x9 y12 y13 y14 s0 s1 s2 E K
    · have hE : ¬isEnd i := fun h => hL (end_last i h)
      exact body_mid c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hF hFF hL hE x0 x1 x2 x3 x4 x5 x6 x7 x8 x9 y12 y13 y14 s0 s1 s2 E K

end Cert.Down
-- ==== Proof.DownFrame.lean ====
/- The down-projection backward kernel `Down` terminates without fault and leaves its arguments unchanged. -/
module

public import proofs.«01_k».proof.Proof.Gen.Down.Frame
public import proofs.«01_k».proof.Proof.DownStepRun
public import Idealize.ShloMosaic.Lib.Exec

@[expose] public section

set_option maxRecDepth 16384

noncomputable section

namespace Cert.Down

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- Proof data that name the arrays at the launch and nothing of the buffers. -/
def dats (_ : Fin 1) (c : Dev nD) : Dat τ (Elt F) Unit ℕ (UR sig nD τ) ℕ cfg0 c where
  A w := V m c (Pipeline.arrRef spec0 w)
  after w t := (cfg0.win w).fill (grid0.coords t) (fun _ => Classical.arbitrary _) (iblk m c w t)
  Φ _ := Pipeline.ΦA spec0 c
  q _ := fullShare
  owed _ := 0

/-- The three scratch buffers as the body names them. -/
theorem PhiA_eq (c : Dev nD) :
    (Pipeline.ΦA spec0 c : sProp 𝕄)
      = iprop(iprop((∃ d, owns (c : Thread nD τ) (Memref.whole cc0_scratch0 : Memref sig .tc .vmem S512x2048 .f32) fullShare d)
          ∗ (∃ d, owns (c : Thread nD τ) (Memref.whole cc0_scratch1 : Memref sig .tc .vmem S8x512 .f32) fullShare d)
          ∗ (∃ d, owns (c : Thread nD τ) (Memref.whole cc0_scratch2 : Memref sig .tc .vmem S8x512 .f32) fullShare d)) ∗ (∃ r, prngReg c r)) := by
  unfold Pipeline.ΦA; rw [scopedRest0_eq]; simp only [owns_whole]; try rfl

/-- The body table's row at a point is the body at its buffers. -/
theorem defs₀_row (t : Fin cfg0.N) :
    defs₀ (F := F) .tc cfg0.body (cfg0.bodyArgs t (cfg0.slots t)) = bodyAt0 t := by
  unfold defs₀; rw [Defs.onTc_tc]

/-- What the body is handed and gives back at a point: every window's buffer at some contents. -/
abbrev bufs (c : Dev nD) (t : Fin cfg0.N) : sProp 𝕄 :=
  iprop((∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X) ∗ (∃ X, owns (c : Thread nD τ) (win0_10.stage (cfg0.slots t 10)) fullShare X) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X))

/-- The body at a point, on the buffers at some contents. -/
theorem sound_body (c : Dev nD) (t : Fin cfg0.N) (J : sProp 𝕄) :
    iprop(Pipeline.ΦA spec0 c ∗ J ∗ bufs c t) ⊢ wp frame (wpE (defs₀ (F := F)) Variants.none c none) Set.univ (bodyAt0 t)
      fun _ => iprop(Pipeline.ΦA spec0 c ∗ J ∗ bufs c t) := by
  rw [PhiA_eq]
  iintro ⟨⟨⟨⟨%s0, HS0⟩, ⟨%s1, HS1⟩, ⟨%s2, HS2⟩⟩, HR⟩, HJ, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, H10, H11, ⟨%x12, H12⟩, ⟨%x13, H13⟩, ⟨%x14, H14⟩⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) _ (Memref.isWhole_whole _) _ (Memref.isWhole_whole _) _ (Memref.isWhole_whole _) x0 x1 x2 x3 x4 x5 x6 x7 x8 x9 x12 x13 x14 s0 s1 s2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  isplitl [HS0 HS1 HS2 HR]
  · isplitl [HS0 HS1 HS2]
    · isplitl [HS0]
      · iexists _; iexact HS0
      isplitl [HS1]
      · iexists _; iexact HS1
      iexists _; iexact HS2
    · iexact HR
  isplitl [HJ]; · iexact HJ
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- The body obligation: every buffer at some contents before and after. -/
theorem body_obligation (c : Dev nD) : BodyObligationLoose (dats m 0 c) (defs₀ (F := F)) Variants.none () Set.univ (fun _ => true) := fun t => by
  rw [bigSep_W0, defs₀_row]
  exact sound_body c t _

/-- The buffers that the host's operations after the kernel write. -/
def tailSet : Finset (Ref sig .tc) :=
  {main_cst, main_v3, main_v4, main_cst_0, main_v5, main_v6, main_cst_1, main_call0_v0, main_call0_v1, main_v7,
    main_cst_2, main_v8, main_v9, main_cst_3, main_v10, main_v11, main_cst_4, main_call1_v0, main_call1_v1, main_v12}

theorem tail_writes : ∀ ops ∈ ([hostOps1, hostOps1_1, hostOps1_2, hostOps1_3] : List (List (HloOp τ sig (Elt F)))), ∀ op ∈ ops,
    ∀ b : Ref sig .tc, Proc.devRef .tc b ∈ op.writes → b ∈ tailSet := by
  intro ops hops op hop b hb
  simp only [List.mem_cons, List.mem_nil_iff, or_false] at hops
  rcases hops with rfl | rfl | rfl | rfl <;> simp only [List.mem_cons, List.mem_nil_iff, or_false] at hop <;>
    rcases hop with rfl | rfl | rfl | rfl | rfl | rfl | rfl <;>
    exact (Proc.devRef_injective .tc (Finset.mem_singleton.mp hb)) ▸ (by decide)

set_option backward.isDefEq.respectTransparency.types false in
set_option maxHeartbeats 800000 in
/-- The launch: every array of an input ends as it began, every buffer that the host does not write too, and every counter at
    zero. -/
theorem run_main : θ_run defs (onTc (τ := τ) (main (F := F))) (s₀ m ρ)
    (fun r => RDat.FramePostR cfg0 (fun c => (dats m 0 c).toRForget fun _ => true) tailSet (fun c b => V0 m c (Proc.devRef .tc b)) r
      ∧ r.2.sem = fun _ => 0) :=
  Pipeline.θ_run_frame_around_T_forget (Q' := _) cfgs (dats m) (0 : Fin 1) launch0 defs₀ Variants.none (fun _ => true) tailSet m ρ main
    (hbody := body_obligation m) (hshare := fun c => (dats m 0 c).share_full fun _ => rfl)
    (howed := fun _ _ => rfl) (V0 m) [hostOps1, hostOps1_1, hostOps1_2, hostOps1_3] sfx_sub sfx_fresh sfx_keeps tail_writes
    (hmain := hmain m Variants.none) (hA := fun _ _ => rfl) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c),
      (h.1.arr_in c 6 rfl).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      (h.1.arr_in c 9 rfl).trans (V_main_arg9 m c)⟩, h.2⟩) (run_main m ρ)

end Cert.Down
-- ==== Proof.DownMath.lean ====
/- The mathematics of the result `dw_down` of the call `down`: one entry is a sum over the 8192 rows of a code of the hidden
   activations times a code of the output gradient, times the two scales; also summed over the first rows alone. -/
module

public import Idealize.ShloMosaic.Lib.Pointwise

@[expose] public section

noncomputable section

namespace Cert.DownMath

open Idealize.ShloMosaic

/-- One entry of the gradient before its scales. -/
def dot (h d : Fin 8192 → EReal) : EReal := ∑ r, h r * d r

/-- A row's term of `dot` at any number, nothing past the last row. -/
def term (h d : Fin 8192 → EReal) (i : ℕ) : EReal := if hi : i < 8192 then h ⟨i, hi⟩ * d ⟨i, hi⟩ else 0

/-- `dot` over the first `b` blocks of 1024 rows. -/
def part (h d : Fin 8192 → EReal) (b : ℕ) : EReal := ∑ i ∈ Finset.range (1024 * b), term h d i

theorem part_zero (h d : Fin 8192 → EReal) : part h d 0 = 0 := by
  unfold part; rw [Nat.mul_zero, Finset.sum_range_zero]

/-- One more block of rows. -/
theorem part_succ (h d : Fin 8192 → EReal) (b : ℕ) :
    part h d (b + 1) = part h d b + ∑ r : Fin 1024, term h d (1024 * b + r.val) := by
  unfold part
  rw [Nat.mul_succ, Finset.sum_range_add, Finset.sum_range (n := 1024)]

/-- All eight blocks. -/
theorem part_eight (h d : Fin 8192 → EReal) : part h d 8 = dot h d := by
  unfold part dot
  rw [show 1024 * 8 = 8192 from rfl, Finset.sum_range]
  exact Finset.sum_congr rfl fun r _ => by unfold term; rw [dif_pos r.isLt]

end Cert.DownMath
-- ==== Proof.DownBody.lean ====
/- One grid step of the down-projection backward kernel `DownIdeal`: what its body leaves in each staging buffer and scratch. -/
module

public import proofs.«01_k».proof.Proof.Gen.DownIdeal.Frame
public import proofs.«01_k».proof.Proof.Gen.DownIdeal.Skeleton
public import Idealize.ShloMosaic.Lib.VecWindow
public import Idealize.ShloMosaic.Lib.Exec

@[expose] public section

set_option maxRecDepth 16384

noncomputable section

namespace Cert.DownIdeal

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The step is the first of its row of the grid. -/
abbrev isFirst (i : grid0.Coords) : Prop := (Scalar.cmpi .ne (Scalar.extui (Scalar.cmpi .eq (BitVec.ofNat 32 (i 1).val) 0#32)) 0#32) = 1#1
/-- The step is the first of all. -/
abbrev isStart (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
/-- The step is the last of its row of the grid. -/
abbrev isLast (i : grid0.Coords) : Prop := k0_cond3 i = 1#1
/-- The step is the last of all. -/
abbrev isEnd (i : grid0.Coords) : Prop := k0_cond4 i = 1#1

/-- The kernel's load of the one element of a one-element vector. -/
def sc (x : Vec F S1 .f32) : F .f32 := View.ld x (Rect.unit (s := S1) ![0] S1.size inb_S1_S1_0) (Shape.Idx.first (by decide))

/-- The rows of the output gradient's codes that the step multiplies by. -/
def dblk (i : grid0.Coords) (x3 : Vec F S8192x2048 .fp8e5m2) : Vec F S1024x2048 .fp8e5m2 :=
  View.ld x3 (Rect.unit (s := S8192x2048) (k0_off1 i) S1024x2048.size (k0_off1_inb i))

/-- The block of the gate gradient. -/
def outDg (i : grid0.Coords) (x0 x1 : Vec F S1 .f32) (x3 : Vec F S8192x2048 .fp8e5m2) (x5 x6 : Vec F S1024x512 .fp8e4m3) (x7 x8 : Vec F S1x32x1024 .f32) (x9 : Vec F S512x2048 .fp8e4m3) : Vec F S1024x512 .f32 :=
  k0_pay28 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32) (k0_pay18 x6) (k0_pay26 (k0_pay10 x8) (iota .tc S1024x128 32 [1] iota_S1024x128_d1_w32) (k0_pay19 (k0_pay10 x8)) (k0_pay22 (k0_pay10 x8) (iota .tc S1024x128 32 [1] iota_S1024x128_d1_w32) 16#32 k0_pay20 k0_pay21 0#32) (k0_pay23 (iota .tc S1024x128 32 [1] iota_S1024x128_d1_w32)) (k0_pay24 (iota .tc S1024x128 32 [1] iota_S1024x128_d1_w32)) k0_pay25)

/-- The block of the up gradient. -/
def outDu (i : grid0.Coords) (x0 x1 : Vec F S1 .f32) (x3 : Vec F S8192x2048 .fp8e5m2) (x5 : Vec F S1024x512 .fp8e4m3) (x7 : Vec F S1x32x1024 .f32) (x9 : Vec F S512x2048 .fp8e4m3) : Vec F S1024x512 .f32 :=
  k0_pay29 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32)

open Classical in
/-- The accumulator after the step. -/
def newAcc (i : grid0.Coords) (x3 : Vec F S8192x2048 .fp8e5m2) (x4 : Vec F S1024x512 .fp8e4m3) (s : Vec F S512x2048 .f32) : Vec F S512x2048 .f32 :=
  k0_pay7 (dblk i x3) (if isFirst i then k0_pay6 (F := F) else s) x4

open Classical in
/-- The running maxima of the gate gradient after the step. -/
def newMg (i : grid0.Coords) (x0 x1 : Vec F S1 .f32) (x3 : Vec F S8192x2048 .fp8e5m2) (x5 x6 : Vec F S1024x512 .fp8e4m3) (x7 x8 : Vec F S1x32x1024 .f32) (x9 : Vec F S512x2048 .fp8e4m3) (s : Vec F S8x512 .f32) : Vec F S8x512 .f32 :=
  k0_pay1 (k0_pay30 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32) (k0_pay18 x6) (k0_pay26 (k0_pay10 x8) (iota .tc S1024x128 32 [1] iota_S1024x128_d1_w32) (k0_pay19 (k0_pay10 x8)) (k0_pay22 (k0_pay10 x8) (iota .tc S1024x128 32 [1] iota_S1024x128_d1_w32) 16#32 k0_pay20 k0_pay21 0#32) (k0_pay23 (iota .tc S1024x128 32 [1] iota_S1024x128_d1_w32)) (k0_pay24 (iota .tc S1024x128 32 [1] iota_S1024x128_d1_w32)) k0_pay25)) (k0_pay34 (BitVec.ofNat 32 (i 0).val)) (if isStart i then k0_pay32 (F := F) else s) (k0_pay35 (F := F))

open Classical in
/-- The running maxima of the up gradient after the step. -/
def newMu (i : grid0.Coords) (x0 x1 : Vec F S1 .f32) (x3 : Vec F S8192x2048 .fp8e5m2) (x5 : Vec F S1024x512 .fp8e4m3) (x7 : Vec F S1x32x1024 .f32) (x9 : Vec F S512x2048 .fp8e4m3) (s : Vec F S8x512 .f32) : Vec F S8x512 .f32 :=
  k0_pay2 (k0_pay31 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32)) (k0_pay34 (BitVec.ofNat 32 (i 0).val)) (if isStart i then k0_pay33 (F := F) else s)

open Classical in
/-- The block of the weight gradient after the step. -/
def newDwd (i : grid0.Coords) (x0 x2 : Vec F S1 .f32) (g : Vec F S512x2048 .f32) (y : Vec F S512x2048 .bf16) : Vec F S512x2048 .bf16 :=
  if isLast i then k0_pay3 g (sc x2) (sc x0) else y

open Classical in
/-- The largest gate gradient after the step. -/
def newAg (i : grid0.Coords) (s : Vec F S8x512 .f32) (y : Vec F S1 .f32) : Vec F S1 .f32 :=
  if isEnd i then fun _ => k0_pay4 s else y

open Classical in
/-- The largest up gradient after the step. -/
def newAu (i : grid0.Coords) (s : Vec F S8x512 .f32) (y : Vec F S1 .f32) : Vec F S1 .f32 :=
  if isEnd i then fun _ => k0_pay5 s else y

section Cases
variable (i : grid0.Coords) (x2 : Vec F S1 .f32) (x0 x1 : Vec F S1 .f32) (x3 : Vec F S8192x2048 .fp8e5m2) (x5 x6 : Vec F S1024x512 .fp8e4m3) (x7 x8 : Vec F S1x32x1024 .f32) (x9 : Vec F S512x2048 .fp8e4m3) (x4 : Vec F S1024x512 .fp8e4m3) (s g : Vec F S512x2048 .f32) (y : Vec F S512x2048 .bf16) (z : Vec F S1 .f32) (v : Vec F S8x512 .f32)
theorem newAcc_first (h : isFirst i) : newAcc i x3 x4 s = k0_pay7 (dblk i x3) (k0_pay6 (F := F)) x4 := by unfold newAcc; rw [if_pos h]
theorem newAcc_next (h : ¬isFirst i) : newAcc i x3 x4 s = k0_pay7 (dblk i x3) s x4 := by unfold newAcc; rw [if_neg h]
theorem newMg_first (h : isStart i) : newMg i x0 x1 x3 x5 x6 x7 x8 x9 v = k0_pay1 (k0_pay30 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32) (k0_pay18 x6) (k0_pay26 (k0_pay10 x8) (iota .tc S1024x128 32 [1] iota_S1024x128_d1_w32) (k0_pay19 (k0_pay10 x8)) (k0_pay22 (k0_pay10 x8) (iota .tc S1024x128 32 [1] iota_S1024x128_d1_w32) 16#32 k0_pay20 k0_pay21 0#32) (k0_pay23 (iota .tc S1024x128 32 [1] iota_S1024x128_d1_w32)) (k0_pay24 (iota .tc S1024x128 32 [1] iota_S1024x128_d1_w32)) k0_pay25)) (k0_pay34 (BitVec.ofNat 32 (i 0).val)) (k0_pay32 (F := F)) (k0_pay35 (F := F)) := by unfold newMg; rw [if_pos h]
theorem newMg_next (h : ¬isStart i) : newMg i x0 x1 x3 x5 x6 x7 x8 x9 v = k0_pay1 (k0_pay30 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32) (k0_pay18 x6) (k0_pay26 (k0_pay10 x8) (iota .tc S1024x128 32 [1] iota_S1024x128_d1_w32) (k0_pay19 (k0_pay10 x8)) (k0_pay22 (k0_pay10 x8) (iota .tc S1024x128 32 [1] iota_S1024x128_d1_w32) 16#32 k0_pay20 k0_pay21 0#32) (k0_pay23 (iota .tc S1024x128 32 [1] iota_S1024x128_d1_w32)) (k0_pay24 (iota .tc S1024x128 32 [1] iota_S1024x128_d1_w32)) k0_pay25)) (k0_pay34 (BitVec.ofNat 32 (i 0).val)) v (k0_pay35 (F := F)) := by unfold newMg; rw [if_neg h]
theorem newMu_first (h : isStart i) : newMu i x0 x1 x3 x5 x7 x9 v = k0_pay2 (k0_pay31 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32)) (k0_pay34 (BitVec.ofNat 32 (i 0).val)) (k0_pay33 (F := F)) := by unfold newMu; rw [if_pos h]
theorem newMu_next (h : ¬isStart i) : newMu i x0 x1 x3 x5 x7 x9 v = k0_pay2 (k0_pay31 (k0_pay8 (dblk i x3) x9 (sc x0) (sc x1)) (k0_pay17 (k0_pay9 x7) (k0_pay11 x5) (iota .tc S1024x128 32 [1] iota_S1024x128_d1_w32) (k0_pay12 (k0_pay9 x7) (iota .tc S1024x128 32 [1] iota_S1024x128_d1_w32)) (k0_pay15 (k0_pay9 x7) (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32)) (k0_pay34 (BitVec.ofNat 32 (i 0).val)) v := by unfold newMu; rw [if_neg h]
theorem newDwd_last (h : isLast i) : newDwd i x0 x2 g y = k0_pay3 g (sc x2) (sc x0) := by unfold newDwd; rw [if_pos h]
theorem newDwd_idle (h : ¬isLast i) : newDwd i x0 x2 g y = y := by unfold newDwd; rw [if_neg h]
theorem newAg_last (h : isEnd i) : newAg i v z = fun _ => k0_pay4 v := by unfold newAg; rw [if_pos h]
theorem newAg_idle (h : ¬isEnd i) : newAg i v z = z := by unfold newAg; rw [if_neg h]
theorem newAu_last (h : isEnd i) : newAu i v z = fun _ => k0_pay5 v := by unfold newAu; rw [if_pos h]
theorem newAu_idle (h : ¬isEnd i) : newAu i v z = z := by unfold newAu; rw [if_neg h]
end Cases

section Loads
variable {κ : Kind} {sp : Space}
/-- A load of a whole block reads its contents. -/
theorem rd1A {e : EltTy} (a : Memref sig κ sp S1024x512 e) (h : a.IsWhole) (x : Vec F S1024x512 e) :
    View.readAt (Elt F) a.view (Rect.unit (s := S1024x512) ![0, 0] ![1024, 512] inb_S1024x512_S1024x512_0_0).toLoadRect (h.unread x) = x :=
  (View.readAt_full a.view (s := S1024x512) (h.unread x) inb_S1024x512_S1024x512_0_0).trans (h.read_unread _)
/-- A load of a whole block after a store of all of it reads what was stored. -/
theorem rd1C {e : EltTy} (a : Memref sig κ sp S1024x512 e) (f : a.view.ty.Contents (Elt F)) (w : Vec F S1024x512 e) (L : List (View.Piece (Elt F) S1024x512 e)) :
    View.readAt (Elt F) a.view (Rect.unit (s := S1024x512) ![0, 0] ![1024, 512] inb_S1024x512_S1024x512_0_0).toLoadRect
      (a.view.writes (Elt F) f (⟨Rect.unit (s := S1024x512) ![0, 0] ![1024, 512] inb_S1024x512_S1024x512_0_0, w⟩ :: L)) = w :=
  View.readAt_writes_full a.view f inb_S1024x512_S1024x512_0_0 inb_S1024x512_S1024x512_0_0 w L
/-- The same of a load stated over the stores alone. -/
theorem rd1D {e : EltTy} [∀ e, Nonempty (Elt F e)] (a : Memref sig κ sp S1024x512 e) (w : Vec F S1024x512 e) (L : List (View.Piece (Elt F) S1024x512 e)) :
    a.view.readCov (⟨Rect.unit (s := S1024x512) ![0, 0] ![1024, 512] inb_S1024x512_S1024x512_0_0, w⟩ :: L)
      (Rect.unit (s := S1024x512) ![0, 0] ![1024, 512] inb_S1024x512_S1024x512_0_0).toLoadRect = w :=
  View.readCov_full a.view inb_S1024x512_S1024x512_0_0 inb_S1024x512_S1024x512_0_0 w L
/-- A load of a whole block reads its contents. -/
theorem rd2A {e : EltTy} (a : Memref sig κ sp S512x2048 e) (h : a.IsWhole) (x : Vec F S512x2048 e) :
    View.readAt (Elt F) a.view (Rect.unit (s := S512x2048) ![0, 0] ![512, 2048] inb_S512x2048_S512x2048_0_0).toLoadRect (h.unread x) = x :=
  (View.readAt_full a.view (s := S512x2048) (h.unread x) inb_S512x2048_S512x2048_0_0).trans (h.read_unread _)
/-- A load of a whole block after a store of all of it reads what was stored. -/
theorem rd2C {e : EltTy} (a : Memref sig κ sp S512x2048 e) (f : a.view.ty.Contents (Elt F)) (w : Vec F S512x2048 e) (L : List (View.Piece (Elt F) S512x2048 e)) :
    View.readAt (Elt F) a.view (Rect.unit (s := S512x2048) ![0, 0] ![512, 2048] inb_S512x2048_S512x2048_0_0).toLoadRect
      (a.view.writes (Elt F) f (⟨Rect.unit (s := S512x2048) ![0, 0] ![512, 2048] inb_S512x2048_S512x2048_0_0, w⟩ :: L)) = w :=
  View.readAt_writes_full a.view f inb_S512x2048_S512x2048_0_0 inb_S512x2048_S512x2048_0_0 w L
/-- The same of a load stated over the stores alone. -/
theorem rd2D {e : EltTy} [∀ e, Nonempty (Elt F e)] (a : Memref sig κ sp S512x2048 e) (w : Vec F S512x2048 e) (L : List (View.Piece (Elt F) S512x2048 e)) :
    a.view.readCov (⟨Rect.unit (s := S512x2048) ![0, 0] ![512, 2048] inb_S512x2048_S512x2048_0_0, w⟩ :: L)
      (Rect.unit (s := S512x2048) ![0, 0] ![512, 2048] inb_S512x2048_S512x2048_0_0).toLoadRect = w :=
  View.readCov_full a.view inb_S512x2048_S512x2048_0_0 inb_S512x2048_S512x2048_0_0 w L
/-- A load of a whole block reads its contents. -/
theorem rd3A {e : EltTy} (a : Memref sig κ sp S1x32x1024 e) (h : a.IsWhole) (x : Vec F S1x32x1024 e) :
    View.readAt (Elt F) a.view (Rect.unit (s := S1x32x1024) ![0, 0, 0] ![1, 32, 1024] inb_S1x32x1024_S1x32x1024_0_0_0).toLoadRect (h.unread x) = x :=
  (View.readAt_full a.view (s := S1x32x1024) (h.unread x) inb_S1x32x1024_S1x32x1024_0_0_0).trans (h.read_unread _)
/-- A load of a whole block after a store of all of it reads what was stored. -/
theorem rd3C {e : EltTy} (a : Memref sig κ sp S1x32x1024 e) (f : a.view.ty.Contents (Elt F)) (w : Vec F S1x32x1024 e) (L : List (View.Piece (Elt F) S1x32x1024 e)) :
    View.readAt (Elt F) a.view (Rect.unit (s := S1x32x1024) ![0, 0, 0] ![1, 32, 1024] inb_S1x32x1024_S1x32x1024_0_0_0).toLoadRect
      (a.view.writes (Elt F) f (⟨Rect.unit (s := S1x32x1024) ![0, 0, 0] ![1, 32, 1024] inb_S1x32x1024_S1x32x1024_0_0_0, w⟩ :: L)) = w :=
  View.readAt_writes_full a.view f inb_S1x32x1024_S1x32x1024_0_0_0 inb_S1x32x1024_S1x32x1024_0_0_0 w L
/-- The same of a load stated over the stores alone. -/
theorem rd3D {e : EltTy} [∀ e, Nonempty (Elt F e)] (a : Memref sig κ sp S1x32x1024 e) (w : Vec F S1x32x1024 e) (L : List (View.Piece (Elt F) S1x32x1024 e)) :
    a.view.readCov (⟨Rect.unit (s := S1x32x1024) ![0, 0, 0] ![1, 32, 1024] inb_S1x32x1024_S1x32x1024_0_0_0, w⟩ :: L)
      (Rect.unit (s := S1x32x1024) ![0, 0, 0] ![1, 32, 1024] inb_S1x32x1024_S1x32x1024_0_0_0).toLoadRect = w :=
  View.readCov_full a.view inb_S1x32x1024_S1x32x1024_0_0_0 inb_S1x32x1024_S1x32x1024_0_0_0 w L
/-- A load of a whole block reads its contents. -/
theorem rd4A {e : EltTy} (a : Memref sig κ sp S8x512 e) (h : a.IsWhole) (x : Vec F S8x512 e) :
    View.readAt (Elt F) a.view (Rect.unit (s := S8x512) ![0, 0] ![8, 512] inb_S8x512_S8x512_0_0).toLoadRect (h.unread x) = x :=
  (View.readAt_full a.view (s := S8x512) (h.unread x) inb_S8x512_S8x512_0_0).trans (h.read_unread _)
/-- A load of a whole block after a store of all of it reads what was stored. -/
theorem rd4C {e : EltTy} (a : Memref sig κ sp S8x512 e) (f : a.view.ty.Contents (Elt F)) (w : Vec F S8x512 e) (L : List (View.Piece (Elt F) S8x512 e)) :
    View.readAt (Elt F) a.view (Rect.unit (s := S8x512) ![0, 0] ![8, 512] inb_S8x512_S8x512_0_0).toLoadRect
      (a.view.writes (Elt F) f (⟨Rect.unit (s := S8x512) ![0, 0] ![8, 512] inb_S8x512_S8x512_0_0, w⟩ :: L)) = w :=
  View.readAt_writes_full a.view f inb_S8x512_S8x512_0_0 inb_S8x512_S8x512_0_0 w L
/-- The same of a load stated over the stores alone. -/
theorem rd4D {e : EltTy} [∀ e, Nonempty (Elt F e)] (a : Memref sig κ sp S8x512 e) (w : Vec F S8x512 e) (L : List (View.Piece (Elt F) S8x512 e)) :
    a.view.readCov (⟨Rect.unit (s := S8x512) ![0, 0] ![8, 512] inb_S8x512_S8x512_0_0, w⟩ :: L)
      (Rect.unit (s := S8x512) ![0, 0] ![8, 512] inb_S8x512_S8x512_0_0).toLoadRect = w :=
  View.readCov_full a.view inb_S8x512_S8x512_0_0 inb_S8x512_S8x512_0_0 w L
/-- The scalar loads. -/
theorem rdS (a : Memref sig κ sp S1 .f32) (h : a.IsWhole) (x : Vec F S1 .f32) (hp) :
    View.readAt (Elt F) a.view (Rect.unit (s := S1) ![0] ![1] inb_S1_S1_0).toLoadRect (h.unread x) (Shape.Idx.first hp) = sc x := by
  refine (congrFun (View.readAt_eq_ld a.view _ _) _).trans ?_
  rw [h.read_unread]; rfl
/-- The load of the step's rows of the codes. -/
theorem rdN (i : grid0.Coords) (a : Memref sig κ sp S8192x2048 .fp8e5m2) (h : a.IsWhole) (x : Vec F S8192x2048 .fp8e5m2) :
    View.readAt (Elt F) a.view (Rect.unit (s := S8192x2048) (k0_off1 i) ![1024, 2048] (k0_off1_inb i)).toLoadRect (h.unread x) = dblk i x := by
  refine (View.readAt_eq_ld a.view _ _).trans ?_
  rw [h.read_unread]; rfl
end Loads

end Cert.DownIdeal
-- ==== Proof.DownKer.lean ====
/- The payloads of the kernel `DownIdeal` that make the weight's gradient, read at an index. -/
module

public import proofs.«01_k».proof.Proof.DownMath
public import proofs.«01_k».proof.Proof.DownBody
public import Idealize.ShloMosaic.Lib.Pipeline.ValueKit.Geometry

@[expose] public section

set_option maxRecDepth 16384

noncomputable section

namespace Cert.DownIdeal

open Idealize.ShloMosaic Cert.DownIdeal.Gen Cert.DownMath

theorem sc_eq (x : Vec Ideal S1 .f32) : sc (F := Ideal) x = x (ix1 0) := by
  unfold sc
  pointwise

/-- A product of the transposed codes and a block, at an entry. -/
theorem mm_apply (a : Vec Ideal S1024x512 .fp8e4m3) (b : Vec Ideal S1024x2048 .fp8e5m2) (f : Fin 512) (k : Fin 2048) :
    matmul (F := Ideal) (φ₁ := .fp8e4m3) (φ₂ := .fp8e5m2) dot_S1024x512_S1024x2048_S512x2048_0_0_1_1_n_n none a b (constant S512x2048 .f32 0x00000000#32) (ix2 f k)
      = ∑ r : Fin 1024, a (ix2 r f) * b (ix2 r k) := by
  pointwise

theorem pay7_apply (v2 : Vec Ideal S1024x2048 .fp8e5m2) (v6 : Vec Ideal S512x2048 .f32) (v7 : Vec Ideal S1024x512 .fp8e4m3)
    (f : Fin 512) (k : Fin 2048) :
    k0_pay7 (F := Ideal) v2 v6 v7 (ix2 f k) = v6 (ix2 f k) + ∑ r : Fin 1024, v7 (ix2 r f) * v2 (ix2 r k) := by
  unfold k0_pay7
  rw [shapeCast_self]
  refine Eq.trans (b := v6 (ix2 f k) + matmul (F := Ideal) (φ₁ := .fp8e4m3) (φ₂ := .fp8e5m2) dot_S1024x512_S1024x2048_S512x2048_0_0_1_1_n_n none v7 v2 (constant S512x2048 .f32 0x00000000#32) (ix2 f k)) rfl ?_
  rw [mm_apply]

theorem pay3_apply (v : Vec Ideal S512x2048 .f32) (a b : EReal) (f : Fin 512) (k : Fin 2048) :
    k0_pay3 (F := Ideal) v a b (ix2 f k) = v (ix2 f k) * a * b := rfl

theorem pay6_apply (f : Fin 512) (k : Fin 2048) : k0_pay6 (F := Ideal) (ix2 f k) = 0 := by
  pointwise [k0_pay6]

/-- The rows of the codes that a point reads: the block of 1024 rows that its second coordinate names. -/
theorem dblk_apply (i : grid0.Coords) (x : Vec Ideal S8192x2048 .fp8e5m2) (r : Fin 1024) (k : Fin 2048)
    (h : 1024 * (i 1).val + r.val < 8192) :
    dblk (F := Ideal) i x (ix2 r k) = x (ix2 ⟨1024 * (i 1).val + r.val, h⟩ k) := by
  unfold dblk
  refine congrArg x ?_
  refine funext fun a => Fin.ext ?_
  refine (ValueKit.rect_emb_unit_val _ _ _ _ a).trans ?_
  refine (congrArg (· + _) (congrFun (k0_off1_eq i) a)).trans ?_
  match a with
  | ⟨0, _⟩ => rfl
  | ⟨1, _⟩ => exact Nat.zero_add _

end Cert.DownIdeal
-- ==== Proof.DownBlk.lean ====
/- The blocks of the kernel `DownIdeal` that make the weight's gradient: point `t` of the grid works on block `t % 8` of the rows
   (1024 of them) and block `t / 8` of the columns (512 of them, the last block with the 384 that are left). -/
module

public import proofs.«01_k».proof.Proof.DownKer
public import proofs.«01_k».proof.Proof.Gen.DownIdeal.Frame

@[expose] public section

set_option maxRecDepth 16384

noncomputable section

namespace Cert.DownIdeal

open Idealize.ShloMosaic Idealize.ShloMosaic.TcCoe Idealize.SL.Sem Cert.DownIdeal.Gen Cert.DownMath

variable (m : (ℓ : Loc nD τ sig) → Buf (Elt Ideal) ℓ) (c : Dev nD)

/-- A row of the block of point `t`. -/
def row (t : Fin cfg0.N) (r : Fin 1024) : Fin 8192 := ⟨t.val % 8 * 1024 + r.val, by have := r.isLt; omega⟩

/-- A column of the block of point `t`, where it lies in the array. -/
def col (t : Fin cfg0.N) (y : Fin 512) (h : t.val / 8 * 512 + y.val < 5504) : Fin 5504 := ⟨t.val / 8 * 512 + y.val, h⟩

theorem idx_0 : ∀ t : Fin cfg0.N, win0_0.index t = ![0] := (by decide +kernel : ∀ t : Fin grid0.N, _)

theorem iblk_0 (t : Fin cfg0.N) : (iblk m c 0 t : Vec Ideal S1 .f32) = m ((c : Thread nD τ).loc main_arg0) := by
  funext i
  blk_simp [iblk, idx_0]
  rw [V_main_arg0]
  congr 1
  blk_ext [idx_0]

theorem idx_2 : ∀ t : Fin cfg0.N, win0_2.index t = ![0] := (by decide +kernel : ∀ t : Fin grid0.N, _)

theorem iblk_2 (t : Fin cfg0.N) : (iblk m c 2 t : Vec Ideal S1 .f32) = m ((c : Thread nD τ).loc main_arg2) := by
  funext i
  blk_simp [iblk, idx_2]
  rw [V_main_arg2]
  congr 1
  blk_ext [idx_2]

theorem idx_3 : ∀ t : Fin cfg0.N, win0_3.index t = ![0, 0] := (by decide +kernel : ∀ t : Fin grid0.N, _)

theorem iblk_3 (t : Fin cfg0.N) : (iblk m c 3 t : Vec Ideal S8192x2048 .fp8e5m2) = m ((c : Thread nD τ).loc main_arg3) := by
  funext i
  blk_simp [iblk, idx_3]
  rw [V_main_arg3]
  congr 1
  blk_ext [idx_3]

theorem idx_4 : ∀ t : Fin cfg0.N, win0_4.index t = ![t.val % 8, t.val / 8] := (by decide +kernel : ∀ t : Fin grid0.N, _)

theorem xs_4 : ∀ t : Fin cfg0.N, win0_4.xsize (grid0.coords t) 0 = 1024 ∧ win0_4.xsize (grid0.coords t) 1 = min 512 (5504 - t.val / 8 * 512) :=
  (by decide +kernel : ∀ t : Fin grid0.N, _)

/-- A fetched block's entry in the array, whatever the buffer held. -/
theorem fill_4 (t : Fin cfg0.N) (d : Vec Ideal S1024x512 .fp8e4m3) (r : Fin 1024) (y : Fin 512) (h : t.val / 8 * 512 + y.val < 5504) :
    (win0_4.fill (grid0.coords t) d (iblk m c 4 t) : Vec Ideal S1024x512 .fp8e4m3) (ix2 r y)
      = m ((c : Thread nD τ).loc main_arg4) (ix2 (row t r) (col t y h)) := by
  have hm : win0_4.moved (grid0.coords t) (ix2 r y : S1024x512.Idx) = true := by
    refine (win0_4.moved_iff _ _).mpr fun a => ?_
    match a with
    | ⟨0, _⟩ => exact lt_of_lt_of_eq r.isLt (xs_4 t).1.symm
    | ⟨1, _⟩ =>
      refine lt_of_lt_of_eq ?_ (xs_4 t).2.symm
      have hy := y.isLt
      show y.val < min 512 (5504 - t.val / 8 * 512)
      omega
  unfold Pipeline.Window.fill
  rw [dif_pos hm]
  blk_simp [iblk, idx_4]
  rw [V_main_arg4]
  congr 1
  unfold row col
  blk_ext [idx_4]

theorem idx_12 : ∀ t : Fin cfg0.N, win0_12.index t = ![t.val / 8, 0] := (by decide +kernel : ∀ t : Fin grid0.N, _)

theorem xs_12 : ∀ t : Fin cfg0.N, win0_12.xsize (grid0.coords t) 0 = min 512 (5504 - t.val / 8 * 512) ∧ win0_12.xsize (grid0.coords t) 1 = 2048 :=
  (by decide +kernel : ∀ t : Fin grid0.N, _)

/-- A buffer that holds an array's block where the block lies in the array: what is written back is that block. -/
theorem cut_12 (t : Fin cfg0.N) (X : Vec Ideal S512x2048 .bf16) (G : Vec Ideal S5504x2048 .bf16)
    (hX : ∀ (y : Fin 512) (k : Fin 2048) (h : t.val / 8 * 512 + y.val < 5504), X (ix2 y k) = G (ix2 (col t y h) k)) :
    win0_12.cut (grid0.coords t) X = (win0_12.blk t).view.read (Elt Ideal) G := by
  funext y
  have h0 : (y 0).val < min 512 (5504 - t.val / 8 * 512) := lt_of_lt_of_eq (y 0).isLt (xs_12 t).1
  have h1 : (y 1).val < 2048 := lt_of_lt_of_eq (y 1).isLt (xs_12 t).2
  have hc : t.val / 8 * 512 + (y 0).val < 5504 := by omega
  have e1 : win0_12.xinj (grid0.coords t) y = (ix2 (⟨(y 0).val, by omega⟩ : Fin 512) (⟨(y 1).val, h1⟩ : Fin 2048) : S512x2048.Idx) := by
    funext a
    match a with
    | ⟨0, _⟩ => rfl
    | ⟨1, _⟩ => rfl
  have e2 : ((win0_12.blk t).view.emb y : S5504x2048.Idx) = ix2 (col t ⟨(y 0).val, by omega⟩ hc) (⟨(y 1).val, h1⟩ : Fin 2048) := by
    have i0 : win0_12.index t 0 = t.val / 8 := congrFun (idx_12 t) 0
    have i1 : win0_12.index t 1 = 0 := congrFun (idx_12 t) 1
    refine funext fun a => Fin.ext ?_
    match a with
    | ⟨0, _⟩ => exact (win0_12.rect_emb_val t y 0).trans (congrArg (· * 512 + (y 0).val) i0)
    | ⟨1, _⟩ => exact win0_12.rect_emb_val_of_index_zero t 1 i1 y
  exact (congrArg X e1).trans ((hX _ _ hc).trans (congrArg G e2).symm)

theorem coord_1 : ∀ t : Fin cfg0.N, ((grid0.coords t) 1).val = t.val % 8 := (by decide +kernel : ∀ t : Fin grid0.N, _)

/-- The first block of rows. -/
theorem isFirst_iff : ∀ t : Fin cfg0.N, isFirst (grid0.coords t) ↔ t.val % 8 = 0 := (by decide +kernel : ∀ t : Fin grid0.N, _)

/-- The last block of rows. -/
theorem isLast_iff : ∀ t : Fin cfg0.N, isLast (grid0.coords t) ↔ t.val % 8 = 7 := (by decide +kernel : ∀ t : Fin grid0.N, _)

end Cert.DownIdeal
-- ==== Proof.DownAcc.lean ====
/- The accumulator of the kernel `DownIdeal` and the weight's gradient that it leaves, as functions of its arguments: before point
   `t`, where `t % 8` is not zero, the accumulator holds the product over the first `t % 8` blocks of rows. -/
module

public import proofs.«01_k».proof.Proof.DownBlk

@[expose] public section

set_option maxRecDepth 16384

noncomputable section

namespace Cert.DownIdeal

open Idealize.ShloMosaic Idealize.ShloMosaic.TcCoe Idealize.SL.Sem Cert.DownIdeal.Gen Cert.DownMath

variable (m : (ℓ : Loc nD τ sig) → Buf (Elt Ideal) ℓ) (c : Dev nD)

/-- The weight's gradient. -/
def G12 : Vec Ideal S5504x2048 .bf16 := fun i =>
  dot (fun r => m ((c : Thread nD τ).loc main_arg4) (ix2 r (i 0))) (fun r => m ((c : Thread nD τ).loc main_arg3) (ix2 r (i 1)))
    * m ((c : Thread nD τ).loc main_arg2) (ix1 0) * m ((c : Thread nD τ).loc main_arg0) (ix1 0)

/-- The gradient before its scales, over the first `b` blocks of rows. -/
def partD (f : Fin 5504) (k : Fin 2048) (b : ℕ) : EReal :=
  part (fun r => m ((c : Thread nD τ).loc main_arg4) (ix2 r f)) (fun r => m ((c : Thread nD τ).loc main_arg3) (ix2 r k)) b

/-- The accumulator before point `n`. -/
def Inv (n : ℕ) (s0 : Vec Ideal S512x2048 .f32) : Prop :=
  n % 8 ≠ 0 → ∀ (y : Fin 512) (k : Fin 2048) (h : n / 8 * 512 + y.val < 5504), s0 (ix2 y k) = partD m c ⟨n / 8 * 512 + y.val, h⟩ k (n % 8)

/-- One block's product of codes, as the next terms of the sum over all rows. -/
theorem sum_blk (t : Fin cfg0.N) (n : Vec Ideal S8192x2048 .fp8e5m2) (X : Vec Ideal S1024x512 .fp8e4m3) (H : Fin 8192 → EReal)
    (y : Fin 512) (k : Fin 2048) (hX : ∀ r : Fin 1024, X (ix2 r y) = H (row t r)) :
    ∑ r : Fin 1024, X (ix2 r y) * dblk (F := Ideal) (grid0.coords t) n (ix2 r k)
      = ∑ r : Fin 1024, term H (fun r => n (ix2 r k)) (1024 * (t.val % 8) + r.val) := by
  refine Finset.sum_congr rfl fun r _ => ?_
  have hr := r.isLt
  have e1 := coord_1 t
  have h8 : 1024 * (t.val % 8) + r.val < 8192 := by omega
  have h8' : 1024 * ((grid0.coords t) 1).val + r.val < 8192 := by rw [e1]; exact h8
  have er : row t r = ⟨1024 * (t.val % 8) + r.val, h8⟩ := Fin.ext (by show t.val % 8 * 1024 + r.val = 1024 * (t.val % 8) + r.val; omega)
  have er' : (⟨1024 * ((grid0.coords t) 1).val + r.val, h8'⟩ : Fin 8192) = ⟨1024 * (t.val % 8) + r.val, h8⟩ :=
    Fin.ext (congrArg (1024 * · + r.val) e1)
  unfold term
  rw [dif_pos h8, dblk_apply _ _ _ _ h8', hX, er, er']

/-- The accumulator after point `t`. -/
theorem newAcc_apply (t : Fin cfg0.N) (s0 : Vec Ideal S512x2048 .f32) (hI : Inv m c t.val s0) (X : Vec Ideal S1024x512 .fp8e4m3)
    (hX : ∀ (r : Fin 1024) (y : Fin 512) (h : t.val / 8 * 512 + y.val < 5504), X (ix2 r y) = m ((c : Thread nD τ).loc main_arg4) (ix2 (row t r) (col t y h)))
    (y : Fin 512) (k : Fin 2048) (h : t.val / 8 * 512 + y.val < 5504) :
    newAcc (F := Ideal) (grid0.coords t) (m ((c : Thread nD τ).loc main_arg3)) X s0 (ix2 y k) = partD m c (col t y h) k (t.val % 8 + 1) := by
  unfold partD
  rw [part_succ]
  by_cases h0 : t.val % 8 = 0
  · rw [newAcc_first (h := (isFirst_iff t).mpr h0), pay7_apply, pay6_apply,
      sum_blk t _ X (fun r => m ((c : Thread nD τ).loc main_arg4) (ix2 r (col t y h))) y k fun r => hX r y h]
    congr 1
    rw [h0, part_zero]
  · rw [newAcc_next (h := fun hf => h0 ((isFirst_iff t).mp hf)), pay7_apply,
      sum_blk t _ X (fun r => m ((c : Thread nD τ).loc main_arg4) (ix2 r (col t y h))) y k fun r => hX r y h]
    congr 1
    exact hI h0 y k h

/-- The accumulator before the next point. -/
theorem Inv_succ (t : Fin cfg0.N) (s0 : Vec Ideal S512x2048 .f32)
    (h0 : ∀ (y : Fin 512) (k : Fin 2048) (h : t.val / 8 * 512 + y.val < 5504), s0 (ix2 y k) = partD m c (col t y h) k (t.val % 8 + 1)) :
    Inv m c (t.val + 1) s0 := by
  intro hn y k h
  have ed : (t.val + 1) / 8 = t.val / 8 := by omega
  have em : (t.val + 1) % 8 = t.val % 8 + 1 := by omega
  have h' : t.val / 8 * 512 + y.val < 5504 := by rw [← ed]; exact h
  have ec : (⟨(t.val + 1) / 8 * 512 + y.val, h⟩ : Fin 5504) = col t y h' := Fin.ext (congrArg (· * 512 + y.val) ed)
  rw [ec, em]
  exact h0 y k h'

/-- After the last block of rows the gradient's block is the array's. -/
theorem last_12 (t : Fin cfg0.N) (h7 : t.val % 8 = 7) (g : Vec Ideal S512x2048 .f32)
    (hg : ∀ (y : Fin 512) (k : Fin 2048) (h : t.val / 8 * 512 + y.val < 5504), g (ix2 y k) = partD m c (col t y h) k (t.val % 8 + 1)) :
    win0_12.cut (grid0.coords t) (k0_pay3 (F := Ideal) g (sc (m ((c : Thread nD τ).loc main_arg2))) (sc (m ((c : Thread nD τ).loc main_arg0))))
      = (win0_12.blk t).view.read (Elt Ideal) (G12 m c) := by
  refine cut_12 t _ _ fun y k h => ?_
  rw [pay3_apply, hg y k h, h7, sc_eq, sc_eq]
  unfold partD
  rw [part_eight]
  rfl

end Cert.DownIdeal
-- ==== Proof.DownGateMath.lean ====
/- The mathematics of the results `dg` and `du` of the call `down`, one entry at a time. -/
module

public import Idealize.ShloMosaic.Lib.Pointwise

@[expose] public section

noncomputable section

namespace Cert.DownMath

open Idealize.ShloMosaic

/-- The gradient of the hidden activations at one entry: a row of codes times a row of the weight's, times two scales. -/
def dh (d w : Fin 2048 → EReal) (p q : EReal) : EReal := (∑ k, d k * w k) * p * q

/-- The gate's gradient from the hidden gradient `h`, the gate `g` and the up projection `u`. -/
def dgE (h g u : EReal) : EReal := h * u * Ideal.logistic g * (1 + g * (1 - Ideal.logistic g))

/-- The up projection's gradient. -/
def duE (h g : EReal) : EReal := h * g * Ideal.logistic g

/-- The scale of a row's feature: the rows come in two halves of 4096, the features in groups of 16. -/
def scl (s : Fin 2 → Fin 4096 → Fin 344 → EReal) (r : Fin 8192) (f : Fin 5504) : EReal :=
  s ⟨r.val / 4096, by have := r.isLt; omega⟩ ⟨r.val % 4096, Nat.mod_lt _ (by decide)⟩ ⟨f.val / 16, by have := f.isLt; omega⟩

/-- Result `dg` as a function of the arguments. -/
def dgA (p q : EReal) (d : Fin 8192 → Fin 2048 → EReal) (w : Fin 5504 → Fin 2048 → EReal) (g u : Fin 8192 → Fin 5504 → EReal)
    (gs us : Fin 2 → Fin 4096 → Fin 344 → EReal) (r : Fin 8192) (f : Fin 5504) : EReal :=
  dgE (dh (d r) (w f) p q) (g r f * scl gs r f) (u r f * scl us r f)

/-- Result `du` as a function of the arguments. -/
def duA (p q : EReal) (d : Fin 8192 → Fin 2048 → EReal) (w : Fin 5504 → Fin 2048 → EReal) (g : Fin 8192 → Fin 5504 → EReal)
    (gs : Fin 2 → Fin 4096 → Fin 344 → EReal) (r : Fin 8192) (f : Fin 5504) : EReal :=
  duE (dh (d r) (w f) p q) (g r f * scl gs r f)

/-- A power of two whose exponent is divided by minus the logarithm of two is an exponential. -/
theorem exp2_neg (x : EReal) : Ideal.exp2 (x * ((-((Real.log 2)⁻¹) : ℝ) : EReal)) = Ideal.exp (-x) := by
  have hl : 0 < Real.log 2 := Real.log_pos (by norm_num)
  have hc : (-((Real.log 2)⁻¹) : ℝ) < 0 := neg_neg_of_pos (inv_pos.mpr hl)
  induction x using EReal.rec with
  | bot => rw [EReal.bot_mul_coe_of_neg hc, EReal.neg_bot]; rfl
  | top => rw [EReal.top_mul_coe_of_neg hc, EReal.neg_top]; rfl
  | coe r =>
    rw [← EReal.coe_mul, ← EReal.coe_neg]
    show ((Real.rpow 2 (r * -(Real.log 2)⁻¹) : ℝ) : EReal) = ((Real.exp (-r) : ℝ) : EReal)
    congr 1
    show (2 : ℝ) ^ (r * -(Real.log 2)⁻¹) = _
    rw [Real.rpow_def_of_pos (by norm_num)]
    congr 1
    field_simp

/-- The sigmoid through a power of two. -/
theorem sigmoid_exp2 (x : EReal) :
    Ideal.div 1 (1 + Ideal.exp2 (x * ((-((Real.log 2)⁻¹) : ℝ) : EReal))) = Ideal.logistic x := by
  rw [exp2_neg]; rfl

end Cert.DownMath
-- ==== Proof.DownGate.lean ====
/- The payloads of the kernel `DownIdeal` that make the gradients of the gate and of the up projection, read at an index. The
   kernel widens the 32 group scales of a row to the block's 512 features in four pieces of 128 lanes: piece `q` gathers, at lane
   `l`, the scale of group `8 q + l / 16`. -/
module

public import proofs.«01_k».proof.Proof.DownGateMath
public import proofs.«01_k».proof.Proof.DownKer

@[expose] public section

set_option maxRecDepth 16384

noncomputable section

namespace Cert.DownIdeal

open Idealize.ShloMosaic Cert.DownIdeal.Gen Cert.DownMath

/-- The lane's number divided by 16, rounded down, as the kernel computes it. -/
def lane16 : IVec S1024x128 32 :=
  have v20 : IVec S1024x128 32 := iota .tc S1024x128 32 [1] iota_S1024x128_d1_w32
  have d : IVec S1024x128 32 := divsi v20 (broadcast S1024x128 16#32)
  have sg : IVec S1024x128 32 := subi (extui 32 (cmpi .sgt v20 (broadcast S1024x128 0#32)) natLt_1_32)
    (extui 32 (cmpi .slt v20 (broadcast S1024x128 0#32)) natLt_1_32)
  have ne : IVec S1024x128 1 := cmpi .ne sg (broadcast S1024x128
    (Scalar.subi (Scalar.extui (Scalar.cmpi .sgt 16#32 0#32)) (Scalar.extui (Scalar.cmpi .slt 16#32 0#32))))
  have rm : IVec S1024x128 1 := cmpi .ne (remsi v20 (broadcast S1024x128 16#32)) (broadcast S1024x128 0#32)
  select (andi ne rm) (subi d (broadcast S1024x128 1#32)) d

/-- The index words of one piece: its first group plus the lane's, a negative one counted from the end. -/
def gidx (q : BitVec 32) : IVec S1024x128 32 :=
  have s : IVec S1024x128 32 := addi (broadcast S1024x128 q) lane16
  select (cmpi .slt s (broadcast S1024x128 0#32)) (addi s (broadcast S1024x128 128#32)) s

/-- One piece of the widened scales. -/
def tile (v : FVec Ideal S1024x128 .f32) (q : BitVec 32) : FVec Ideal S1024x128 .f32 :=
  dynamicGather 1 v (shapeCast S1024x128 (shapeCast S1024x128x1 (gidx q) shapeCasts_S1024x128_S1024x128x1) shapeCasts_S1024x128x1_S1024x128)

theorem gidx_apply (q : Fin 4) (r : Fin 1024) (l : Fin 128) :
    gidx (BitVec.ofNat 32 (8 * q.val)) (ix2 r l) = BitVec.ofNat 32 (8 * q.val + l.val / 16) := by
  have h : ∀ (q : Fin 4) (l : Fin 128), gidx (BitVec.ofNat 32 (8 * q.val)) (ix2 0 l) = BitVec.ofNat 32 (8 * q.val + l.val / 16) := by
    decide +kernel
  exact h q l

theorem tile_apply (v : FVec Ideal S1024x128 .f32) (q : Fin 4) (r : Fin 1024) (l : Fin 128) (w : BitVec 32)
    (hw : w = BitVec.ofNat 32 (8 * q.val)) :
    tile v w (ix2 r l) = v (ix2 r ⟨8 * q.val + l.val / 16, by have := q.isLt; have := l.isLt; omega⟩) := by
  have hq := q.isLt
  have hl := l.isLt
  subst hw
  unfold tile
  rw [show shapeCast S1024x128 (shapeCast S1024x128x1 (gidx (BitVec.ofNat 32 (8 * q.val))) shapeCasts_S1024x128_S1024x128x1)
      shapeCasts_S1024x128x1_S1024x128 = gidx (BitVec.ofNat 32 (8 * q.val)) from by
        funext i; idx_vars i; pointwise]
  rw [dynamicGather_apply]
  congr 1
  funext a
  match a with
  | ⟨0, _⟩ => rfl
  | ⟨1, _⟩ =>
    apply Fin.ext
    show ((gidx _ (ix2 r l)).toNat % 128) = _
    rw [gidx_apply, BitVec.toNat_ofNat]
    show _ = 8 * q.val + l.val / 16
    omega

/-- The widened scales: the four pieces side by side. -/
def wide (v : FVec Ideal S1024x128 .f32) : FVec Ideal S1024x512 .f32 :=
  concatenate S1024x512 1 [⟨S1024x128, tile v 0#32⟩, ⟨S1024x128, tile v 8#32⟩, ⟨S1024x128, tile v 16#32⟩, ⟨S1024x128, tile v 24#32⟩]
    concatenates_S1024x128_S1024x128_S1024x128_S1024x128_S1024x512_d1

theorem wide_apply (v : FVec Ideal S1024x128 .f32) (r : Fin 1024) (k : Fin 512) :
    wide v (ix2 r k) = v (ix2 r ⟨k.val / 16, by have := k.isLt; omega⟩) := by
  have hk := k.isLt
  have hc : Shape.Concatenates ((List.ofFn fun q : Fin 4 =>
      (⟨S1024x128, tile v (BitVec.ofNat 32 (8 * q.val))⟩ : (s : Shape) × (s.Idx → EReal))).map (·.1)) S1024x512 1 :=
    concatenates_S1024x128_S1024x128_S1024x128_S1024x128_S1024x512_d1
  have e : wide v = concatenate S1024x512 1 (List.ofFn fun q : Fin 4 =>
      (⟨S1024x128, tile v (BitVec.ofNat 32 (8 * q.val))⟩ : (s : Shape) × (s.Idx → EReal))) hc := rfl
  rw [e]
  refine (concatenate_ofFn_apply (s₁ := S1024x128) (t := S1024x512) 1 (fun q : Fin 4 => tile v (BitVec.ofNat 32 (8 * q.val))) hc rfl 128 rfl
    (ix2 r k) ⟨k.val / 128, by omega⟩ rfl (ix2 r ⟨k.val % 128, by omega⟩) rfl ?_).trans
    ((tile_apply v ⟨k.val / 128, by omega⟩ r ⟨k.val % 128, by omega⟩ _ rfl).trans ?_)
  · intro b hb
    match b with
    | ⟨0, _⟩ => rfl
    | ⟨1, _⟩ => exact absurd rfl hb
  · congr 2
    apply Fin.ext
    show 8 * (k.val / 128) + k.val % 128 / 16 = k.val / 16
    omega

/-- The scales that a point reads, one row's in the first 32 places. -/
theorem pay9_apply (x : Vec Ideal S1x32x1024 .f32) (r : Fin 1024) (g : Fin 32) :
    k0_pay9 (F := Ideal) x (ix2 r ⟨g.val, by have := g.isLt; omega⟩) = x (ix3 0 g r) := by
  have hg := g.isLt
  have h : concatenate S128x1024 0 [⟨S32x1024, shapeCast S32x1024 x shapeCasts_S1x32x1024_S32x1024⟩, ⟨S32x1024, shapeCast S32x1024 x shapeCasts_S1x32x1024_S32x1024⟩,
        ⟨S32x1024, shapeCast S32x1024 x shapeCasts_S1x32x1024_S32x1024⟩, ⟨S32x1024, shapeCast S32x1024 x shapeCasts_S1x32x1024_S32x1024⟩]
        concatenates_S32x1024_S32x1024_S32x1024_S32x1024_S128x1024_d0 (ix2 (⟨g.val, by omega⟩ : Fin 128) r) = shapeCast S32x1024 x shapeCasts_S1x32x1024_S32x1024 (ix2 g r) := by
    have hc : Shape.Concatenates ((List.ofFn fun q : Fin 4 =>
        (⟨S32x1024, shapeCast S32x1024 x shapeCasts_S1x32x1024_S32x1024⟩ : (s : Shape) × (s.Idx → EReal))).map (·.1)) S128x1024 0 :=
      concatenates_S32x1024_S32x1024_S32x1024_S32x1024_S128x1024_d0
    refine (concatenate_ofFn_apply (s₁ := S32x1024) (t := S128x1024) 0 (fun q : Fin 4 => shapeCast S32x1024 x shapeCasts_S1x32x1024_S32x1024) hc rfl 32 rfl
      (ix2 (⟨g.val, by omega⟩ : Fin 128) r) 0 ?_ (ix2 g r) ?_ ?_)
    · show g.val / 32 = 0
      omega
    · show g.val = g.val % 32
      omega
    · intro b hb
      match b with
      | ⟨0, _⟩ => exact absurd rfl hb
      | ⟨1, _⟩ => rfl
  unfold k0_pay9
  pointwise [h]

theorem pay10_eq (x : Vec Ideal S1x32x1024 .f32) : k0_pay10 (F := Ideal) x = k0_pay9 x := rfl

/-- A product of a block of codes and the weight's codes, at an entry. -/
theorem mm2_apply (a : Vec Ideal S1024x2048 .fp8e5m2) (b : Vec Ideal S512x2048 .fp8e4m3) (r : Fin 1024) (y : Fin 512) :
    matmul (F := Ideal) (φ₁ := .fp8e5m2) (φ₂ := .fp8e4m3) dot_S1024x2048_S512x2048_S1024x512_1_1_0_0_n_n none a b (constant S1024x512 .f32 0x00000000#32) (ix2 r y)
      = ∑ k : Fin 2048, a (ix2 r k) * b (ix2 y k) := by
  pointwise

theorem pay8_apply (a : Vec Ideal S1024x2048 .fp8e5m2) (b : Vec Ideal S512x2048 .fp8e4m3) (p q : EReal) (r : Fin 1024) (y : Fin 512) :
    k0_pay8 (F := Ideal) a b p q (ix2 r y) = dh (fun k => a (ix2 r k)) (fun k => b (ix2 y k)) p q := by
  refine Eq.trans (b := matmul (F := Ideal) (φ₁ := .fp8e5m2) (φ₂ := .fp8e4m3) dot_S1024x2048_S512x2048_S1024x512_1_1_0_0_n_n none a b (constant S1024x512 .f32 0x00000000#32) (ix2 r y) * p * q) rfl ?_
  rw [mm2_apply]
  rfl

theorem pay27_apply (g : FVec Ideal S1024x512 .f32) (r : Fin 1024) (y : Fin 512) :
    k0_pay27 (F := Ideal) g (ix2 r y) = Ideal.logistic (g (ix2 r y)) := by
  rw [← sigmoid_exp2]
  pointwise [k0_pay27]
  rfl

theorem pay28_apply (h g u w : FVec Ideal S1024x512 .f32) (r : Fin 1024) (y : Fin 512) :
    k0_pay28 (F := Ideal) h g u w (ix2 r y) = dgE (h (ix2 r y)) (g (ix2 r y)) (u (ix2 r y) * w (ix2 r y)) := by
  unfold dgE
  pointwise [k0_pay28, pay27_apply]

theorem pay29_apply (h g : FVec Ideal S1024x512 .f32) (r : Fin 1024) (y : Fin 512) :
    k0_pay29 (F := Ideal) h g (ix2 r y) = duE (h (ix2 r y)) (g (ix2 r y)) := by
  unfold duE
  pointwise [k0_pay29, pay27_apply]

/-- The widened scales of the gate's activations times their codes. -/
theorem gate_eq (v : FVec Ideal S1024x128 .f32) (x : FVec Ideal S1024x512 .f32) :
    k0_pay17 v x (iota .tc S1024x128 32 [1] iota_S1024x128_d1_w32) (k0_pay12 v (iota .tc S1024x128 32 [1] iota_S1024x128_d1_w32)) (k0_pay15 v (iota .tc S1024x128 32 [1] iota_S1024x128_d1_w32) 16#32 (k0_pay13 (iota .tc S1024x128 32 [1] iota_S1024x128_d1_w32)) (k0_pay14 (iota .tc S1024x128 32 [1] iota_S1024x128_d1_w32)) (Scalar.extui (Scalar.cmpi .sgt 16#32 0#32)) 0#32) (k0_pay16 (iota .tc S1024x128 32 [1] iota_S1024x128_d1_w32)) 16#32
      = mulf x (wide v) := rfl

/-- The widened scales of the up projection's. -/
theorem up_eq (v : FVec Ideal S1024x128 .f32) :
    k0_pay26 v (iota .tc S1024x128 32 [1] iota_S1024x128_d1_w32) (k0_pay19 v) (k0_pay22 v (iota .tc S1024x128 32 [1] iota_S1024x128_d1_w32) 16#32 k0_pay20 k0_pay21 0#32) (k0_pay23 (iota .tc S1024x128 32 [1] iota_S1024x128_d1_w32)) (k0_pay24 (iota .tc S1024x128 32 [1] iota_S1024x128_d1_w32)) k0_pay25
      = wide v := rfl

section Out
variable (i : grid0.Coords) (x0 x1 : Vec Ideal S1 .f32) (x3 : Vec Ideal S8192x2048 .fp8e5m2) (x5 x6 : Vec Ideal S1024x512 .fp8e4m3)
  (x7 x8 : Vec Ideal S1x32x1024 .f32) (x9 : Vec Ideal S512x2048 .fp8e4m3) (r : Fin 1024) (y : Fin 512)

/-- A feature's group in the block. -/
def grp (y : Fin 512) : Fin 32 := ⟨y.val / 16, by have := y.isLt; omega⟩

theorem outDg_apply : outDg (F := Ideal) i x0 x1 x3 x5 x6 x7 x8 x9 (ix2 r y)
    = dgE (dh (fun k => dblk (F := Ideal) i x3 (ix2 r k)) (fun k => x9 (ix2 y k)) (x0 (ix1 0)) (x1 (ix1 0)))
        (x5 (ix2 r y) * x7 (ix3 0 (grp y) r)) (x6 (ix2 r y) * x8 (ix3 0 (grp y) r)) := by
  unfold outDg
  rw [gate_eq, up_eq, pay28_apply, pay8_apply, wide_apply, pay10_eq, sc_eq, sc_eq]
  rw [← pay9_apply x7 r (grp y), ← pay9_apply x8 r (grp y)]
  congr 1
  exact congrArg (x5 (ix2 r y) * ·) (wide_apply _ r y)

theorem outDu_apply : outDu (F := Ideal) i x0 x1 x3 x5 x7 x9 (ix2 r y)
    = duE (dh (fun k => dblk (F := Ideal) i x3 (ix2 r k)) (fun k => x9 (ix2 y k)) (x0 (ix1 0)) (x1 (ix1 0)))
        (x5 (ix2 r y) * x7 (ix3 0 (grp y) r)) := by
  unfold outDu
  rw [gate_eq, pay29_apply, pay8_apply, sc_eq, sc_eq]
  rw [← pay9_apply x7 r (grp y)]
  congr 1
  exact congrArg (x5 (ix2 r y) * ·) (wide_apply _ r y)

end Out

end Cert.DownIdeal
-- ==== Proof.DownGateBlk.lean ====
/- The blocks of the kernel `DownIdeal` that make the gradients of the gate and of the up projection, and those gradients as
   functions of its arguments. -/
module

public import proofs.«01_k».proof.Proof.DownGate
public import proofs.«01_k».proof.Proof.DownBlk

@[expose] public section

set_option maxRecDepth 16384

noncomputable section

namespace Cert.DownIdeal

open Idealize.ShloMosaic Idealize.ShloMosaic.TcCoe Idealize.SL.Sem Cert.DownIdeal.Gen Cert.DownMath

variable (m : (ℓ : Loc nD τ sig) → Buf (Elt Ideal) ℓ) (c : Dev nD)

theorem V_main_v0 : V m c main_v0
    = transpose S2x344x4096 [0, 2, 1] (m ((c : Thread nD τ).loc main_arg7)) transposes_S2x4096x344_S2x344x4096_0_2_1 := rfl

theorem V_main_v1 : V m c main_v1
    = transpose S2x344x4096 [0, 2, 1] (m ((c : Thread nD τ).loc main_arg8)) transposes_S2x4096x344_S2x344x4096_0_2_1 := rfl

theorem idx_1 : ∀ t : Fin cfg0.N, win0_1.index t = ![0] := (by decide +kernel : ∀ t : Fin grid0.N, _)

theorem iblk_1 (t : Fin cfg0.N) : (iblk m c 1 t : Vec Ideal S1 .f32) = m ((c : Thread nD τ).loc main_arg1) := by
  funext i
  blk_simp [iblk, idx_1]
  rw [V_main_arg1]
  congr 1
  blk_ext [idx_1]

/-- The group of a column of the block, where it lies in the array. -/
def gcol (t : Fin cfg0.N) (g : Fin 32) (h : t.val / 8 * 32 + g.val < 344) : Fin 344 := ⟨t.val / 8 * 32 + g.val, h⟩

/-- The half of the rows that the block of point `t` lies in. -/
def half (t : Fin cfg0.N) : Fin 2 := ⟨t.val % 8 / 4, by omega⟩

/-- A row's place in its half. -/
def hrow (t : Fin cfg0.N) (r : Fin 1024) : Fin 4096 := ⟨t.val % 8 % 4 * 1024 + r.val, by have := r.isLt; omega⟩

theorem idx_5 : ∀ t : Fin cfg0.N, win0_5.index t = ![t.val % 8, t.val / 8] := (by decide +kernel : ∀ t : Fin grid0.N, _)

theorem xs_5 : ∀ t : Fin cfg0.N, win0_5.xsize (grid0.coords t) 0 = 1024 ∧ win0_5.xsize (grid0.coords t) 1 = min 512 (5504 - t.val / 8 * 512) :=
  (by decide +kernel : ∀ t : Fin grid0.N, _)

theorem fill_5 (t : Fin cfg0.N) (d : Vec Ideal S1024x512 .fp8e4m3) (r : Fin 1024) (y : Fin 512) (h : t.val / 8 * 512 + y.val < 5504) :
    (win0_5.fill (grid0.coords t) d (iblk m c 5 t) : Vec Ideal S1024x512 .fp8e4m3) (ix2 r y)
      = m ((c : Thread nD τ).loc main_arg5) (ix2 (row t r) (col t y h)) := by
  have hm : win0_5.moved (grid0.coords t) (ix2 r y : S1024x512.Idx) = true := by
    refine (win0_5.moved_iff _ _).mpr fun a => ?_
    match a with
    | ⟨0, _⟩ => exact lt_of_lt_of_eq r.isLt (xs_5 t).1.symm
    | ⟨1, _⟩ =>
      refine lt_of_lt_of_eq ?_ (xs_5 t).2.symm
      have hy := y.isLt
      show y.val < min 512 (5504 - t.val / 8 * 512)
      omega
  unfold Pipeline.Window.fill
  rw [dif_pos hm]
  blk_simp [iblk, idx_5]
  rw [V_main_arg5]
  congr 1
  unfold row col
  blk_ext [idx_5]

theorem idx_6 : ∀ t : Fin cfg0.N, win0_6.index t = ![t.val % 8, t.val / 8] := (by decide +kernel : ∀ t : Fin grid0.N, _)

theorem xs_6 : ∀ t : Fin cfg0.N, win0_6.xsize (grid0.coords t) 0 = 1024 ∧ win0_6.xsize (grid0.coords t) 1 = min 512 (5504 - t.val / 8 * 512) :=
  (by decide +kernel : ∀ t : Fin grid0.N, _)

theorem fill_6 (t : Fin cfg0.N) (d : Vec Ideal S1024x512 .fp8e4m3) (r : Fin 1024) (y : Fin 512) (h : t.val / 8 * 512 + y.val < 5504) :
    (win0_6.fill (grid0.coords t) d (iblk m c 6 t) : Vec Ideal S1024x512 .fp8e4m3) (ix2 r y)
      = m ((c : Thread nD τ).loc main_arg6) (ix2 (row t r) (col t y h)) := by
  have hm : win0_6.moved (grid0.coords t) (ix2 r y : S1024x512.Idx) = true := by
    refine (win0_6.moved_iff _ _).mpr fun a => ?_
    match a with
    | ⟨0, _⟩ => exact lt_of_lt_of_eq r.isLt (xs_6 t).1.symm
    | ⟨1, _⟩ =>
      refine lt_of_lt_of_eq ?_ (xs_6 t).2.symm
      have hy := y.isLt
      show y.val < min 512 (5504 - t.val / 8 * 512)
      omega
  unfold Pipeline.Window.fill
  rw [dif_pos hm]
  blk_simp [iblk, idx_6]
  rw [V_main_arg6]
  congr 1
  unfold row col
  blk_ext [idx_6]

theorem idx_7 : ∀ t : Fin cfg0.N, win0_7.index t = ![t.val % 8 / 4, t.val / 8, t.val % 8 % 4] := (by decide +kernel : ∀ t : Fin grid0.N, _)

theorem xs_7 : ∀ t : Fin cfg0.N, win0_7.xsize (grid0.coords t) 0 = 1 ∧ win0_7.xsize (grid0.coords t) 1 = min 32 (344 - t.val / 8 * 32)
    ∧ win0_7.xsize (grid0.coords t) 2 = 1024 :=
  (by decide +kernel : ∀ t : Fin grid0.N, _)

theorem fill_7 (t : Fin cfg0.N) (d : Vec Ideal S1x32x1024 .f32) (g : Fin 32) (r : Fin 1024) (h : t.val / 8 * 32 + g.val < 344) :
    (win0_7.fill (grid0.coords t) d (iblk m c 7 t) : Vec Ideal S1x32x1024 .f32) (ix3 0 g r)
      = m ((c : Thread nD τ).loc main_arg7) (ix3 (half t) (hrow t r) (gcol t g h)) := by
  have hm : win0_7.moved (grid0.coords t) (ix3 0 g r : S1x32x1024.Idx) = true := by
    refine (win0_7.moved_iff _ _).mpr fun a => ?_
    match a with
    | ⟨0, _⟩ => exact lt_of_lt_of_eq Nat.zero_lt_one (xs_7 t).1.symm
    | ⟨1, _⟩ =>
      refine lt_of_lt_of_eq ?_ (xs_7 t).2.1.symm
      have hg := g.isLt
      show g.val < min 32 (344 - t.val / 8 * 32)
      omega
    | ⟨2, _⟩ => exact lt_of_lt_of_eq r.isLt (xs_7 t).2.2.symm
  have e : m ((c : Thread nD τ).loc main_arg7) (ix3 (half t) (hrow t r) (gcol t g h))
      = transpose S2x344x4096 [0, 2, 1] (m ((c : Thread nD τ).loc main_arg7)) transposes_S2x4096x344_S2x344x4096_0_2_1
          (ix3 (half t) (gcol t g h) (hrow t r)) := by
    pointwise
  rw [e]
  unfold Pipeline.Window.fill
  rw [dif_pos hm]
  blk_simp [iblk, idx_7]
  rw [V_main_v0]
  congr 1
  unfold half gcol hrow
  blk_ext [idx_7]

theorem idx_8 : ∀ t : Fin cfg0.N, win0_8.index t = ![t.val % 8 / 4, t.val / 8, t.val % 8 % 4] := (by decide +kernel : ∀ t : Fin grid0.N, _)

theorem xs_8 : ∀ t : Fin cfg0.N, win0_8.xsize (grid0.coords t) 0 = 1 ∧ win0_8.xsize (grid0.coords t) 1 = min 32 (344 - t.val / 8 * 32)
    ∧ win0_8.xsize (grid0.coords t) 2 = 1024 :=
  (by decide +kernel : ∀ t : Fin grid0.N, _)

theorem fill_8 (t : Fin cfg0.N) (d : Vec Ideal S1x32x1024 .f32) (g : Fin 32) (r : Fin 1024) (h : t.val / 8 * 32 + g.val < 344) :
    (win0_8.fill (grid0.coords t) d (iblk m c 8 t) : Vec Ideal S1x32x1024 .f32) (ix3 0 g r)
      = m ((c : Thread nD τ).loc main_arg8) (ix3 (half t) (hrow t r) (gcol t g h)) := by
  have hm : win0_8.moved (grid0.coords t) (ix3 0 g r : S1x32x1024.Idx) = true := by
    refine (win0_8.moved_iff _ _).mpr fun a => ?_
    match a with
    | ⟨0, _⟩ => exact lt_of_lt_of_eq Nat.zero_lt_one (xs_8 t).1.symm
    | ⟨1, _⟩ =>
      refine lt_of_lt_of_eq ?_ (xs_8 t).2.1.symm
      have hg := g.isLt
      show g.val < min 32 (344 - t.val / 8 * 32)
      omega
    | ⟨2, _⟩ => exact lt_of_lt_of_eq r.isLt (xs_8 t).2.2.symm
  have e : m ((c : Thread nD τ).loc main_arg8) (ix3 (half t) (hrow t r) (gcol t g h))
      = transpose S2x344x4096 [0, 2, 1] (m ((c : Thread nD τ).loc main_arg8)) transposes_S2x4096x344_S2x344x4096_0_2_1
          (ix3 (half t) (gcol t g h) (hrow t r)) := by
    pointwise
  rw [e]
  unfold Pipeline.Window.fill
  rw [dif_pos hm]
  blk_simp [iblk, idx_8]
  rw [V_main_v1]
  congr 1
  unfold half gcol hrow
  blk_ext [idx_8]

theorem idx_9 : ∀ t : Fin cfg0.N, win0_9.index t = ![t.val / 8, 0] := (by decide +kernel : ∀ t : Fin grid0.N, _)

theorem xs_9 : ∀ t : Fin cfg0.N, win0_9.xsize (grid0.coords t) 0 = min 512 (5504 - t.val / 8 * 512) ∧ win0_9.xsize (grid0.coords t) 1 = 2048 :=
  (by decide +kernel : ∀ t : Fin grid0.N, _)

theorem fill_9 (t : Fin cfg0.N) (d : Vec Ideal S512x2048 .fp8e4m3) (y : Fin 512) (k : Fin 2048) (h : t.val / 8 * 512 + y.val < 5504) :
    (win0_9.fill (grid0.coords t) d (iblk m c 9 t) : Vec Ideal S512x2048 .fp8e4m3) (ix2 y k)
      = m ((c : Thread nD τ).loc main_arg9) (ix2 (col t y h) k) := by
  have hm : win0_9.moved (grid0.coords t) (ix2 y k : S512x2048.Idx) = true := by
    refine (win0_9.moved_iff _ _).mpr fun a => ?_
    match a with
    | ⟨0, _⟩ =>
      refine lt_of_lt_of_eq ?_ (xs_9 t).1.symm
      have hy := y.isLt
      show y.val < min 512 (5504 - t.val / 8 * 512)
      omega
    | ⟨1, _⟩ => exact lt_of_lt_of_eq k.isLt (xs_9 t).2.symm
  have i0 : win0_9.index t 0 = t.val / 8 := congrFun (idx_9 t) 0
  have i1 : win0_9.index t 1 = 0 := congrFun (idx_9 t) 1
  unfold Pipeline.Window.fill
  rw [dif_pos hm]
  blk_simp [iblk, idx_9]
  rw [V_main_arg9]
  refine congrArg (m ((c : Thread nD τ).loc main_arg9)) (funext fun a => Fin.ext ?_)
  match a with
  | ⟨0, _⟩ => exact (win0_9.rect_emb_val t _ 0).trans (congrArg (· * 512 + y.val) i0)
  | ⟨1, _⟩ => exact win0_9.rect_emb_val_of_index_zero t 1 i1 _

/-- The window's cuts follow its block. -/
theorem clip_9 (t t' : Fin cfg0.N) (h : win0_9.index t = win0_9.index t') : win0_9.clip (grid0.coords t) = win0_9.clip (grid0.coords t') := by
  have hb : ∀ t : Fin cfg0.N, win0_9.clip (grid0.coords t) = win0_9.clip (grid0.coords ⟨t.val / 8 * 8, lt_of_le_of_lt (Nat.div_mul_le_self _ _) t.isLt⟩) :=
    (by decide +kernel : ∀ t : Fin grid0.N, _)
  have e : t.val / 8 = t'.val / 8 := by
    have := congrFun h 0
    rwa [idx_9, idx_9] at this
  rw [hb t, hb t']
  congr 3
  rw [e]

theorem idx_10 : ∀ t : Fin cfg0.N, win0_10.index t = ![t.val % 8, t.val / 8] := (by decide +kernel : ∀ t : Fin grid0.N, _)

theorem xs_10 : ∀ t : Fin cfg0.N, win0_10.xsize (grid0.coords t) 0 = 1024 ∧ win0_10.xsize (grid0.coords t) 1 = min 512 (5504 - t.val / 8 * 512) :=
  (by decide +kernel : ∀ t : Fin grid0.N, _)

theorem cut_10 (t : Fin cfg0.N) (X : Vec Ideal S1024x512 .f32) (G : Vec Ideal S8192x5504 .f32)
    (hX : ∀ (r : Fin 1024) (y : Fin 512) (h : t.val / 8 * 512 + y.val < 5504), X (ix2 r y) = G (ix2 (row t r) (col t y h))) :
    win0_10.cut (grid0.coords t) X = (win0_10.blk t).view.read (Elt Ideal) G := by
  funext y
  have h0 : (y 0).val < 1024 := lt_of_lt_of_eq (y 0).isLt (xs_10 t).1
  have h1 : (y 1).val < min 512 (5504 - t.val / 8 * 512) := lt_of_lt_of_eq (y 1).isLt (xs_10 t).2
  have hc : t.val / 8 * 512 + (y 1).val < 5504 := by omega
  have e1 : win0_10.xinj (grid0.coords t) y = (ix2 (⟨(y 0).val, h0⟩ : Fin 1024) (⟨(y 1).val, by omega⟩ : Fin 512) : S1024x512.Idx) := by
    funext a
    match a with
    | ⟨0, _⟩ => rfl
    | ⟨1, _⟩ => rfl
  have e2 : ((win0_10.blk t).view.emb y : S8192x5504.Idx) = ix2 (row t ⟨(y 0).val, h0⟩) (col t ⟨(y 1).val, by omega⟩ hc) := by
    unfold row col
    blk_ext [idx_10]
  exact (congrArg X e1).trans ((hX _ _ hc).trans (congrArg G e2).symm)

theorem idx_11 : ∀ t : Fin cfg0.N, win0_11.index t = ![t.val % 8, t.val / 8] := (by decide +kernel : ∀ t : Fin grid0.N, _)

theorem xs_11 : ∀ t : Fin cfg0.N, win0_11.xsize (grid0.coords t) 0 = 1024 ∧ win0_11.xsize (grid0.coords t) 1 = min 512 (5504 - t.val / 8 * 512) :=
  (by decide +kernel : ∀ t : Fin grid0.N, _)

theorem cut_11 (t : Fin cfg0.N) (X : Vec Ideal S1024x512 .f32) (G : Vec Ideal S8192x5504 .f32)
    (hX : ∀ (r : Fin 1024) (y : Fin 512) (h : t.val / 8 * 512 + y.val < 5504), X (ix2 r y) = G (ix2 (row t r) (col t y h))) :
    win0_11.cut (grid0.coords t) X = (win0_11.blk t).view.read (Elt Ideal) G := by
  funext y
  have h0 : (y 0).val < 1024 := lt_of_lt_of_eq (y 0).isLt (xs_11 t).1
  have h1 : (y 1).val < min 512 (5504 - t.val / 8 * 512) := lt_of_lt_of_eq (y 1).isLt (xs_11 t).2
  have hc : t.val / 8 * 512 + (y 1).val < 5504 := by omega
  have e1 : win0_11.xinj (grid0.coords t) y = (ix2 (⟨(y 0).val, h0⟩ : Fin 1024) (⟨(y 1).val, by omega⟩ : Fin 512) : S1024x512.Idx) := by
    funext a
    match a with
    | ⟨0, _⟩ => rfl
    | ⟨1, _⟩ => rfl
  have e2 : ((win0_11.blk t).view.emb y : S8192x5504.Idx) = ix2 (row t ⟨(y 0).val, h0⟩) (col t ⟨(y 1).val, by omega⟩ hc) := by
    unfold row col
    blk_ext [idx_11]
  exact (congrArg X e1).trans ((hX _ _ hc).trans (congrArg G e2).symm)

/-- The gate's gradient. -/
def G10 : Vec Ideal S8192x5504 .f32 := fun i =>
  dgA (m ((c : Thread nD τ).loc main_arg0) (ix1 0)) (m ((c : Thread nD τ).loc main_arg1) (ix1 0))
    (fun r k => m ((c : Thread nD τ).loc main_arg3) (ix2 r k)) (fun f k => m ((c : Thread nD τ).loc main_arg9) (ix2 f k))
    (fun r f => m ((c : Thread nD τ).loc main_arg5) (ix2 r f)) (fun r f => m ((c : Thread nD τ).loc main_arg6) (ix2 r f))
    (fun a b g => m ((c : Thread nD τ).loc main_arg7) (ix3 a b g)) (fun a b g => m ((c : Thread nD τ).loc main_arg8) (ix3 a b g)) (i 0) (i 1)

/-- The up projection's gradient. -/
def G11 : Vec Ideal S8192x5504 .f32 := fun i =>
  duA (m ((c : Thread nD τ).loc main_arg0) (ix1 0)) (m ((c : Thread nD τ).loc main_arg1) (ix1 0))
    (fun r k => m ((c : Thread nD τ).loc main_arg3) (ix2 r k)) (fun f k => m ((c : Thread nD τ).loc main_arg9) (ix2 f k))
    (fun r f => m ((c : Thread nD τ).loc main_arg5) (ix2 r f))
    (fun a b g => m ((c : Thread nD τ).loc main_arg7) (ix3 a b g)) (i 0) (i 1)

/-- A scale in the block, as the scale of the array's row and feature. -/
theorem scl_blk (s : Fin 2 → Fin 4096 → Fin 344 → EReal) (t : Fin cfg0.N) (r : Fin 1024) (y : Fin 512) (h : t.val / 8 * 512 + y.val < 5504)
    (h' : t.val / 8 * 32 + (grp y).val < 344) : s (half t) (hrow t r) (gcol t (grp y) h') = scl s (row t r) (col t y h) := by
  have hr := r.isLt
  unfold scl
  have e1 : half t = ⟨(row t r).val / 4096, by have := (row t r).isLt; omega⟩ := Fin.ext (by
    show t.val % 8 / 4 = (t.val % 8 * 1024 + r.val) / 4096
    omega)
  have e2 : hrow t r = ⟨(row t r).val % 4096, Nat.mod_lt _ (by decide)⟩ := Fin.ext (by
    show t.val % 8 % 4 * 1024 + r.val = (t.val % 8 * 1024 + r.val) % 4096
    omega)
  have e3 : gcol t (grp y) h' = ⟨(col t y h).val / 16, by have := (col t y h).isLt; omega⟩ := Fin.ext (by
    show t.val / 8 * 32 + y.val / 16 = (t.val / 8 * 512 + y.val) / 16
    omega)
  rw [e1, e2, e3]

/-- A row of the block of codes that a point multiplies by. -/
theorem dblk_row (t : Fin cfg0.N) (x : Vec Ideal S8192x2048 .fp8e5m2) (r : Fin 1024) (k : Fin 2048) :
    dblk (F := Ideal) (grid0.coords t) x (ix2 r k) = x (ix2 (row t r) k) := by
  have hr := r.isLt
  have e1 := coord_1 t
  have h : 1024 * ((grid0.coords t) 1).val + r.val < 8192 := by rw [e1]; omega
  rw [dblk_apply _ _ _ _ h]
  refine congrArg (fun i => x (ix2 i k)) (Fin.ext ?_)
  show 1024 * ((grid0.coords t) 1).val + r.val = t.val % 8 * 1024 + r.val
  rw [e1, Nat.mul_comm]

section Out
variable (t : Fin cfg0.N) (d5 d6 : Vec Ideal S1024x512 .fp8e4m3) (d7 d8 : Vec Ideal S1x32x1024 .f32) (d9 : Vec Ideal S512x2048 .fp8e4m3)

theorem val_10 (r : Fin 1024) (y : Fin 512) (h : t.val / 8 * 512 + y.val < 5504) :
    (outDg (F := Ideal) (grid0.coords t) (m ((c : Thread nD τ).loc main_arg0)) (m ((c : Thread nD τ).loc main_arg1))
      (m ((c : Thread nD τ).loc main_arg3)) (win0_5.fill (grid0.coords t) d5 (iblk m c 5 t)) (win0_6.fill (grid0.coords t) d6 (iblk m c 6 t))
      (win0_7.fill (grid0.coords t) d7 (iblk m c 7 t)) (win0_8.fill (grid0.coords t) d8 (iblk m c 8 t)) (win0_9.fill (grid0.coords t) d9 (iblk m c 9 t))) (ix2 r y)
      = G10 m c (ix2 (row t r) (col t y h)) := by
  have h' : t.val / 8 * 32 + (grp y).val < 344 := by
    show t.val / 8 * 32 + y.val / 16 < 344
    omega
  rw [outDg_apply, fill_5 m c t d5 r y h, fill_6 m c t d6 r y h, fill_7 m c t d7 (grp y) r h', fill_8 m c t d8 (grp y) r h']
  rw [scl_blk (fun a b g => m ((c : Thread nD τ).loc main_arg7) (ix3 a b g)) t r y h h',
    scl_blk (fun a b g => m ((c : Thread nD τ).loc main_arg8) (ix3 a b g)) t r y h h']
  rw [funext fun k => dblk_row t (m ((c : Thread nD τ).loc main_arg3)) r k, funext fun k => fill_9 m c t d9 y k h]
  rfl

theorem blk_10 : win0_10.cut (grid0.coords t) (outDg (F := Ideal) (grid0.coords t) (m ((c : Thread nD τ).loc main_arg0)) (m ((c : Thread nD τ).loc main_arg1))
      (m ((c : Thread nD τ).loc main_arg3)) (win0_5.fill (grid0.coords t) d5 (iblk m c 5 t)) (win0_6.fill (grid0.coords t) d6 (iblk m c 6 t))
      (win0_7.fill (grid0.coords t) d7 (iblk m c 7 t)) (win0_8.fill (grid0.coords t) d8 (iblk m c 8 t)) (win0_9.fill (grid0.coords t) d9 (iblk m c 9 t)))
    = (win0_10.blk t).view.read (Elt Ideal) (G10 m c) :=
  cut_10 t _ _ fun r y h => val_10 m c t d5 d6 d7 d8 d9 r y h

theorem val_11 (r : Fin 1024) (y : Fin 512) (h : t.val / 8 * 512 + y.val < 5504) :
    (outDu (F := Ideal) (grid0.coords t) (m ((c : Thread nD τ).loc main_arg0)) (m ((c : Thread nD τ).loc main_arg1))
      (m ((c : Thread nD τ).loc main_arg3)) (win0_5.fill (grid0.coords t) d5 (iblk m c 5 t))
      (win0_7.fill (grid0.coords t) d7 (iblk m c 7 t)) (win0_9.fill (grid0.coords t) d9 (iblk m c 9 t))) (ix2 r y)
      = G11 m c (ix2 (row t r) (col t y h)) := by
  have h' : t.val / 8 * 32 + (grp y).val < 344 := by
    show t.val / 8 * 32 + y.val / 16 < 344
    omega
  rw [outDu_apply, fill_5 m c t d5 r y h, fill_7 m c t d7 (grp y) r h']
  rw [scl_blk (fun a b g => m ((c : Thread nD τ).loc main_arg7) (ix3 a b g)) t r y h h']
  rw [funext fun k => dblk_row t (m ((c : Thread nD τ).loc main_arg3)) r k, funext fun k => fill_9 m c t d9 y k h]
  rfl

theorem blk_11 : win0_11.cut (grid0.coords t) (outDu (F := Ideal) (grid0.coords t) (m ((c : Thread nD τ).loc main_arg0)) (m ((c : Thread nD τ).loc main_arg1))
      (m ((c : Thread nD τ).loc main_arg3)) (win0_5.fill (grid0.coords t) d5 (iblk m c 5 t))
      (win0_7.fill (grid0.coords t) d7 (iblk m c 7 t)) (win0_9.fill (grid0.coords t) d9 (iblk m c 9 t)))
    = (win0_11.blk t).view.read (Elt Ideal) (G11 m c) :=
  cut_11 t _ _ fun r y h => val_11 m c t d5 d7 d9 r y h

end Out

end Cert.DownIdeal
-- ==== Proof.ScaleMath.lean ====
/- The maximum of the absolute values of an array, told by its upper bounds. -/
module

public import Idealize.ShloMosaic.Lib.Pointwise

@[expose] public section

noncomputable section

namespace Cert.ScaleMath

open Idealize.ShloMosaic

/-- The maximum of the absolute values. -/
def amax {a b : ℕ} (x : Fin a → Fin b → EReal) : EReal := ⨆ r, ⨆ k, max (x r k) (-x r k)

theorem amax_le {a b : ℕ} (x : Fin a → Fin b → EReal) (c : EReal) : amax x ≤ c ↔ ∀ r k, max (x r k) (-x r k) ≤ c := by
  unfold amax
  simp only [iSup_le_iff]

/-- The word of minus infinity is below everything. -/
theorem word_le (c : EReal) : Ideal.ofBits .f32 0xFF800000#32 ≤ c := by
  rw [show Ideal.ofBits .f32 0xFF800000#32 = ⊥ from by simp [Ideal.ofBits, Ideal.ieee]]
  exact bot_le

/-- An absolute value is not negative. -/
theorem zero_le_abs (a : EReal) : 0 ≤ max a (-a) := by
  rcases le_total 0 a with h | h
  · exact le_max_of_le_left h
  · exact le_max_of_le_right (EReal.neg_nonneg.2 h)

/-- A number with the maximum's upper bounds is the maximum. -/
theorem eq_amax {p q : ℕ} (x : Fin p → Fin q → EReal) (a : EReal) (h : ∀ c, a ≤ c ↔ ∀ r k, max (x r k) (-x r k) ≤ c) : a = amax x :=
  eq_of_forall_ge_iff fun c => (h c).trans (amax_le x c).symm

/-- A maximum started from zero has the same upper bounds. -/
theorem eq_amax_of_zero {p q : ℕ} [NeZero p] [NeZero q] (x : Fin p → Fin q → EReal) (a : EReal) (h : ∀ c, a ≤ c ↔ 0 ≤ c ∧ ∀ r k, max (x r k) (-x r k) ≤ c) :
    a = amax x :=
  eq_amax x a fun c => (h c).trans ⟨fun h => h.2, fun h => ⟨(zero_le_abs _).trans (h 0 0), h⟩⟩

end Cert.ScaleMath
-- ==== Proof.DownMax.lean ====
/- The running maxima of the kernel `DownIdeal`, told by their upper bounds: what one point of the grid adds to them, and the
   maximum of the absolute values of an array that they make in the end. -/
module

public import proofs.«01_k».proof.Proof.DownGateBlk
public import proofs.«01_k».proof.Proof.ScaleMath

@[expose] public section

set_option maxRecDepth 16384

noncomputable section

namespace Cert.DownIdeal

open Idealize.ShloMosaic Idealize.ShloMosaic.TcCoe Idealize.SL.Sem Cert.DownIdeal.Gen Cert.DownMath Cert.ScaleMath

/-- The first point. -/
theorem isStart_iff : ∀ t : Fin cfg0.N, isStart (grid0.coords t) ↔ t.val = 0 := (by decide +kernel : ∀ t : Fin grid0.N, _)

/-- The last point. -/
theorem isEnd_iff : ∀ t : Fin cfg0.N, isEnd (grid0.coords t) ↔ t.val = 87 := (by decide +kernel : ∀ t : Fin grid0.N, _)

theorem coord_0 : ∀ t : Fin cfg0.N, ((grid0.coords t) 0).val = t.val / 8 := (by decide +kernel : ∀ t : Fin grid0.N, _)

/-- The mask of the block's columns that lie in the array. -/
theorem pay34_apply (t : Fin cfg0.N) (s : Fin 8) (y : Fin 512) :
    k0_pay34 (BitVec.ofNat 32 ((grid0.coords t) 0).val) (ix2 s y) = if t.val / 8 * 512 + y.val < 5504 then 1#1 else 0#1 := by
  have h : ∀ (j : Fin 11) (y : Fin 512), k0_pay34 (BitVec.ofNat 32 j.val) (ix2 0 y) = if j.val * 512 + y.val < 5504 then 1#1 else 0#1 := by
    decide +kernel
  have ht : t.val < 88 := lt_of_lt_of_eq t.isLt N_0
  rw [coord_0]
  exact h ⟨t.val / 8, by omega⟩ y

/-- The largest absolute values of a block's rows, eight rows apart. -/
def bmax (w : FVec Ideal S1024x512 .f32) : FVec Ideal S8x512 .f32 :=
  multiReduction .maximumf [0] S8x512 (shapeCast S128x8x512 (absf w) shapeCasts_S1024x512_S128x8x512) 0xFF800000#32 reduces_S128x8x512_S8x512 (.inl rfl) rfl

theorem bmax_apply (w : FVec Ideal S1024x512 .f32) (s : Fin 8) (y : Fin 512) :
    bmax w (ix2 s y) = (Finset.univ : Finset (Fin 128)).fold max (Ideal.ofBits .f32 0xFF800000#32) fun j =>
      max (w (ix2 ⟨j.val * 8 + s.val, by have := j.isLt; have := s.isLt; omega⟩ y))
        (-w (ix2 ⟨j.val * 8 + s.val, by have := j.isLt; have := s.isLt; omega⟩ y)) := by
  pointwise [bmax]
  rfl

theorem bmax_le (w : FVec Ideal S1024x512 .f32) (s : Fin 8) (y : Fin 512) (b : EReal) :
    bmax w (ix2 s y) ≤ b ↔ ∀ r : Fin 1024, r.val % 8 = s.val → max (w (ix2 r y)) (-w (ix2 r y)) ≤ b := by
  rw [bmax_apply, Finset.fold_max_le]
  refine ⟨fun h r hr => ?_, fun h => ⟨word_le b, fun j _ => h _ (by have := s.isLt; show (j.val * 8 + s.val) % 8 = s.val; omega)⟩⟩
  have h2 := h.2 ⟨r.val / 8, by have := r.isLt; omega⟩ (Finset.mem_univ _)
  have e : (⟨r.val / 8 * 8 + s.val, by have := r.isLt; have := s.isLt; omega⟩ : Fin 1024) = r := Fin.ext (by show r.val / 8 * 8 + s.val = r.val; omega)
  dsimp only at h2
  rwa [e] at h2

/-- The running maxima with a block's added: the larger of the two where the column lies in the array, elsewhere not below zero. -/
theorem pay2_apply (w : FVec Ideal S8x512 .f32) (l : IVec S8x512 1) (o : Vec Ideal S8x512 .f32) (s : Fin 8) (y : Fin 512) :
    k0_pay2 (F := Ideal) w l o (ix2 s y) = max (o (ix2 s y)) (if l (ix2 s y) = 1#1 then w (ix2 s y) else 0) := by
  pointwise [k0_pay2]
  rfl

theorem pay32_apply (s : Fin 8) (y : Fin 512) : k0_pay32 (F := Ideal) (ix2 s y) = 0 := by
  pointwise [k0_pay32]

/-- The last maximum is at most `b` when every running maximum is. -/
theorem pay4_le (v : Vec Ideal S8x512 .f32) (b : EReal) :
    k0_pay4 (F := Ideal) v ≤ b ↔ ∀ (s : Fin 8) (y : Fin 512), v (ix2 s y) ≤ b := by
  have e : k0_pay4 (F := Ideal) v = (multiReduction .maximumf [1, 2] S1 (shapeCast S1x8x512 v shapeCasts_S8x512_S1x8x512) 0xFF800000#32 reduces_S1x8x512_S1 (.inl rfl) rfl : FVec Ideal S1 .f32) (ix1 0) := by
    pointwise [k0_pay4]
  have e2 : k0_pay4 (F := Ideal) v = (Finset.univ.filter fun i => reduces_S1x8x512_S1.drop i = ix1 0).fold max (Ideal.ofBits .f32 0xFF800000#32)
      (shapeCast S1x8x512 v shapeCasts_S8x512_S1x8x512) :=
    e.trans (multiReduction_maximumf_eq_fold (F := Ideal) _ _ reduces_S1x8x512_S1 (.inl rfl) rfl (ix1 0))
  rw [e2, Finset.fold_max_le]
  have e3 : ∀ (s : Fin 8) (k : Fin 512), (shapeCast S1x8x512 v shapeCasts_S8x512_S1x8x512) (ix3 0 s k) = v (ix2 s k) := by
    intro s k
    pointwise
  constructor
  · rintro ⟨_, h⟩ s k
    rw [← e3]
    exact h _ (Finset.mem_filter.2 ⟨Finset.mem_univ _, (eq_ix1 _).trans (congrArg ix1 (Subsingleton.elim (α := Fin 1) _ _))⟩)
  · intro h
    refine ⟨word_le b, fun i _ => ?_⟩
    obtain ⟨a, s, k, rfl⟩ : ∃ (a : Fin 1) (s : Fin 8) (k : Fin 512), i = ix3 a s k := ⟨i 0, i 1, i 2, eq_ix3 i⟩
    rw [Subsingleton.elim a 0, e3]
    exact h s k

/-- An array's entries as a function of row and column. -/
def ent (G : Vec Ideal S8192x5504 .f32) (r : Fin 8192) (f : Fin 5504) : EReal := G (ix2 r f)

/-- The running maxima over the blocks of the points before `n`. -/
def MInv (G : Vec Ideal S8192x5504 .f32) (n : ℕ) (v : Vec Ideal S8x512 .f32) : Prop :=
  ∀ (s : Fin 8) (y : Fin 512) (b : EReal), v (ix2 s y) ≤ b ↔ 0 ≤ b ∧ ∀ (r : Fin 8192) (f : Fin 5504),
    r.val % 8 = s.val → f.val % 512 = y.val → f.val / 512 * 8 + r.val / 1024 < n → max (ent G r f) (-ent G r f) ≤ b

theorem MInv_zero (G : Vec Ideal S8192x5504 .f32) : MInv G 0 (k0_pay32 (F := Ideal)) := by
  intro s y b
  rw [pay32_apply]
  exact ⟨fun h => ⟨h, fun r f _ _ hn => absurd hn (by omega)⟩, fun h => h.1⟩

/-- One more point. -/
theorem MInv_step (G : Vec Ideal S8192x5504 .f32) (t : Fin cfg0.N) (X : FVec Ideal S1024x512 .f32) (o : Vec Ideal S8x512 .f32)
    (hX : ∀ (r : Fin 1024) (y : Fin 512) (h : t.val / 8 * 512 + y.val < 5504), X (ix2 r y) = G (ix2 (row t r) (col t y h)))
    (ho : MInv G t.val o) :
    MInv G (t.val + 1) (k0_pay2 (F := Ideal) (bmax X) (k0_pay34 (BitVec.ofNat 32 ((grid0.coords t) 0).val)) o) := by
  intro s y b
  have hy := y.isLt
  rw [pay2_apply, pay34_apply, max_le_iff, ho s y b, and_assoc]
  refine and_congr_right fun hb => ?_
  by_cases h : t.val / 8 * 512 + y.val < 5504
  · rw [if_pos h, if_pos rfl, bmax_le]
    constructor
    · rintro ⟨h1, h2⟩ r f hr hf hn
      by_cases hl : f.val / 512 * 8 + r.val / 1024 < t.val
      · exact h1 r f hr hf hl
      · have hr8 := r.isLt
        have er : row t ⟨r.val % 1024, Nat.mod_lt _ (by decide)⟩ = r := Fin.ext (by
          show t.val % 8 * 1024 + r.val % 1024 = r.val
          omega)
        have ef : col t y h = f := Fin.ext (by
          show t.val / 8 * 512 + y.val = f.val
          omega)
        have h3 := h2 ⟨r.val % 1024, Nat.mod_lt _ (by decide)⟩ (by show r.val % 1024 % 8 = s.val; omega)
        rwa [hX _ y h, er, ef] at h3
    · intro h1
      refine ⟨fun r f hr hf hn => h1 r f hr hf (by omega), fun r hr => ?_⟩
      have hr' := r.isLt
      rw [hX r y h]
      exact h1 (row t r) (col t y h) (by show (t.val % 8 * 1024 + r.val) % 8 = s.val; omega)
        (by show (t.val / 8 * 512 + y.val) % 512 = y.val; omega)
        (by show (t.val / 8 * 512 + y.val) / 512 * 8 + (t.val % 8 * 1024 + r.val) / 1024 < t.val + 1; omega)
  · rw [if_neg h, if_neg (by decide)]
    constructor
    · rintro ⟨h1, _⟩ r f hr hf hn
      have hr8 := r.isLt
      have hf8 := f.isLt
      exact h1 r f hr hf (by omega)
    · intro h1
      exact ⟨fun r f hr hf hn => h1 r f hr hf (by omega), hb⟩

/-- After the last point the maximum of the running maxima is the array's. -/
theorem MInv_last (G : Vec Ideal S8192x5504 .f32) (v : Vec Ideal S8x512 .f32) (hv : MInv G 88 v) :
    k0_pay4 (F := Ideal) v = amax (ent G) := by
  refine eq_amax_of_zero _ _ fun b => ?_
  rw [pay4_le]
  refine (forall_congr' fun s => forall_congr' fun y => hv s y b).trans ?_
  constructor
  · intro h
    refine ⟨(h 0 0).1, fun r f => (h ⟨r.val % 8, Nat.mod_lt _ (by decide)⟩ ⟨f.val % 512, Nat.mod_lt _ (by decide)⟩).2 r f rfl rfl ?_⟩
    have := r.isLt
    have := f.isLt
    omega
  · intro h s y
    exact ⟨h.1, fun r f _ _ _ => h.2 r f⟩

variable (m : (ℓ : Loc nD τ sig) → Buf (Elt Ideal) ℓ) (c : Dev nD)

section Out
variable (t : Fin cfg0.N) (d5 d6 : Vec Ideal S1024x512 .fp8e4m3) (d7 d8 : Vec Ideal S1x32x1024 .f32) (d9 : Vec Ideal S512x2048 .fp8e4m3)
  (s : Vec Ideal S8x512 .f32)

theorem newMg_inv (hs : t.val ≠ 0 → MInv (G10 m c) t.val s) :
    MInv (G10 m c) (t.val + 1) (newMg (F := Ideal) (grid0.coords t) (m ((c : Thread nD τ).loc main_arg0)) (m ((c : Thread nD τ).loc main_arg1))
      (m ((c : Thread nD τ).loc main_arg3)) (win0_5.fill (grid0.coords t) d5 (iblk m c 5 t)) (win0_6.fill (grid0.coords t) d6 (iblk m c 6 t))
      (win0_7.fill (grid0.coords t) d7 (iblk m c 7 t)) (win0_8.fill (grid0.coords t) d8 (iblk m c 8 t)) (win0_9.fill (grid0.coords t) d9 (iblk m c 9 t)) s) := by
  have h := fun o ho => MInv_step (G10 m c) t _ o (val_10 m c t d5 d6 d7 d8 d9) ho
  by_cases h0 : t.val = 0
  · rw [newMg_first (h := (isStart_iff t).mpr h0)]
    refine h (k0_pay32 (F := Ideal)) ?_
    rw [h0]
    exact MInv_zero _
  · rw [newMg_next (h := fun hl => h0 ((isStart_iff t).mp hl))]
    exact h s (hs h0)

theorem newMu_inv (hs : t.val ≠ 0 → MInv (G11 m c) t.val s) :
    MInv (G11 m c) (t.val + 1) (newMu (F := Ideal) (grid0.coords t) (m ((c : Thread nD τ).loc main_arg0)) (m ((c : Thread nD τ).loc main_arg1))
      (m ((c : Thread nD τ).loc main_arg3)) (win0_5.fill (grid0.coords t) d5 (iblk m c 5 t))
      (win0_7.fill (grid0.coords t) d7 (iblk m c 7 t)) (win0_9.fill (grid0.coords t) d9 (iblk m c 9 t)) s) := by
  have h := fun o ho => MInv_step (G11 m c) t _ o (val_11 m c t d5 d7 d9) ho
  by_cases h0 : t.val = 0
  · rw [newMu_first (h := (isStart_iff t).mpr h0)]
    refine h (k0_pay32 (F := Ideal)) ?_
    rw [h0]
    exact MInv_zero _
  · rw [newMu_next (h := fun hl => h0 ((isStart_iff t).mp hl))]
    exact h s (hs h0)

end Out

end Cert.DownIdeal
-- ==== Proof.DownBodyStart.lean ====
/- One grid step of `DownIdeal`: the body at the first step of all. -/
module

public import proofs.«01_k».proof.Proof.DownBody

@[expose] public section

set_option maxRecDepth 16384

noncomputable section

namespace Cert.DownIdeal

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at the first step of all. -/
theorem body_start (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (hF : (isFirst i)) (hFF : (isStart i)) (hL : (¬isLast i)) (hE : (¬isEnd i))
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  simp only [cc0_down_eq_skeleton]; unfold cc0_down_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9
  obtain rfl := h14.eq_unread hf12; obtain rfl := h15.eq_unread hf13; obtain rfl := h16.eq_unread hf14; obtain rfl := h17.eq_unread hf15; obtain rfl := h18.eq_unread hf16; obtain rfl := h19.eq_unread hf17
  sl_exec (disch := first | sl_exact hF | sl_exact hFF | sl_exact hL | sl_exact hE)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [H9]
  · iexists _; isplitr; · ipureintro; exact h11.read_unread _
    iexact H9
  isplitl [H10]
  · iexists _; isplitr; swap; · iexact H10
    ipureintro
    try sl_unfold_words
    refine (View.read_writes_full _ _ _ _ _).trans ?_
    unfold outDg
    simp only [rd1A, rd2A, rd3A, rd4A, rd1C, rd2C, rd4C, rd1D, rd2D, rd4D, rdS]; first | done | (rw [← rdN i arg5 h5 x3]; rfl)
  isplitl [H11]
  · iexists _; isplitr; swap; · iexact H11
    ipureintro
    try sl_unfold_words
    refine (View.read_writes_full _ _ _ _ _).trans ?_
    unfold outDu
    simp only [rd1A, rd2A, rd3A, rd4A, rd1C, rd2C, rd4C, rd1D, rd2D, rd4D, rdS]; first | done | (rw [← rdN i arg5 h5 x3]; rfl)
  isplitl [H12]
  · iexists _; isplitr; swap; · iexact H12
    ipureintro
    try sl_unfold_words
    rw [newDwd_idle (h := hL)]; exact hf12
  isplitl [H13]
  · iexists _; isplitr; swap; · iexact H13
    ipureintro
    try sl_unfold_words
    rw [newAg_idle (h := hE)]; exact hf13
  isplitl [H14]
  · iexists _; isplitr; swap; · iexact H14
    ipureintro
    try sl_unfold_words
    rw [newAu_idle (h := hE)]; exact hf14
  isplitl [H15]
  · iexists _; isplitr; swap; · iexact H15
    ipureintro
    try sl_unfold_words
    refine (View.read_writes_full _ _ _ _ _).trans ?_
    rw [newAcc_first (h := hF)]
    simp only [rd1A, rd2A, rd3A, rd4A, rd1C, rd2C, rd4C, rd1D, rd2D, rd4D, rdS]; first | done | (rw [← rdN i arg5 h5 x3]; rfl)
  isplitl [H16]
  · iexists _; isplitr; swap; · iexact H16
    ipureintro
    try sl_unfold_words
    refine (View.read_writes_full _ _ _ _ _).trans ?_
    rw [newMg_first (h := hFF)]
    simp only [rd1A, rd2A, rd3A, rd4A, rd1C, rd2C, rd4C, rd1D, rd2D, rd4D, rdS]; first | done | (rw [← rdN i arg5 h5 x3]; rfl)
  iexists _; isplitr; swap; · iexact H17
  ipureintro
  try sl_unfold_words
  refine (View.read_writes_full _ _ _ _ _).trans ?_
  rw [newMu_first (h := hFF)]
  simp only [rd1A, rd2A, rd3A, rd4A, rd1C, rd2C, rd4C, rd1D, rd2D, rd4D, rdS]; first | done | (rw [← rdN i arg5 h5 x3]; rfl)

end Cert.DownIdeal
-- ==== Proof.DownBodyFirst.lean ====
/- One grid step of `DownIdeal`: the body at the first step of a later row. -/
module

public import proofs.«01_k».proof.Proof.DownBody

@[expose] public section

set_option maxRecDepth 16384

noncomputable section

namespace Cert.DownIdeal

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at the first step of a later row. -/
theorem body_first (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (hF : (isFirst i)) (hFF : (¬isStart i)) (hL : (¬isLast i)) (hE : (¬isEnd i))
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  simp only [cc0_down_eq_skeleton]; unfold cc0_down_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9
  obtain rfl := h14.eq_unread hf12; obtain rfl := h15.eq_unread hf13; obtain rfl := h16.eq_unread hf14; obtain rfl := h17.eq_unread hf15; obtain rfl := h18.eq_unread hf16; obtain rfl := h19.eq_unread hf17
  sl_exec (disch := first | sl_exact hF | sl_exact hFF | sl_exact hL | sl_exact hE)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [H9]
  · iexists _; isplitr; · ipureintro; exact h11.read_unread _
    iexact H9
  isplitl [H10]
  · iexists _; isplitr; swap; · iexact H10
    ipureintro
    try sl_unfold_words
    refine (View.read_writes_full _ _ _ _ _).trans ?_
    unfold outDg
    simp only [rd1A, rd2A, rd3A, rd4A, rd1C, rd2C, rd4C, rd1D, rd2D, rd4D, rdS]; first | done | (rw [← rdN i arg5 h5 x3]; rfl)
  isplitl [H11]
  · iexists _; isplitr; swap; · iexact H11
    ipureintro
    try sl_unfold_words
    refine (View.read_writes_full _ _ _ _ _).trans ?_
    unfold outDu
    simp only [rd1A, rd2A, rd3A, rd4A, rd1C, rd2C, rd4C, rd1D, rd2D, rd4D, rdS]; first | done | (rw [← rdN i arg5 h5 x3]; rfl)
  isplitl [H12]
  · iexists _; isplitr; swap; · iexact H12
    ipureintro
    try sl_unfold_words
    rw [newDwd_idle (h := hL)]; exact hf12
  isplitl [H13]
  · iexists _; isplitr; swap; · iexact H13
    ipureintro
    try sl_unfold_words
    rw [newAg_idle (h := hE)]; exact hf13
  isplitl [H14]
  · iexists _; isplitr; swap; · iexact H14
    ipureintro
    try sl_unfold_words
    rw [newAu_idle (h := hE)]; exact hf14
  isplitl [H15]
  · iexists _; isplitr; swap; · iexact H15
    ipureintro
    try sl_unfold_words
    refine (View.read_writes_full _ _ _ _ _).trans ?_
    rw [newAcc_first (h := hF)]
    simp only [rd1A, rd2A, rd3A, rd4A, rd1C, rd2C, rd4C, rd1D, rd2D, rd4D, rdS]; first | done | (rw [← rdN i arg5 h5 x3]; rfl)
  isplitl [H16]
  · iexists _; isplitr; swap; · iexact H16
    ipureintro
    try sl_unfold_words
    refine (View.read_writes_full _ _ _ _ _).trans ?_
    rw [newMg_next (h := hFF)]
    simp only [rd1A, rd2A, rd3A, rd4A, rd1C, rd2C, rd4C, rd1D, rd2D, rd4D, rdS]; first | done | (rw [← rdN i arg5 h5 x3]; rfl)
  iexists _; isplitr; swap; · iexact H17
  ipureintro
  try sl_unfold_words
  refine (View.read_writes_full _ _ _ _ _).trans ?_
  rw [newMu_next (h := hFF)]
  simp only [rd1A, rd2A, rd3A, rd4A, rd1C, rd2C, rd4C, rd1D, rd2D, rd4D, rdS]; first | done | (rw [← rdN i arg5 h5 x3]; rfl)

end Cert.DownIdeal
-- ==== Proof.DownBodyMid.lean ====
/- One grid step of `DownIdeal`: the body at a step inside a row. -/
module

public import proofs.«01_k».proof.Proof.DownBody

@[expose] public section

set_option maxRecDepth 16384

noncomputable section

namespace Cert.DownIdeal

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at a step inside a row. -/
theorem body_mid (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (hF : (¬isFirst i)) (hFF : (¬isStart i)) (hL : (¬isLast i)) (hE : (¬isEnd i))
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  simp only [cc0_down_eq_skeleton]; unfold cc0_down_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9
  obtain rfl := h14.eq_unread hf12; obtain rfl := h15.eq_unread hf13; obtain rfl := h16.eq_unread hf14; obtain rfl := h17.eq_unread hf15; obtain rfl := h18.eq_unread hf16; obtain rfl := h19.eq_unread hf17
  sl_exec (disch := first | sl_exact hF | sl_exact hFF | sl_exact hL | sl_exact hE)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [H9]
  · iexists _; isplitr; · ipureintro; exact h11.read_unread _
    iexact H9
  isplitl [H10]
  · iexists _; isplitr; swap; · iexact H10
    ipureintro
    try sl_unfold_words
    refine (View.read_writes_full _ _ _ _ _).trans ?_
    unfold outDg
    simp only [rd1A, rd2A, rd3A, rd4A, rd1C, rd2C, rd4C, rd1D, rd2D, rd4D, rdS]; first | done | (rw [← rdN i arg5 h5 x3]; rfl)
  isplitl [H11]
  · iexists _; isplitr; swap; · iexact H11
    ipureintro
    try sl_unfold_words
    refine (View.read_writes_full _ _ _ _ _).trans ?_
    unfold outDu
    simp only [rd1A, rd2A, rd3A, rd4A, rd1C, rd2C, rd4C, rd1D, rd2D, rd4D, rdS]; first | done | (rw [← rdN i arg5 h5 x3]; rfl)
  isplitl [H12]
  · iexists _; isplitr; swap; · iexact H12
    ipureintro
    try sl_unfold_words
    rw [newDwd_idle (h := hL)]; exact hf12
  isplitl [H13]
  · iexists _; isplitr; swap; · iexact H13
    ipureintro
    try sl_unfold_words
    rw [newAg_idle (h := hE)]; exact hf13
  isplitl [H14]
  · iexists _; isplitr; swap; · iexact H14
    ipureintro
    try sl_unfold_words
    rw [newAu_idle (h := hE)]; exact hf14
  isplitl [H15]
  · iexists _; isplitr; swap; · iexact H15
    ipureintro
    try sl_unfold_words
    refine (View.read_writes_full _ _ _ _ _).trans ?_
    rw [newAcc_next (h := hF)]
    simp only [rd1A, rd2A, rd3A, rd4A, rd1C, rd2C, rd4C, rd1D, rd2D, rd4D, rdS]; first | done | (rw [← rdN i arg5 h5 x3]; rfl)
  isplitl [H16]
  · iexists _; isplitr; swap; · iexact H16
    ipureintro
    try sl_unfold_words
    refine (View.read_writes_full _ _ _ _ _).trans ?_
    rw [newMg_next (h := hFF)]
    simp only [rd1A, rd2A, rd3A, rd4A, rd1C, rd2C, rd4C, rd1D, rd2D, rd4D, rdS]; first | done | (rw [← rdN i arg5 h5 x3]; rfl)
  iexists _; isplitr; swap; · iexact H17
  ipureintro
  try sl_unfold_words
  refine (View.read_writes_full _ _ _ _ _).trans ?_
  rw [newMu_next (h := hFF)]
  simp only [rd1A, rd2A, rd3A, rd4A, rd1C, rd2C, rd4C, rd1D, rd2D, rd4D, rdS]; first | done | (rw [← rdN i arg5 h5 x3]; rfl)

end Cert.DownIdeal
-- ==== Proof.DownBodyLast.lean ====
/- One grid step of `DownIdeal`: the body at the last step of a row but the last row. -/
module

public import proofs.«01_k».proof.Proof.DownBody

@[expose] public section

set_option maxRecDepth 16384

noncomputable section

namespace Cert.DownIdeal

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at the last step of a row but the last row. -/
theorem body_last (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (hF : (¬isFirst i)) (hFF : (¬isStart i)) (hL : (isLast i)) (hE : (¬isEnd i))
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  simp only [cc0_down_eq_skeleton]; unfold cc0_down_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9
  obtain rfl := h14.eq_unread hf12; obtain rfl := h15.eq_unread hf13; obtain rfl := h16.eq_unread hf14; obtain rfl := h17.eq_unread hf15; obtain rfl := h18.eq_unread hf16; obtain rfl := h19.eq_unread hf17
  sl_exec (disch := first | sl_exact hF | sl_exact hFF | sl_exact hL | sl_exact hE)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [H9]
  · iexists _; isplitr; · ipureintro; exact h11.read_unread _
    iexact H9
  isplitl [H10]
  · iexists _; isplitr; swap; · iexact H10
    ipureintro
    try sl_unfold_words
    refine (View.read_writes_full _ _ _ _ _).trans ?_
    unfold outDg
    simp only [rd1A, rd2A, rd3A, rd4A, rd1C, rd2C, rd4C, rd1D, rd2D, rd4D, rdS]; first | done | (rw [← rdN i arg5 h5 x3]; rfl)
  isplitl [H11]
  · iexists _; isplitr; swap; · iexact H11
    ipureintro
    try sl_unfold_words
    refine (View.read_writes_full _ _ _ _ _).trans ?_
    unfold outDu
    simp only [rd1A, rd2A, rd3A, rd4A, rd1C, rd2C, rd4C, rd1D, rd2D, rd4D, rdS]; first | done | (rw [← rdN i arg5 h5 x3]; rfl)
  isplitl [H12]
  · iexists _; isplitr; swap; · iexact H12
    ipureintro
    try sl_unfold_words
    refine (View.read_writes_full _ _ _ _ _).trans ?_
    rw [newDwd_last (h := hL)]; rw [newAcc_next (h := hF)]
    simp only [rd1A, rd2A, rd3A, rd4A, rd1C, rd2C, rd4C, rd1D, rd2D, rd4D, rdS]; first | done | (rw [← rdN i arg5 h5 x3]; rfl)
  isplitl [H13]
  · iexists _; isplitr; swap; · iexact H13
    ipureintro
    try sl_unfold_words
    rw [newAg_idle (h := hE)]; exact hf13
  isplitl [H14]
  · iexists _; isplitr; swap; · iexact H14
    ipureintro
    try sl_unfold_words
    rw [newAu_idle (h := hE)]; exact hf14
  isplitl [H15]
  · iexists _; isplitr; swap; · iexact H15
    ipureintro
    try sl_unfold_words
    refine (View.read_writes_full _ _ _ _ _).trans ?_
    rw [newAcc_next (h := hF)]
    simp only [rd1A, rd2A, rd3A, rd4A, rd1C, rd2C, rd4C, rd1D, rd2D, rd4D, rdS]; first | done | (rw [← rdN i arg5 h5 x3]; rfl)
  isplitl [H16]
  · iexists _; isplitr; swap; · iexact H16
    ipureintro
    try sl_unfold_words
    refine (View.read_writes_full _ _ _ _ _).trans ?_
    rw [newMg_next (h := hFF)]
    simp only [rd1A, rd2A, rd3A, rd4A, rd1C, rd2C, rd4C, rd1D, rd2D, rd4D, rdS]; first | done | (rw [← rdN i arg5 h5 x3]; rfl)
  iexists _; isplitr; swap; · iexact H17
  ipureintro
  try sl_unfold_words
  refine (View.read_writes_full _ _ _ _ _).trans ?_
  rw [newMu_next (h := hFF)]
  simp only [rd1A, rd2A, rd3A, rd4A, rd1C, rd2C, rd4C, rd1D, rd2D, rd4D, rdS]; first | done | (rw [← rdN i arg5 h5 x3]; rfl)

end Cert.DownIdeal
-- ==== Proof.DownBodyEnd.lean ====
/- One grid step of `DownIdeal`: the body at the last step of all. -/
module

public import proofs.«01_k».proof.Proof.DownBody

@[expose] public section

set_option maxRecDepth 16384

noncomputable section

namespace Cert.DownIdeal

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at the last step of all. -/
theorem body_end (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (hF : (¬isFirst i)) (hFF : (¬isStart i)) (hL : (isLast i)) (hE : (isEnd i))
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  simp only [cc0_down_eq_skeleton]; unfold cc0_down_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9
  obtain rfl := h14.eq_unread hf12; obtain rfl := h15.eq_unread hf13; obtain rfl := h16.eq_unread hf14; obtain rfl := h17.eq_unread hf15; obtain rfl := h18.eq_unread hf16; obtain rfl := h19.eq_unread hf17
  sl_exec (disch := first | sl_exact hF | sl_exact hFF | sl_exact hL | sl_exact hE)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [H9]
  · iexists _; isplitr; · ipureintro; exact h11.read_unread _
    iexact H9
  isplitl [H10]
  · iexists _; isplitr; swap; · iexact H10
    ipureintro
    try sl_unfold_words
    refine (View.read_writes_full _ _ _ _ _).trans ?_
    unfold outDg
    simp only [rd1A, rd2A, rd3A, rd4A, rd1C, rd2C, rd4C, rd1D, rd2D, rd4D, rdS]; first | done | (rw [← rdN i arg5 h5 x3]; rfl)
  isplitl [H11]
  · iexists _; isplitr; swap; · iexact H11
    ipureintro
    try sl_unfold_words
    refine (View.read_writes_full _ _ _ _ _).trans ?_
    unfold outDu
    simp only [rd1A, rd2A, rd3A, rd4A, rd1C, rd2C, rd4C, rd1D, rd2D, rd4D, rdS]; first | done | (rw [← rdN i arg5 h5 x3]; rfl)
  isplitl [H12]
  · iexists _; isplitr; swap; · iexact H12
    ipureintro
    try sl_unfold_words
    refine (View.read_writes_full _ _ _ _ _).trans ?_
    rw [newDwd_last (h := hL)]; rw [newAcc_next (h := hF)]
    simp only [rd1A, rd2A, rd3A, rd4A, rd1C, rd2C, rd4C, rd1D, rd2D, rd4D, rdS]; first | done | (rw [← rdN i arg5 h5 x3]; rfl)
  isplitl [H13]
  · iexists _; isplitr; swap; · iexact H13
    ipureintro
    try sl_unfold_words
    refine (View.read_writes_full _ _ _ _ _).trans ?_
    rw [newAg_last (h := hE)]; rw [newMg_next (h := hFF)]
    simp only [rd1A, rd2A, rd3A, rd4A, rd1C, rd2C, rd4C, rd1D, rd2D, rd4D, rdS]; first | done | (rw [← rdN i arg5 h5 x3]; rfl)
  isplitl [H14]
  · iexists _; isplitr; swap; · iexact H14
    ipureintro
    try sl_unfold_words
    refine (View.read_writes_full _ _ _ _ _).trans ?_
    rw [newAu_last (h := hE)]; rw [newMu_next (h := hFF)]
    simp only [rd1A, rd2A, rd3A, rd4A, rd1C, rd2C, rd4C, rd1D, rd2D, rd4D, rdS]; first | done | (rw [← rdN i arg5 h5 x3]; rfl)
  isplitl [H15]
  · iexists _; isplitr; swap; · iexact H15
    ipureintro
    try sl_unfold_words
    refine (View.read_writes_full _ _ _ _ _).trans ?_
    rw [newAcc_next (h := hF)]
    simp only [rd1A, rd2A, rd3A, rd4A, rd1C, rd2C, rd4C, rd1D, rd2D, rd4D, rdS]; first | done | (rw [← rdN i arg5 h5 x3]; rfl)
  isplitl [H16]
  · iexists _; isplitr; swap; · iexact H16
    ipureintro
    try sl_unfold_words
    refine (View.read_writes_full _ _ _ _ _).trans ?_
    rw [newMg_next (h := hFF)]
    simp only [rd1A, rd2A, rd3A, rd4A, rd1C, rd2C, rd4C, rd1D, rd2D, rd4D, rdS]; first | done | (rw [← rdN i arg5 h5 x3]; rfl)
  iexists _; isplitr; swap; · iexact H17
  ipureintro
  try sl_unfold_words
  refine (View.read_writes_full _ _ _ _ _).trans ?_
  rw [newMu_next (h := hFF)]
  simp only [rd1A, rd2A, rd3A, rd4A, rd1C, rd2C, rd4C, rd1D, rd2D, rd4D, rdS]; first | done | (rw [← rdN i arg5 h5 x3]; rfl)

end Cert.DownIdeal
-- ==== Proof.DownRun.lean ====
/- One grid step of `DownIdeal`: its body at any step. -/
module

public import proofs.«01_k».proof.Proof.DownBodyStart
public import proofs.«01_k».proof.Proof.DownBodyFirst
public import proofs.«01_k».proof.Proof.DownBodyMid
public import proofs.«01_k».proof.Proof.DownBodyLast
public import proofs.«01_k».proof.Proof.DownBodyEnd

@[expose] public section

set_option maxRecDepth 16384

noncomputable section

namespace Cert.DownIdeal

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The steps' cases exclude one another: the first of all is the first of its row, the last of all the last of its row. -/
theorem start_first (i : grid0.Coords) (h : isStart i) : isFirst i :=
  (by decide +kernel : ∀ (a : Fin 11) (b : Fin 8), (Scalar.cmpi .ne (Scalar.extui (Scalar.andi (Scalar.cmpi .eq (BitVec.ofNat 32 b.val) 0#32) (Scalar.cmpi .eq (BitVec.ofNat 32 a.val) 0#32))) 0#32) = 1#1 → (Scalar.cmpi .ne (Scalar.extui (Scalar.cmpi .eq (BitVec.ofNat 32 b.val) 0#32)) 0#32) = 1#1) (i 0) (i 1) h
theorem end_last (i : grid0.Coords) (h : isEnd i) : isLast i :=
  (by decide +kernel : ∀ (a : Fin 11) (b : Fin 8), (Scalar.cmpi .ne (Scalar.extui (Scalar.andi (Scalar.cmpi .eq (BitVec.ofNat 32 b.val) 7#32) (Scalar.cmpi .eq (BitVec.ofNat 32 a.val) 10#32))) 0#32) = 1#1 → (Scalar.cmpi .ne (Scalar.extui (Scalar.cmpi .eq (BitVec.ofNat 32 b.val) 7#32)) 0#32) = 1#1) (i 0) (i 1) h
theorem first_not_last (i : grid0.Coords) (h : isFirst i) : ¬isLast i :=
  (by decide +kernel : ∀ (b : Fin 8), (Scalar.cmpi .ne (Scalar.extui (Scalar.cmpi .eq (BitVec.ofNat 32 b.val) 0#32)) 0#32) = 1#1 → ¬(Scalar.cmpi .ne (Scalar.extui (Scalar.cmpi .eq (BitVec.ofNat 32 b.val) 7#32)) 0#32) = 1#1) (i 1) h

/-- The body, run on whole buffers at any contents, leaves its inputs as they were, the two gradients of its block, the accumulator with the block's product added, the running maxima, on the last step of a row the scaled weight gradient, and on the last step of all the two largest entries. -/
theorem body_run (c : Dev nD) (i : grid0.Coords) (arg2 : Memref sig .tc .smem S1 .f32) (h2 : arg2.IsWhole) (arg3 : Memref sig .tc .smem S1 .f32) (h3 : arg3.IsWhole) (arg4 : Memref sig .tc .smem S1 .f32) (h4 : arg4.IsWhole) (arg5 : Memref sig .tc .vmem S8192x2048 .fp8e5m2) (h5 : arg5.IsWhole) (arg6 : Memref sig .tc .vmem S1024x512 .fp8e4m3) (h6 : arg6.IsWhole) (arg7 : Memref sig .tc .vmem S1024x512 .fp8e4m3) (h7 : arg7.IsWhole) (arg8 : Memref sig .tc .vmem S1024x512 .fp8e4m3) (h8 : arg8.IsWhole) (arg9 : Memref sig .tc .vmem S1x32x1024 .f32) (h9 : arg9.IsWhole) (arg10 : Memref sig .tc .vmem S1x32x1024 .f32) (h10 : arg10.IsWhole) (arg11 : Memref sig .tc .vmem S512x2048 .fp8e4m3) (h11 : arg11.IsWhole) (arg12 : Memref sig .tc .vmem S1024x512 .f32) (h12 : arg12.IsWhole) (arg13 : Memref sig .tc .vmem S1024x512 .f32) (h13 : arg13.IsWhole) (arg14 : Memref sig .tc .vmem S512x2048 .bf16) (h14 : arg14.IsWhole) (arg15 : Memref sig .tc .smem S1 .f32) (h15 : arg15.IsWhole) (arg16 : Memref sig .tc .smem S1 .f32) (h16 : arg16.IsWhole) (arg17 : Memref sig .tc .vmem S512x2048 .f32) (h17 : arg17.IsWhole) (arg18 : Memref sig .tc .vmem S8x512 .f32) (h18 : arg18.IsWhole) (arg19 : Memref sig .tc .vmem S8x512 .f32) (h19 : arg19.IsWhole)
    (x0 x1 x2 : Vec F S1 .f32) (x3 : Vec F S8192x2048 .fp8e5m2) (x4 x5 x6 : Vec F S1024x512 .fp8e4m3) (x7 x8 : Vec F S1x32x1024 .f32) (x9 : Vec F S512x2048 .fp8e4m3)
    (y12 : Vec F S512x2048 .bf16) (y13 y14 : Vec F S1 .f32) (s0 : Vec F S512x2048 .f32) (s1 s2 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y12 ∗ owns (c : Thread nD τ) arg15 fullShare y13 ∗ owns (c : Thread nD τ) arg16 fullShare y14 ∗ owns (c : Thread nD τ) arg17 fullShare s0 ∗ owns (c : Thread nD τ) arg18 fullShare s1 ∗ owns (c : Thread nD τ) arg19 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outDg i x0 x1 x3 x5 x6 x7 x8 x9) ∗ owns (c : Thread nD τ) arg13 fullShare (outDu i x0 x1 x3 x5 x7 x9) ∗ owns (c : Thread nD τ) arg14 fullShare (newDwd i x0 x2 (newAcc i x3 x4 s0) y12) ∗ owns (c : Thread nD τ) arg15 fullShare (newAg i (newMg i x0 x1 x3 x5 x6 x7 x8 x9 s1) y13) ∗ owns (c : Thread nD τ) arg16 fullShare (newAu i (newMu i x0 x1 x3 x5 x7 x9 s2) y14) ∗ owns (c : Thread nD τ) arg17 fullShare (newAcc i x3 x4 s0) ∗ owns (c : Thread nD τ) arg18 fullShare (newMg i x0 x1 x3 x5 x6 x7 x8 x9 s1) ∗ owns (c : Thread nD τ) arg19 fullShare (newMu i x0 x1 x3 x5 x7 x9 s2)) -∗ K ⟨⟩))
      ⊢ wp frame (wpE (defs₀ (F := F)) Variants.none c none) E (cc0_down i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  by_cases hF : isFirst i
  · have hL := first_not_last i hF
    have hE : ¬isEnd i := fun h => hL (end_last i h)
    by_cases hFF : isStart i
    · exact body_start c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hF hFF hL hE x0 x1 x2 x3 x4 x5 x6 x7 x8 x9 y12 y13 y14 s0 s1 s2 E K
    · exact body_first c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hF hFF hL hE x0 x1 x2 x3 x4 x5 x6 x7 x8 x9 y12 y13 y14 s0 s1 s2 E K
  · have hFF : ¬isStart i := fun h => hF (start_first i h)
    by_cases hL : isLast i
    · by_cases hE : isEnd i
      · exact body_end c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hF hFF hL hE x0 x1 x2 x3 x4 x5 x6 x7 x8 x9 y12 y13 y14 s0 s1 s2 E K
      · exact body_last c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hF hFF hL hE x0 x1 x2 x3 x4 x5 x6 x7 x8 x9 y12 y13 y14 s0 s1 s2 E K
    · have hE : ¬isEnd i := fun h => hL (end_last i h)
      exact body_mid c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hF hFF hL hE x0 x1 x2 x3 x4 x5 x6 x7 x8 x9 y12 y13 y14 s0 s1 s2 E K

end Cert.DownIdeal
-- ==== Proof.DownDat.lean ====
/- The kernel `DownIdeal` at the extended reals: what every point of its grid leaves of the three gradients and of the two
   maxima, and the launch. -/
module

public import proofs.«01_k».proof.Proof.DownAcc
public import proofs.«01_k».proof.Proof.DownMax
public import proofs.«01_k».proof.Proof.DownRun
public import Idealize.ShloMosaic.Lib.Exec

@[expose] public section

set_option maxRecDepth 16384

noncomputable section

namespace Cert.DownIdeal

open Cert.DownIdeal.Gen Cert.DownMath Cert.ScaleMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

local notation "𝕄" => MT nD τ sig Unit (Elt Ideal) ℕ (UR sig nD τ) ℕ

variable (m : (ℓ : Loc nD τ sig) → Buf (Elt Ideal) ℓ) (c : Dev nD)

/-- Between two points: the accumulator at what has been summed so far, the running maxima at those of the points before, the generator
    register. -/
def Phi (n : ℕ) : sProp 𝕄 :=
  iprop(∃ s0, ∃ s1, ∃ s2, ⌜Inv m c n s0 ∧ (n ≠ 0 → MInv (G10 m c) n s1) ∧ (n ≠ 0 → MInv (G11 m c) n s2)⌝
    ∗ owns (c : Thread nD τ) (Memref.whole cc0_scratch0 : Memref sig .tc .vmem S512x2048 .f32) fullShare s0
    ∗ owns (c : Thread nD τ) (Memref.whole cc0_scratch1 : Memref sig .tc .vmem S8x512 .f32) fullShare s1
    ∗ owns (c : Thread nD τ) (Memref.whole cc0_scratch2 : Memref sig .tc .vmem S8x512 .f32) fullShare s2
    ∗ (∃ r, prngReg c r))

/-- The proof data: an input's buffer holds its block, a gradient's the block of the array that the launch leaves, a
    maximum's the maximum of the gradient's absolute values. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) (fun _ => Classical.arbitrary _) (iblk m c 4 t)
    | ⟨5, _⟩ => win0_5.fill (grid0.coords t) (fun _ => Classical.arbitrary _) (iblk m c 5 t)
    | ⟨6, _⟩ => win0_6.fill (grid0.coords t) (fun _ => Classical.arbitrary _) (iblk m c 6 t)
    | ⟨7, _⟩ => win0_7.fill (grid0.coords t) (fun _ => Classical.arbitrary _) (iblk m c 7 t)
    | ⟨8, _⟩ => win0_8.fill (grid0.coords t) (fun _ => Classical.arbitrary _) (iblk m c 8 t)
    | ⟨9, _⟩ => win0_9.fill (grid0.coords t) (fun _ => Classical.arbitrary _) (iblk m c 9 t)
    | ⟨10, _⟩ => win0_10.fill (grid0.coords t) (fun _ => Classical.arbitrary _) ((win0_10.blk t).view.read (Elt Ideal) (G10 m c))
    | ⟨11, _⟩ => win0_11.fill (grid0.coords t) (fun _ => Classical.arbitrary _) ((win0_11.blk t).view.read (Elt Ideal) (G11 m c))
    | ⟨12, _⟩ => win0_12.fill (grid0.coords t) (fun _ => Classical.arbitrary _) ((win0_12.blk t).view.read (Elt Ideal) (G12 m c))
    | ⟨13, _⟩ => (fun _ => amax (ent (G10 m c)) : Vec Ideal S1 .f32)
    | ⟨14, _⟩ => (fun _ => amax (ent (G11 m c)) : Vec Ideal S1 .f32)
  Φ n := Phi m c n.val
  q _ := fullShare
  owed _ := 0

theorem A_eq (c : Dev nD) (w : Fin cfg0.W) : (dats m 0 c).A w = V m c (Pipeline.arrRef spec0 w) := by dsimp only [dats]

theorem after_0 (t : Fin cfg0.N) : (dats m 0 c).after 0 t = iblk m c 0 t := by dsimp only [dats]
theorem before_0 (t : Fin cfg0.N) (d) : (dats m 0 c).before 0 t d = m ((c : Thread nD τ).loc main_arg0) :=
  (before0_0_of m (dats m 0 c) (A_eq m c 0) (after_0 m c) t d).trans (iblk_0 m c t)
theorem leaves_0 (t : Fin cfg0.N) :
    (dats m 0 c).leaves 0 t = owns (c : Thread nD τ) (win0_0.stage (cfg0.slots t 0)) fullShare (m ((c : Thread nD τ).loc main_arg0)) := by
  refine Eq.trans (b := owns (c : Thread nD τ) (win0_0.stage (cfg0.slots t 0)) fullShare ((dats m 0 c).after 0 t)) rfl ?_
  rw [after_0, iblk_0]

theorem after_1 (t : Fin cfg0.N) : (dats m 0 c).after 1 t = iblk m c 1 t := by dsimp only [dats]
theorem before_1 (t : Fin cfg0.N) (d) : (dats m 0 c).before 1 t d = m ((c : Thread nD τ).loc main_arg1) :=
  (before0_1_of m (dats m 0 c) (A_eq m c 1) (after_1 m c) t d).trans (iblk_1 m c t)
theorem leaves_1 (t : Fin cfg0.N) :
    (dats m 0 c).leaves 1 t = owns (c : Thread nD τ) (win0_1.stage (cfg0.slots t 1)) fullShare (m ((c : Thread nD τ).loc main_arg1)) := by
  refine Eq.trans (b := owns (c : Thread nD τ) (win0_1.stage (cfg0.slots t 1)) fullShare ((dats m 0 c).after 1 t)) rfl ?_
  rw [after_1, iblk_1]

theorem after_2 (t : Fin cfg0.N) : (dats m 0 c).after 2 t = iblk m c 2 t := by dsimp only [dats]
theorem before_2 (t : Fin cfg0.N) (d) : (dats m 0 c).before 2 t d = m ((c : Thread nD τ).loc main_arg2) :=
  (before0_2_of m (dats m 0 c) (A_eq m c 2) (after_2 m c) t d).trans (iblk_2 m c t)
theorem leaves_2 (t : Fin cfg0.N) :
    (dats m 0 c).leaves 2 t = owns (c : Thread nD τ) (win0_2.stage (cfg0.slots t 2)) fullShare (m ((c : Thread nD τ).loc main_arg2)) := by
  refine Eq.trans (b := owns (c : Thread nD τ) (win0_2.stage (cfg0.slots t 2)) fullShare ((dats m 0 c).after 2 t)) rfl ?_
  rw [after_2, iblk_2]

theorem after_3 (t : Fin cfg0.N) : (dats m 0 c).after 3 t = iblk m c 3 t := by dsimp only [dats]
theorem before_3 (t : Fin cfg0.N) (d) : (dats m 0 c).before 3 t d = m ((c : Thread nD τ).loc main_arg3) :=
  (before0_3_of m (dats m 0 c) (A_eq m c 3) (after_3 m c) t d).trans (iblk_3 m c t)
theorem leaves_3 (t : Fin cfg0.N) :
    (dats m 0 c).leaves 3 t = owns (c : Thread nD τ) (win0_3.stage (cfg0.slots t 3)) fullShare (m ((c : Thread nD τ).loc main_arg3)) := by
  refine Eq.trans (b := owns (c : Thread nD τ) (win0_3.stage (cfg0.slots t 3)) fullShare ((dats m 0 c).after 3 t)) rfl ?_
  rw [after_3, iblk_3]

theorem cutafter_4 (t : Fin cfg0.N) : win0_4.cut (grid0.coords t) ((dats m 0 c).after 4 t) = iblk m c 4 t := by
  dsimp only [dats]
  exact win0_4.cut_fill _ _ _
theorem before_4 (t : Fin cfg0.N) (d) : (dats m 0 c).before 4 t d = win0_4.fill (grid0.coords t) d (iblk m c 4 t) := by
  unfold Dat.before
  rw [if_pos (fetch0_4 t)]
  rfl

theorem cutafter_5 (t : Fin cfg0.N) : win0_5.cut (grid0.coords t) ((dats m 0 c).after 5 t) = iblk m c 5 t := by
  dsimp only [dats]
  exact win0_5.cut_fill _ _ _
theorem before_5 (t : Fin cfg0.N) (d) : (dats m 0 c).before 5 t d = win0_5.fill (grid0.coords t) d (iblk m c 5 t) := by
  unfold Dat.before
  rw [if_pos (fetch0_5 t)]
  rfl

theorem cutafter_6 (t : Fin cfg0.N) : win0_6.cut (grid0.coords t) ((dats m 0 c).after 6 t) = iblk m c 6 t := by
  dsimp only [dats]
  exact win0_6.cut_fill _ _ _
theorem before_6 (t : Fin cfg0.N) (d) : (dats m 0 c).before 6 t d = win0_6.fill (grid0.coords t) d (iblk m c 6 t) := by
  unfold Dat.before
  rw [if_pos (fetch0_6 t)]
  rfl

theorem cutafter_7 (t : Fin cfg0.N) : win0_7.cut (grid0.coords t) ((dats m 0 c).after 7 t) = iblk m c 7 t := by
  dsimp only [dats]
  exact win0_7.cut_fill _ _ _
theorem before_7 (t : Fin cfg0.N) (d) : (dats m 0 c).before 7 t d = win0_7.fill (grid0.coords t) d (iblk m c 7 t) := by
  unfold Dat.before
  rw [if_pos (fetch0_7 t)]
  rfl

theorem cutafter_8 (t : Fin cfg0.N) : win0_8.cut (grid0.coords t) ((dats m 0 c).after 8 t) = iblk m c 8 t := by
  dsimp only [dats]
  exact win0_8.cut_fill _ _ _
theorem before_8 (t : Fin cfg0.N) (d) : (dats m 0 c).before 8 t d = win0_8.fill (grid0.coords t) d (iblk m c 8 t) := by
  unfold Dat.before
  rw [if_pos (fetch0_8 t)]
  rfl

theorem cutafter_9 (t : Fin cfg0.N) : win0_9.cut (grid0.coords t) ((dats m 0 c).after 9 t) = iblk m c 9 t := by
  dsimp only [dats]
  exact win0_9.cut_fill _ _ _
theorem before_9 (t : Fin cfg0.N) (d) : (dats m 0 c).before 9 t d = win0_9.fill (grid0.coords t) d (iblk m c 9 t) :=
  ((dats m 0 c).before_in_eq_fetched 9 rfl (fun _ => rfl) clip_9 (cutafter_9 m c) t d).trans rfl

theorem cutafter_10 (t : Fin cfg0.N) :
    win0_10.cut (grid0.coords t) ((dats m 0 c).after 10 t) = (win0_10.blk t).view.read (Elt Ideal) (G10 m c) := by
  dsimp only [dats]
  exact win0_10.cut_fill _ _ _

theorem cutafter_11 (t : Fin cfg0.N) :
    win0_11.cut (grid0.coords t) ((dats m 0 c).after 11 t) = (win0_11.blk t).view.read (Elt Ideal) (G11 m c) := by
  dsimp only [dats]
  exact win0_11.cut_fill _ _ _

theorem cutafter_12 (t : Fin cfg0.N) :
    win0_12.cut (grid0.coords t) ((dats m 0 c).after 12 t) = (win0_12.blk t).view.read (Elt Ideal) (G12 m c) := by
  dsimp only [dats]
  exact win0_12.cut_fill _ _ _

/-- A buffer that agrees with the data where the block lies in the array is what the body is to leave. -/
theorem leaves_of_cut (w : Fin cfg0.W) (t : Fin cfg0.N) (hi : cfg0.idle w (grid0.coords t) = false) (hl : cfg0.loose w = true)
    (X : (cfg0.win w).block.Idx → Elt Ideal (cfg0.win w).elt)
    (hX : (cfg0.win w).cut (grid0.coords t) X = (cfg0.win w).cut (grid0.coords t) ((dats m 0 c).after w t)) :
    (owns (c : Thread nD τ) ((cfg0.win w).stage (cfg0.slots t w)) fullShare X : sProp 𝕄) ⊢ (dats m 0 c).leaves w t := by
  unfold Dat.leaves
  rw [show cfg0.idle w (cfg0.grid.coords t) = false from hi, hl]
  show (owns (c : Thread nD τ) ((cfg0.win w).stage (cfg0.slots t w)) fullShare X : sProp 𝕄)
    ⊢ iprop(∃ d, owns (c : Thread nD τ) ((cfg0.win w).stage (cfg0.slots t w)) fullShare ((cfg0.win w).fill (grid0.coords t) d ((cfg0.win w).cut (grid0.coords t) ((dats m 0 c).after w t))))
  iintro H
  iexists X
  rw [← hX, (cfg0.win w).fill_cut]
  iexact H

theorem idle_12 : ∀ t : Fin cfg0.N, t.val % 8 ≠ 7 → cfg0.idle 12 (grid0.coords t) = true ∧ win0_12.flush t = false :=
  (by decide +kernel : ∀ t : Fin grid0.N, t.val % 8 ≠ 7 → idle0 12 (grid0.coords t) = true ∧ win0_12.flush t = false)
theorem live_12 : ∀ t : Fin cfg0.N, t.val % 8 = 7 → cfg0.idle 12 (grid0.coords t) = false :=
  (by decide +kernel : ∀ t : Fin grid0.N, t.val % 8 = 7 → idle0 12 (grid0.coords t) = false)

/-- What the body leaves in the gradient's window: the array's block at the last block of rows, before that what it found. -/
theorem give_12 (t : Fin cfg0.N) (d) (g : Vec Ideal S512x2048 .f32)
    (hg : ∀ (y : Fin 512) (k : Fin 2048) (h : t.val / 8 * 512 + y.val < 5504), g (ix2 y k) = partD m c (col t y h) k (t.val % 8 + 1)) :
    (owns (c : Thread nD τ) (win0_12.stage (cfg0.slots t 12)) fullShare (newDwd (F := Ideal) (grid0.coords t) (m ((c : Thread nD τ).loc main_arg0)) (m ((c : Thread nD τ).loc main_arg2)) g ((dats m 0 c).before 12 t d)) : sProp 𝕄)
      ⊢ (dats m 0 c).leaves 12 t := by
  by_cases h7 : t.val % 8 = 7
  · rw [newDwd_last (h := (isLast_iff t).mpr h7)]
    exact leaves_of_cut m c 12 t (live_12 t h7) rfl _ ((last_12 m c t h7 g hg).trans (cutafter_12 m c t).symm)
  · rw [newDwd_idle (h := fun hl => h7 ((isLast_iff t).mp hl)), (dats m 0 c).leaves_idle 12 t (idle_12 t h7).1 (idle_12 t h7).2]
    iintro H
    iexists d
    iexact H

theorem after_13 (t : Fin cfg0.N) : (dats m 0 c).after 13 t = fun _ => amax (ent (G10 m c)) := by
  dsimp only [dats]
  rfl

theorem idle_13 : ∀ t : Fin cfg0.N, t.val ≠ 87 → cfg0.idle 13 (grid0.coords t) = true ∧ win0_13.flush t = false :=
  (by decide +kernel : ∀ t : Fin grid0.N, t.val ≠ 87 → idle0 13 (grid0.coords t) = true ∧ win0_13.flush t = false)
theorem live_13 : ∀ t : Fin cfg0.N, t.val = 87 → cfg0.idle 13 (grid0.coords t) = false :=
  (by decide +kernel : ∀ t : Fin grid0.N, t.val = 87 → idle0 13 (grid0.coords t) = false)

/-- What the body leaves in the maximum's window: the maximum at the last point, before that what it found. -/
theorem give_13 (t : Fin cfg0.N) (d) (v : Vec Ideal S8x512 .f32) (hv : MInv (G10 m c) (t.val + 1) v) :
    (owns (c : Thread nD τ) (win0_13.stage (cfg0.slots t 13)) fullShare (newAg (F := Ideal) (grid0.coords t) v ((dats m 0 c).before 13 t d)) : sProp 𝕄)
      ⊢ (dats m 0 c).leaves 13 t := by
  by_cases h7 : t.val = 87
  · rw [newAg_last (h := (isEnd_iff t).mpr h7)]
    have e : k0_pay4 (F := Ideal) v = amax (ent (G10 m c)) := MInv_last (G10 m c) v (by rwa [h7] at hv)
    unfold Dat.leaves
    rw [show cfg0.idle 13 (cfg0.grid.coords t) = false from live_13 t h7, after_13, e]
    iintro H
    iexact H
  · rw [newAg_idle (h := fun hl => h7 ((isEnd_iff t).mp hl)), (dats m 0 c).leaves_idle 13 t (idle_13 t h7).1 (idle_13 t h7).2]
    iintro H
    iexists d
    iexact H

theorem after_14 (t : Fin cfg0.N) : (dats m 0 c).after 14 t = fun _ => amax (ent (G11 m c)) := by
  dsimp only [dats]
  rfl

theorem idle_14 : ∀ t : Fin cfg0.N, t.val ≠ 87 → cfg0.idle 14 (grid0.coords t) = true ∧ win0_14.flush t = false :=
  (by decide +kernel : ∀ t : Fin grid0.N, t.val ≠ 87 → idle0 14 (grid0.coords t) = true ∧ win0_14.flush t = false)
theorem live_14 : ∀ t : Fin cfg0.N, t.val = 87 → cfg0.idle 14 (grid0.coords t) = false :=
  (by decide +kernel : ∀ t : Fin grid0.N, t.val = 87 → idle0 14 (grid0.coords t) = false)

/-- What the body leaves in the maximum's window: the maximum at the last point, before that what it found. -/
theorem give_14 (t : Fin cfg0.N) (d) (v : Vec Ideal S8x512 .f32) (hv : MInv (G11 m c) (t.val + 1) v) :
    (owns (c : Thread nD τ) (win0_14.stage (cfg0.slots t 14)) fullShare (newAu (F := Ideal) (grid0.coords t) v ((dats m 0 c).before 14 t d)) : sProp 𝕄)
      ⊢ (dats m 0 c).leaves 14 t := by
  by_cases h7 : t.val = 87
  · rw [newAu_last (h := (isEnd_iff t).mpr h7)]
    have e : k0_pay5 (F := Ideal) v = amax (ent (G11 m c)) := MInv_last (G11 m c) v (by rwa [h7] at hv)
    unfold Dat.leaves
    rw [show cfg0.idle 14 (cfg0.grid.coords t) = false from live_14 t h7, after_14, e]
    iintro H
    iexact H
  · rw [newAu_idle (h := fun hl => h7 ((isEnd_iff t).mp hl)), (dats m 0 c).leaves_idle 14 t (idle_14 t h7).1 (idle_14 t h7).2]
    iintro H
    iexists d
    iexact H

/-- The three scratch buffers as the body names them. -/
theorem PhiA_eq (c : Dev nD) :
    (Pipeline.ΦA spec0 c : sProp 𝕄)
      = iprop(iprop((∃ d, owns (c : Thread nD τ) (Memref.whole cc0_scratch0 : Memref sig .tc .vmem S512x2048 .f32) fullShare d)
          ∗ (∃ d, owns (c : Thread nD τ) (Memref.whole cc0_scratch1 : Memref sig .tc .vmem S8x512 .f32) fullShare d)
          ∗ (∃ d, owns (c : Thread nD τ) (Memref.whole cc0_scratch2 : Memref sig .tc .vmem S8x512 .f32) fullShare d)) ∗ (∃ r, prngReg c r)) := by
  unfold Pipeline.ΦA; rw [scopedRest0_eq]; simp only [owns_whole]; try rfl

/-- Before the first point the buffers may hold anything. -/
theorem Phi_in : (Pipeline.ΦA spec0 c : sProp 𝕄) ⊢ Phi m c 0 := by
  rw [PhiA_eq]
  unfold Phi
  iintro ⟨⟨⟨%s0, H0⟩, ⟨%s1, H1⟩, ⟨%s2, H2⟩⟩, HR⟩
  iexists s0
  iexists s1
  iexists s2
  isplitr
  · ipureintro
    exact ⟨fun h => absurd rfl h, fun h => absurd rfl h, fun h => absurd rfl h⟩
  isplitl [H0]; · iexact H0
  isplitl [H1]; · iexact H1
  isplitl [H2]; · iexact H2
  iexact HR

/-- What the buffers hold is forgotten. -/
theorem Phi_out (n : ℕ) : Phi m c n ⊢ (Pipeline.ΦA spec0 c : sProp 𝕄) := by
  rw [PhiA_eq]
  unfold Phi
  iintro ⟨%s0, %s1, %s2, %hI, H0, H1, H2, HR⟩
  isplitl [H0 H1 H2]
  · isplitl [H0]
    · iexists s0; iexact H0
    isplitl [H1]
    · iexists s1; iexact H1
    iexists s2; iexact H2
  · iexact HR

/-- The body table's row at a point is the body at its buffers. -/
theorem defs₀_row (t : Fin cfg0.N) :
    defs₀ (F := Ideal) .tc cfg0.body (cfg0.bodyArgs t (cfg0.slots t)) = bodyAt0 t := by
  unfold defs₀; rw [Defs.onTc_tc]

/-- What the body is handed at a point. -/
abbrev pre (t : Fin cfg0.N) : sProp 𝕄 :=
  iprop((∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)))

/-- What the body gives back at a point. -/
abbrev post (t : Fin cfg0.N) : sProp 𝕄 :=
  iprop((dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t ∗ (dats m 0 c).leaves 13 t ∗ (dats m 0 c).leaves 14 t)

/-- The body at a point. -/
theorem sound_body (t : Fin cfg0.N) (J : sProp 𝕄) :
    iprop(Phi m c t.val ∗ J ∗ pre m c t) ⊢ wp frame (wpE (defs₀ (F := Ideal)) Variants.none c none) Set.univ (bodyAt0 t)
      fun _ => iprop(Phi m c (t.val + 1) ∗ J ∗ post m c t) := by
  unfold pre post Phi
  simp only [before_0, before_1, before_2, before_3, before_4, before_5, before_6, before_7, before_8, before_9, leaves_0, leaves_1, leaves_2, leaves_3]
  iintro ⟨⟨%s0, %s1, %s2, %hI, HS0, HS1, HS2, HR⟩, HJ, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) _ (Memref.isWhole_whole _) _ (Memref.isWhole_whole _) _ (Memref.isWhole_whole _) (m ((c : Thread nD τ).loc main_arg0)) (m ((c : Thread nD τ).loc main_arg1)) (m ((c : Thread nD τ).loc main_arg2)) (m ((c : Thread nD τ).loc main_arg3)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (win0_8.fill (grid0.coords t) d8 (iblk m c 8 t)) (win0_9.fill (grid0.coords t) d9 (iblk m c 9 t)) ((dats m 0 c).before 12 t d12) ((dats m 0 c).before 13 t d13) ((dats m 0 c).before 14 t d14) s0 s1 s2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [H14]; · iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  have hG := newAcc_apply m c t s0 hI.1 _ (fill_4 m c t d4)
  have h1 := newMg_inv m c t d5 d6 d7 d8 d9 s1 hI.2.1
  have h2 := newMu_inv m c t d5 d7 d9 s2 hI.2.2
  isplitl [HS0 HS1 HS2 HR]
  · iexists _
    iexists _
    iexists _
    isplitr
    · ipureintro
      exact ⟨Inv_succ m c t _ hG, fun _ => h1, fun _ => h2⟩
    isplitl [HS0]; · iexact HS0
    isplitl [HS1]; · iexact HS1
    isplitl [HS2]; · iexact HS2
    iexact HR
  isplitl [HJ]; · iexact HJ
  isplitl [H0]; · iexact H0
  isplitl [H1]; · iexact H1
  isplitl [H2]; · iexact H2
  isplitl [H3]; · iexact H3
  isplitl [H4]; · iapply (leaves_of_cut m c 4 t rfl rfl (win0_4.fill (grid0.coords t) d4 (iblk m c 4 t)) ((win0_4.cut_fill _ _ _).trans (cutafter_4 m c t).symm)); iexact H4
  isplitl [H5]; · iapply (leaves_of_cut m c 5 t rfl rfl (win0_5.fill (grid0.coords t) d5 (iblk m c 5 t)) ((win0_5.cut_fill _ _ _).trans (cutafter_5 m c t).symm)); iexact H5
  isplitl [H6]; · iapply (leaves_of_cut m c 6 t rfl rfl (win0_6.fill (grid0.coords t) d6 (iblk m c 6 t)) ((win0_6.cut_fill _ _ _).trans (cutafter_6 m c t).symm)); iexact H6
  isplitl [H7]; · iapply (leaves_of_cut m c 7 t rfl rfl (win0_7.fill (grid0.coords t) d7 (iblk m c 7 t)) ((win0_7.cut_fill _ _ _).trans (cutafter_7 m c t).symm)); iexact H7
  isplitl [H8]; · iapply (leaves_of_cut m c 8 t rfl rfl (win0_8.fill (grid0.coords t) d8 (iblk m c 8 t)) ((win0_8.cut_fill _ _ _).trans (cutafter_8 m c t).symm)); iexact H8
  isplitl [H9]; · iapply (leaves_of_cut m c 9 t rfl rfl (win0_9.fill (grid0.coords t) d9 (iblk m c 9 t)) ((win0_9.cut_fill _ _ _).trans (cutafter_9 m c t).symm)); iexact H9
  isplitl [H10]; · iapply (leaves_of_cut m c 10 t rfl rfl _ ((blk_10 m c t d5 d6 d7 d8 d9).trans (cutafter_10 m c t).symm)); iexact H10
  isplitl [H11]; · iapply (leaves_of_cut m c 11 t rfl rfl _ ((blk_11 m c t d5 d7 d9).trans (cutafter_11 m c t).symm)); iexact H11
  isplitl [H12]; · iapply (give_12 m c t d12 _ hG); iexact H12
  isplitl [H13]; · iapply (give_13 m c t d13 _ h1); iexact H13
  iapply (give_14 m c t d14 _ h2); iexact H14

/-- The body obligation. -/
theorem body_obligation (c : Dev nD) : BodyObligationLoose (dats m 0 c) (defs₀ (F := Ideal)) Variants.none () Set.univ := fun t => by
  rw [bigSep_W0, bigSep_W0, defs₀_row]
  exact sound_body m c t _

variable (ρ : Dev nD → PrngReg)

set_option backward.isDefEq.respectTransparency.types false in
set_option maxHeartbeats 800000 in
/-- The launch: every array as the data say, the other buffers as the host's operations leave them, and every counter at zero. -/
theorem run_main : θ_run defs (onTc (τ := τ) (main (F := Ideal))) (s₀ m ρ)
    (fun r => Pipeline.FramePost cfgs (dats m) 0 (Pipeline.afterTail₀ cfgs (dats m) 0 (V0 m) [hostOps1, hostOps1_1, hostOps1_2, hostOps1_3]) r
      ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V0 m) [hostOps1, hostOps1_1, hostOps1_2, hostOps1_3] sfx_sub sfx_fresh sfx_keeps
    (hmain := hmain m Variants.none) (hA := fun _ _ => rfl)
    (hin := fun c => Phi_in m c) (hout := fun c => Phi_out m c _)

end Cert.DownIdeal
-- ==== Proof.DownFin.lean ====
/- The three gradients that `DownIdeal` leaves, the two scales that the host makes of their maxima, and its frame. -/
module

public import proofs.«01_k».proof.Proof.DownDat
public import Idealize.ShloMosaic.Lib.Claim

@[expose] public section

set_option maxRecDepth 16384

noncomputable section

namespace Cert.DownIdeal

open Idealize.ShloMosaic Idealize.ShloMosaic.TcCoe Idealize.SL.Sem Cert.DownIdeal.Gen Cert.DownMath Cert.ScaleMath
open Idealize.ShloMosaic.Pipeline (Dat RDat)

variable (m : (ℓ : Loc nD τ sig) → Buf (Elt Ideal) ℓ) (c : Dev nD) (ρ : Dev nD → PrngReg)

theorem covers_10 : win0_10.Covers := by decide +kernel

theorem final_10 : (dats m 0 c).arrAt 10 cfg0.N = G10 m c := by
  refine (dats m 0 c).arrAt_eq_of_covers 10 (G10 m c) covers_10 fun t hf y => ?_
  exact congrFun (cutafter_10 m c t) y

theorem covers_11 : win0_11.Covers := by decide +kernel

theorem final_11 : (dats m 0 c).arrAt 11 cfg0.N = G11 m c := by
  refine (dats m 0 c).arrAt_eq_of_covers 11 (G11 m c) covers_11 fun t hf y => ?_
  exact congrFun (cutafter_11 m c t) y

theorem covers_12 : win0_12.Covers := by decide +kernel

theorem final_12 : (dats m 0 c).arrAt 12 cfg0.N = G12 m c := by
  refine (dats m 0 c).arrAt_eq_of_covers 12 (G12 m c) covers_12 fun t hf y => ?_
  exact congrFun (cutafter_12 m c t) y

/-- The last point. -/
def last : Fin cfg0.N := ⟨87, lt_of_lt_of_eq (by decide) N_0.symm⟩

theorem whole_13 : ∀ t : Fin cfg0.N, t.val = 87 → win0_13.WholeAt t := (by decide +kernel : ∀ t : Fin grid0.N, t.val = 87 → win0_13.WholeAt t)

theorem final_13 : ((dats m 0 c).arrAt 13 cfg0.N : Vec Ideal S1 .f32) = fun _ => amax (ent (G10 m c)) := by
  funext i
  refine ((dats m 0 c).arrAt_emb_eq_after_last 13 last (whole_13 _ rfl) i).trans ?_
  rw [after_13]
  rfl

theorem whole_14 : ∀ t : Fin cfg0.N, t.val = 87 → win0_14.WholeAt t := (by decide +kernel : ∀ t : Fin grid0.N, t.val = 87 → win0_14.WholeAt t)

theorem final_14 : ((dats m 0 c).arrAt 14 cfg0.N : Vec Ideal S1 .f32) = fun _ => amax (ent (G11 m c)) := by
  funext i
  refine ((dats m 0 c).arrAt_emb_eq_after_last 14 last (whole_14 _ rfl) i).trans ?_
  rw [after_14]
  rfl

/-- The host's scale from a maximum. -/
def scale (a : Vec Ideal S1 .f32) : Vec Ideal S1 .f32 :=
  select (cmpf .oeq a (broadcastInDim S1 ![] bcast_S_S1 (constant (F := Ideal) S_ .f32 0x00000000#32)))
    (broadcastInDim S1 ![] bcast_S_S1 (id (constant (F := Ideal) S_ .f32 0x3F800000#32)))
    (Host.divf a (broadcastInDim S1 ![] bcast_S_S1 (constant (F := Ideal) S_ .f32 0x47600000#32)))

theorem final_v7 : Pipeline.afterTail₀ cfgs (dats m) 0 (V0 m) [hostOps1, hostOps1_1, hostOps1_2, hostOps1_3] c main_v7 = scale fun _ => amax (ent (G10 m c)) := by
  unfold Pipeline.afterTail₀
  dsimp only [List.flatten, List.append]
  simp only [StableHlo.TRef.ternary, StableHlo.TRef.unary, StableHlo.TRef.toBuf, StableHlo.TRef.ofBuf, cast_eq]
  after_results
  have e : Pipeline.withArrays (cfgs 0).spec c (V0 m c) (fun w => (dats m 0 c).arrAt w (cfgs 0).N) (Proc.tc.devRef main_v2_3)
      = (dats m 0 c).arrAt 13 cfg0.N :=
    Pipeline.withArrays_arr spec0 (by decide) c (V0 m c) (fun w => (dats m 0 c).arrAt w (cfgs 0).N) 13
  rw [e, final_13]
  rfl

theorem final_v12 : Pipeline.afterTail₀ cfgs (dats m) 0 (V0 m) [hostOps1, hostOps1_1, hostOps1_2, hostOps1_3] c main_v12 = scale fun _ => amax (ent (G11 m c)) := by
  unfold Pipeline.afterTail₀
  dsimp only [List.flatten, List.append]
  simp only [StableHlo.TRef.ternary, StableHlo.TRef.unary, StableHlo.TRef.toBuf, StableHlo.TRef.ofBuf, cast_eq]
  after_results
  have e : Pipeline.withArrays (cfgs 0).spec c (V0 m c) (fun w => (dats m 0 c).arrAt w (cfgs 0).N) (Proc.tc.devRef main_v2_4)
      = (dats m 0 c).arrAt 14 cfg0.N :=
    Pipeline.withArrays_arr spec0 (by decide) c (V0 m c) (fun w => (dats m 0 c).arrAt w (cfgs 0).N) 14
  rw [e, final_14]
  rfl

theorem run (ρ : Dev nD → PrngReg) : θ_run defs (onTc (τ := τ) (main (F := Ideal))) ⟨m, fun _ => 0, ρ⟩ (fun r => ∀ c : Dev nD,
    r.2.mem ((c.tc : Thread nD τ).loc main_v2_0) = G10 m c ∧ r.2.mem ((c.tc : Thread nD τ).loc main_v2_1) = G11 m c
      ∧ r.2.mem ((c.tc : Thread nD τ).loc main_v2_2) = G12 m c
      ∧ r.2.mem ((c.tc : Thread nD τ).loc main_v7) = (scale fun _ => amax (ent (G10 m c)))
      ∧ r.2.mem ((c.tc : Thread nD τ).loc main_v12) = (scale fun _ => amax (ent (G11 m c)))) :=
  (θ_run defs _ _).mono (fun _ h c =>
    ⟨((h.1 c).1 10).trans (final_10 m c), ((h.1 c).1 11).trans (final_11 m c), ((h.1 c).1 12).trans (final_12 m c),
      ((h.1 c).2 main_v7 (Pipeline.mem_restRefs_of main_v7 (by decide) (by decide))).trans (final_v7 m c),
      ((h.1 c).2 main_v12 (Pipeline.mem_restRefs_of main_v12 (by decide) (by decide))).trans (final_v12 m c)⟩) (run_main m ρ)

/-- The frame: the arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).1 0).trans (((dats m 0 c).arrAt_in 0 rfl _).trans (V_main_arg0 m c)),
      ((h.1 c).1 1).trans (((dats m 0 c).arrAt_in 1 rfl _).trans (V_main_arg1 m c)),
      ((h.1 c).1 2).trans (((dats m 0 c).arrAt_in 2 rfl _).trans (V_main_arg2 m c)),
      ((h.1 c).1 3).trans (((dats m 0 c).arrAt_in 3 rfl _).trans (V_main_arg3 m c)),
      ((h.1 c).1 4).trans (((dats m 0 c).arrAt_in 4 rfl _).trans (V_main_arg4 m c)),
      ((h.1 c).1 5).trans (((dats m 0 c).arrAt_in 5 rfl _).trans (V_main_arg5 m c)),
      ((h.1 c).1 6).trans (((dats m 0 c).arrAt_in 6 rfl _).trans (V_main_arg6 m c)),
      ((h.1 c).2 main_arg7 (Pipeline.mem_restRefs_of main_arg7 (by decide) (by decide))).trans (W_main_arg7 m (dats m) c),
      ((h.1 c).2 main_arg8 (Pipeline.mem_restRefs_of main_arg8 (by decide) (by decide))).trans (W_main_arg8 m (dats m) c),
      ((h.1 c).1 9).trans (((dats m 0 c).arrAt_in 9 rfl _).trans (V_main_arg9 m c))⟩, h.2⟩) (run_main m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h => h.1) (frame m ρ)

end Cert.DownIdeal
-- ==== Proof.DownRef.lean ====
/- The payloads of the reference `DownRefIdeal`, read at an index. -/
module

public import proofs.«01_k».proof.Proof.DownMath
public import proofs.«01_k».proof.Proof.DownGateMath
public import proofs.«01_k».proof.Proof.ScaleMath
public import proofs.«01_k».proof.Proof.Gen.DownRefIdeal.Value

@[expose] public section

set_option maxRecDepth 16384

noncomputable section

namespace Cert.DownRefIdeal

open Idealize.ShloMosaic Cert.DownRefIdeal.Gen Cert.DownMath Cert.ScaleMath

/-- The product of the transposed codes and the other codes, at an entry. -/
theorem mm_apply (a : Vec Ideal S8192x5504 .fp8e4m3) (b : Vec Ideal S8192x2048 .fp8e5m2) (f : Fin 5504) (k : Fin 2048) :
    matmul (F := Ideal) (φ₁ := .fp8e4m3) (φ₂ := .fp8e5m2) dot_S8192x5504_S8192x2048_S5504x2048_0_0_1_1_n_n none a b (constant S5504x2048 .f32 0x00000000#32) (ix2 f k)
      = ∑ r : Fin 8192, a (ix2 r f) * b (ix2 r k) := by
  pointwise

theorem pay7_apply (v0 : Vec Ideal S8192x5504 .fp8e4m3) (v1 : Vec Ideal S8192x2048 .fp8e5m2) (v3 v6 : EReal) (f : Fin 5504) (k : Fin 2048) :
    k0_pay7 (F := Ideal) v0 v1 v3 v6 (ix2 f k) = dot (fun r => v0 (ix2 r f)) (fun r => v1 (ix2 r k)) * v3 * v6 := by
  refine Eq.trans (b := matmul (F := Ideal) (φ₁ := .fp8e4m3) (φ₂ := .fp8e5m2) dot_S8192x5504_S8192x2048_S5504x2048_0_0_1_1_n_n none v0 v1 (constant S5504x2048 .f32 0x00000000#32) (ix2 f k) * v3 * v6) rfl ?_
  rw [mm_apply]
  rfl

/-- The product of the codes and the weight's transposed codes, at an entry. -/
theorem mm2_apply (a : Vec Ideal S8192x2048 .fp8e5m2) (b : Vec Ideal S5504x2048 .fp8e4m3) (r : Fin 8192) (f : Fin 5504) :
    matmul (F := Ideal) (φ₁ := .fp8e5m2) (φ₂ := .fp8e4m3) dot_S8192x2048_S5504x2048_S8192x5504_1_1_0_0_n_n none a b (constant S8192x5504 .f32 0x00000000#32) (ix2 r f)
      = ∑ k : Fin 2048, a (ix2 r k) * b (ix2 f k) := by
  pointwise

theorem pay6_apply (a : Vec Ideal S8192x2048 .fp8e5m2) (b : Vec Ideal S5504x2048 .fp8e4m3) (p q : EReal) (r : Fin 8192) (f : Fin 5504) :
    k0_pay6 (F := Ideal) a b p q (ix2 r f) = dh (fun k => a (ix2 r k)) (fun k => b (ix2 f k)) p q := by
  refine Eq.trans (b := matmul (F := Ideal) (φ₁ := .fp8e5m2) (φ₂ := .fp8e4m3) dot_S8192x2048_S5504x2048_S8192x5504_1_1_0_0_n_n none a b (constant S8192x5504 .f32 0x00000000#32) (ix2 r f) * p * q) rfl ?_
  rw [mm2_apply]
  rfl

theorem pay8_apply (x : Vec Ideal S8192x5504 .fp8e4m3) (s : Vec Ideal S8192x344 .f32) (r : Fin 8192) (f : Fin 5504) :
    k0_pay8 (F := Ideal) x s (ix2 r f) = x (ix2 r f) * s (ix2 r ⟨f.val / 16, by have := f.isLt; omega⟩) := by
  pointwise [k0_pay8]

theorem pay1_apply (g : FVec Ideal S8192x5504 .f32) (r : Fin 8192) (f : Fin 5504) :
    k0_pay1 (F := Ideal) g (ix2 r f) = Ideal.logistic (g (ix2 r f)) := by
  pointwise [k0_pay1]

theorem pay2_apply (h g : FVec Ideal S8192x5504 .f32) (x : Vec Ideal S8192x5504 .fp8e4m3) (s : Vec Ideal S8192x344 .f32) (r : Fin 8192) (f : Fin 5504) :
    k0_pay2 (F := Ideal) h g (k0_pay9 x) (k0_pay10 s) (ix2 r f)
      = dgE (h (ix2 r f)) (g (ix2 r f)) (x (ix2 r f) * s (ix2 r ⟨f.val / 16, by have := f.isLt; omega⟩)) := by
  unfold dgE
  pointwise [k0_pay2, k0_pay9, k0_pay10, pay1_apply]

theorem pay3_apply (h g : FVec Ideal S8192x5504 .f32) (r : Fin 8192) (f : Fin 5504) :
    k0_pay3 (F := Ideal) h g (ix2 r f) = duE (h (ix2 r f)) (g (ix2 r f)) := by
  unfold duE
  pointwise [k0_pay3, pay1_apply]

/-- The maximum of the absolute values of an array. -/
theorem max_eq (w : FVec Ideal S8192x5504 .f32) :
    extractAt ![0, 0, 0] (shapeCast S1x1x1 (multiReduction .maximumf [1, 2] S1 (shapeCast S1x8192x5504 (absf w) shapeCasts_S8192x5504_S1x8192x5504)
        0xFF800000#32 reduces_S1x8192x5504_S1 (.inl rfl) rfl : FVec Ideal S1 .f32) shapeCasts_S1_S1x1x1) inpos_S1x1x1_p0_0_0
      = amax fun r f => w (ix2 r f) := by
  refine eq_amax _ _ fun b => ?_
  have e3 : ∀ (r : Fin 8192) (f : Fin 5504), (shapeCast S1x8192x5504 (absf w) shapeCasts_S8192x5504_S1x8192x5504) (ix3 0 r f) = max (w (ix2 r f)) (-w (ix2 r f)) := by
    intro r f
    pointwise
    rfl
  generalize shapeCast S1x8192x5504 (absf w) shapeCasts_S8192x5504_S1x8192x5504 = u at e3 ⊢
  have e : extractAt ![0, 0, 0] (shapeCast S1x1x1 (multiReduction .maximumf [1, 2] S1 u
        0xFF800000#32 reduces_S1x8192x5504_S1 (.inl rfl) rfl : FVec Ideal S1 .f32) shapeCasts_S1_S1x1x1) inpos_S1x1x1_p0_0_0
      = (multiReduction .maximumf [1, 2] S1 u 0xFF800000#32 reduces_S1x8192x5504_S1 (.inl rfl) rfl : FVec Ideal S1 .f32) (ix1 0) := by
    pointwise
  have e2 := e.trans (multiReduction_maximumf_eq_fold (F := Ideal) u _ reduces_S1x8192x5504_S1 (.inl rfl) rfl (ix1 0))
  refine Eq.to_iff (congrArg (· ≤ b) e2) |>.trans ?_
  refine (Finset.fold_max_le _).trans ?_
  constructor
  · rintro ⟨_, h⟩ r f
    rw [← e3]
    exact h _ (Finset.mem_filter.2 ⟨Finset.mem_univ _, (eq_ix1 _).trans (congrArg ix1 (Subsingleton.elim (α := Fin 1) _ _))⟩)
  · intro h
    refine ⟨word_le b, fun i _ => ?_⟩
    obtain ⟨a, r, f, rfl⟩ : ∃ (a : Fin 1) (r : Fin 8192) (f : Fin 5504), i = ix3 a r f := ⟨i 0, i 1, i 2, eq_ix3 i⟩
    rw [Subsingleton.elim a 0, e3]
    exact h r f

/-- The scale from a maximum. -/
def scaleE (a : EReal) : EReal :=
  Scalar.select (Scalar.cmpf (F := Ideal) (φ := .f32) .oeq a (Scalar.ofBits .f32 0x00000000#32)) (Scalar.ofBits (F := Ideal) .f32 0x3F800000#32)
    (Scalar.divf (F := Ideal) (φ := .f32) a (Scalar.ofBits .f32 0x47600000#32))

theorem pay4_eq (h g : FVec Ideal S8192x5504 .f32) (x : FVec Ideal S8192x344x16 .f32) (s : FVec Ideal S8192x344x1 .f32) :
    k0_pay4 (F := Ideal) h g x s = scaleE (amax fun r f => k0_pay2 (F := Ideal) h g x s (ix2 r f)) :=
  congrArg scaleE (max_eq (k0_pay2 (F := Ideal) h g x s))

theorem pay5_eq (h g : FVec Ideal S8192x5504 .f32) :
    k0_pay5 (F := Ideal) h g = scaleE (amax fun r f => k0_pay3 (F := Ideal) h g (ix2 r f)) :=
  congrArg scaleE (max_eq (k0_pay3 (F := Ideal) h g))

end Cert.DownRefIdeal
-- ==== Proof.DownRefVal.lean ====
/- What the reference `DownRefIdeal` leaves in its five result arrays, as functions of its arguments. -/
module

public import proofs.«01_k».proof.Proof.DownRef
public import Idealize.ShloMosaic.Lib.Pipeline.ValueKit.Geometry

@[expose] public section

set_option maxRecDepth 16384

noncomputable section

namespace Cert.DownRefIdeal

open Idealize.ShloMosaic Idealize.ShloMosaic.TcCoe Idealize.SL.Sem Cert.DownRefIdeal.Gen Cert.DownMath Cert.ScaleMath
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a; rfl

/-- The load of the one element of a one-element vector. -/
def sc (x : Vec Ideal S1 .f32) : EReal := View.ld x (Rect.unit (s := S1) ![0] S1.size inb_S1_S1_0) (Shape.Idx.first (by decide))

theorem sc_eq (x : Vec Ideal S1 .f32) : sc x = x (ix1 0) := by
  unfold sc
  pointwise

section Body
variable (c : Dev nD) (a0 : Memref sig .tc .smem S1 .f32) (h0 : a0.IsWhole) (a1 : Memref sig .tc .smem S1 .f32) (h1 : a1.IsWhole) (a2 : Memref sig .tc .smem S1 .f32) (h2 : a2.IsWhole) (a3 : Memref sig .tc .vmem S8192x2048 .fp8e5m2) (h3 : a3.IsWhole) (a4 : Memref sig .tc .vmem S8192x5504 .fp8e4m3) (h4 : a4.IsWhole) (a5 : Memref sig .tc .vmem S8192x5504 .fp8e4m3) (h5 : a5.IsWhole) (a6 : Memref sig .tc .vmem S8192x5504 .fp8e4m3) (h6 : a6.IsWhole) (a7 : Memref sig .tc .vmem S8192x344 .f32) (h7 : a7.IsWhole) (a8 : Memref sig .tc .vmem S8192x344 .f32) (h8 : a8.IsWhole) (a9 : Memref sig .tc .vmem S5504x2048 .fp8e4m3) (h9 : a9.IsWhole) (a10 : Memref sig .tc .vmem S8192x5504 .f32) (h10 : a10.IsWhole) (a11 : Memref sig .tc .vmem S8192x5504 .f32) (h11 : a11.IsWhole) (a12 : Memref sig .tc .vmem S5504x2048 .bf16) (h12 : a12.IsWhole) (a13 : Memref sig .tc .smem S1 .f32) (h13 : a13.IsWhole) (a14 : Memref sig .tc .smem S1 .f32) (h14 : a14.IsWhole)
  (x0 : Vec Ideal S1 .f32) (x1 : Vec Ideal S1 .f32) (x2 : Vec Ideal S1 .f32) (x3 : Vec Ideal S8192x2048 .fp8e5m2) (x4 : Vec Ideal S8192x5504 .fp8e4m3) (x5 : Vec Ideal S8192x5504 .fp8e4m3) (x6 : Vec Ideal S8192x5504 .fp8e4m3) (x7 : Vec Ideal S8192x344 .f32) (x8 : Vec Ideal S8192x344 .f32) (x9 : Vec Ideal S5504x2048 .fp8e4m3)

theorem out_10 : out0_A_10 (F := Ideal) c a0 h0 a1 h1 a2 h2 a3 h3 a4 h4 a5 h5 a6 h6 a7 h7 a8 h8 a9 h9 a10 h10 a11 h11 a12 h12 a13 h13 a14 h14 x0 x1 x2 x3 x4 x5 x6 x7 x8 x9
    = k0_pay2 (F := Ideal) (k0_pay6 x3 x9 (sc x0) (sc x1)) (k0_pay8 x5 x7) (k0_pay9 x6) (k0_pay10 x8) := by
  unfold out0_A_10
  rw [View.read_writes_eq_canon _ _ _ (cover0_A_10 c a0 h0 a1 h1 a2 h2 a3 h3 a4 h4 a5 h5 a6 h6 a7 h7 a8 h8 a9 h9 a10 h10 a11 h11 a12 h12 a13 h13 a14 h14 x0 x1 x2 x3 x4 x5 x6 x7 x8 x9)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S8192x5504) hz, View.ld_unit_zero (S := S8192x2048) hz, View.ld_unit_zero (S := S8192x344) hz, View.ld_unit_zero (S := S5504x2048) hz]
  rfl

theorem out_11 : out0_A_11 (F := Ideal) c a0 h0 a1 h1 a2 h2 a3 h3 a4 h4 a5 h5 a6 h6 a7 h7 a8 h8 a9 h9 a10 h10 a11 h11 a12 h12 a13 h13 a14 h14 x0 x1 x2 x3 x4 x5 x6 x7 x8 x9
    = k0_pay3 (F := Ideal) (k0_pay6 x3 x9 (sc x0) (sc x1)) (k0_pay8 x5 x7) := by
  unfold out0_A_11
  rw [View.read_writes_eq_canon _ _ _ (cover0_A_11 c a0 h0 a1 h1 a2 h2 a3 h3 a4 h4 a5 h5 a6 h6 a7 h7 a8 h8 a9 h9 a10 h10 a11 h11 a12 h12 a13 h13 a14 h14 x0 x1 x2 x3 x4 x5 x6 x7 x8 x9)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S8192x5504) hz, View.ld_unit_zero (S := S8192x2048) hz, View.ld_unit_zero (S := S8192x344) hz, View.ld_unit_zero (S := S5504x2048) hz]
  rfl

theorem out_12 : out0_A_12 (F := Ideal) c a0 h0 a1 h1 a2 h2 a3 h3 a4 h4 a5 h5 a6 h6 a7 h7 a8 h8 a9 h9 a10 h10 a11 h11 a12 h12 a13 h13 a14 h14 x0 x1 x2 x3 x4 x5 x6 x7 x8 x9
    = k0_pay7 (F := Ideal) x4 x3 (sc x2) (sc x0) := by
  unfold out0_A_12
  rw [View.read_writes_eq_canon _ _ _ (cover0_A_12 c a0 h0 a1 h1 a2 h2 a3 h3 a4 h4 a5 h5 a6 h6 a7 h7 a8 h8 a9 h9 a10 h10 a11 h11 a12 h12 a13 h13 a14 h14 x0 x1 x2 x3 x4 x5 x6 x7 x8 x9)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S8192x5504) hz, View.ld_unit_zero (S := S8192x2048) hz, View.ld_unit_zero (S := S8192x344) hz, View.ld_unit_zero (S := S5504x2048) hz]
  rfl

theorem out_13 : out0_A_13 (F := Ideal) c a0 h0 a1 h1 a2 h2 a3 h3 a4 h4 a5 h5 a6 h6 a7 h7 a8 h8 a9 h9 a10 h10 a11 h11 a12 h12 a13 h13 a14 h14 x0 x1 x2 x3 x4 x5 x6 x7 x8 x9
    = fun _ => k0_pay4 (F := Ideal) (k0_pay6 x3 x9 (sc x0) (sc x1)) (k0_pay8 x5 x7) (k0_pay9 x6) (k0_pay10 x8) := by
  unfold out0_A_13
  rw [View.read_writes_eq_canon _ _ _ (cover0_A_13 c a0 h0 a1 h1 a2 h2 a3 h3 a4 h4 a5 h5 a6 h6 a7 h7 a8 h8 a9 h9 a10 h10 a11 h11 a12 h12 a13 h13 a14 h14 x0 x1 x2 x3 x4 x5 x6 x7 x8 x9)]
  unfold kernelRun0_A
  dsimp only
  sl_unfold_words
  rw [View.canon_unit_zero hz1]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S8192x5504) hz, View.ld_unit_zero (S := S8192x2048) hz, View.ld_unit_zero (S := S8192x344) hz, View.ld_unit_zero (S := S5504x2048) hz]
  rfl

theorem out_14 : out0_A_14 (F := Ideal) c a0 h0 a1 h1 a2 h2 a3 h3 a4 h4 a5 h5 a6 h6 a7 h7 a8 h8 a9 h9 a10 h10 a11 h11 a12 h12 a13 h13 a14 h14 x0 x1 x2 x3 x4 x5 x6 x7 x8 x9
    = fun _ => k0_pay5 (F := Ideal) (k0_pay6 x3 x9 (sc x0) (sc x1)) (k0_pay8 x5 x7) := by
  unfold out0_A_14
  rw [View.read_writes_eq_canon _ _ _ (cover0_A_14 c a0 h0 a1 h1 a2 h2 a3 h3 a4 h4 a5 h5 a6 h6 a7 h7 a8 h8 a9 h9 a10 h10 a11 h11 a12 h12 a13 h13 a14 h14 x0 x1 x2 x3 x4 x5 x6 x7 x8 x9)]
  unfold kernelRun0_A
  dsimp only
  sl_unfold_words
  rw [View.canon_unit_zero hz1]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S8192x5504) hz, View.ld_unit_zero (S := S8192x2048) hz, View.ld_unit_zero (S := S8192x344) hz, View.ld_unit_zero (S := S5504x2048) hz]
  rfl

end Body

variable (m : (ℓ : Loc nD τ sig) → Buf (Elt Ideal) ℓ) (c : Dev nD)

/-- The group scales with the rows' two halves joined. -/
def joined (x : Vec Ideal S2x4096x344 .f32) : Vec Ideal S8192x344 .f32 := shapeCast S8192x344 x shapeCasts_S2x4096x344_S8192x344

theorem joined_apply (x : Vec Ideal S2x4096x344 .f32) (r : Fin 8192) (f : Fin 5504) (h : f.val / 16 < 344) :
    joined x (ix2 r ⟨f.val / 16, h⟩) = scl (fun a b g => x (ix3 a b g)) r f := by
  unfold scl
  pointwise [joined]

theorem V_main_v0 : V m c main_v0 = joined (m ((c : Thread nD τ).loc main_arg7)) := rfl

theorem V_main_v1 : V m c main_v1 = joined (m ((c : Thread nD τ).loc main_arg8)) := rfl

theorem idx_0 : ∀ t : Fin cfg0.N, win0_0.index t = ![0] := (by decide +kernel : ∀ t : Fin grid0.N, _)

theorem iblk_0 (t : Fin cfg0.N) : (iblk m c 0 t : Vec Ideal S1 .f32) = m ((c : Thread nD τ).loc main_arg0) := by
  funext i
  blk_simp [iblk, idx_0]
  rw [V_main_arg0]
  congr 1
  blk_ext [idx_0]

theorem idx_1 : ∀ t : Fin cfg0.N, win0_1.index t = ![0] := (by decide +kernel : ∀ t : Fin grid0.N, _)

theorem iblk_1 (t : Fin cfg0.N) : (iblk m c 1 t : Vec Ideal S1 .f32) = m ((c : Thread nD τ).loc main_arg1) := by
  funext i
  blk_simp [iblk, idx_1]
  rw [V_main_arg1]
  congr 1
  blk_ext [idx_1]

theorem idx_2 : ∀ t : Fin cfg0.N, win0_2.index t = ![0] := (by decide +kernel : ∀ t : Fin grid0.N, _)

theorem iblk_2 (t : Fin cfg0.N) : (iblk m c 2 t : Vec Ideal S1 .f32) = m ((c : Thread nD τ).loc main_arg2) := by
  funext i
  blk_simp [iblk, idx_2]
  rw [V_main_arg2]
  congr 1
  blk_ext [idx_2]

theorem idx_3 : ∀ t : Fin cfg0.N, win0_3.index t = ![0, 0] := (by decide +kernel : ∀ t : Fin grid0.N, _)

theorem iblk_3 (t : Fin cfg0.N) : (iblk m c 3 t : Vec Ideal S8192x2048 .fp8e5m2) = m ((c : Thread nD τ).loc main_arg3) := by
  funext i
  blk_simp [iblk, idx_3]
  rw [V_main_arg3]
  congr 1
  blk_ext [idx_3]

theorem idx_4 : ∀ t : Fin cfg0.N, win0_4.index t = ![0, 0] := (by decide +kernel : ∀ t : Fin grid0.N, _)

theorem iblk_4 (t : Fin cfg0.N) : (iblk m c 4 t : Vec Ideal S8192x5504 .fp8e4m3) = m ((c : Thread nD τ).loc main_arg4) := by
  funext i
  blk_simp [iblk, idx_4]
  rw [V_main_arg4]
  congr 1
  blk_ext [idx_4]

theorem idx_5 : ∀ t : Fin cfg0.N, win0_5.index t = ![0, 0] := (by decide +kernel : ∀ t : Fin grid0.N, _)

theorem iblk_5 (t : Fin cfg0.N) : (iblk m c 5 t : Vec Ideal S8192x5504 .fp8e4m3) = m ((c : Thread nD τ).loc main_arg5) := by
  funext i
  blk_simp [iblk, idx_5]
  rw [V_main_arg5]
  congr 1
  blk_ext [idx_5]

theorem idx_6 : ∀ t : Fin cfg0.N, win0_6.index t = ![0, 0] := (by decide +kernel : ∀ t : Fin grid0.N, _)

theorem iblk_6 (t : Fin cfg0.N) : (iblk m c 6 t : Vec Ideal S8192x5504 .fp8e4m3) = m ((c : Thread nD τ).loc main_arg6) := by
  funext i
  blk_simp [iblk, idx_6]
  rw [V_main_arg6]
  congr 1
  blk_ext [idx_6]

theorem idx_7 : ∀ t : Fin cfg0.N, win0_7.index t = ![0, 0] := (by decide +kernel : ∀ t : Fin grid0.N, _)

theorem iblk_7 (t : Fin cfg0.N) : (iblk m c 7 t : Vec Ideal S8192x344 .f32) = joined (m ((c : Thread nD τ).loc main_arg7)) := by
  funext i
  blk_simp [iblk, idx_7]
  rw [V_main_v0]
  congr 1
  blk_ext [idx_7]

theorem idx_8 : ∀ t : Fin cfg0.N, win0_8.index t = ![0, 0] := (by decide +kernel : ∀ t : Fin grid0.N, _)

theorem iblk_8 (t : Fin cfg0.N) : (iblk m c 8 t : Vec Ideal S8192x344 .f32) = joined (m ((c : Thread nD τ).loc main_arg8)) := by
  funext i
  blk_simp [iblk, idx_8]
  rw [V_main_v1]
  congr 1
  blk_ext [idx_8]

theorem idx_9 : ∀ t : Fin cfg0.N, win0_9.index t = ![0, 0] := (by decide +kernel : ∀ t : Fin grid0.N, _)

theorem iblk_9 (t : Fin cfg0.N) : (iblk m c 9 t : Vec Ideal S5504x2048 .fp8e4m3) = m ((c : Thread nD τ).loc main_arg9) := by
  funext i
  blk_simp [iblk, idx_9]
  rw [V_main_arg9]
  congr 1
  blk_ext [idx_9]

/-- The gate's gradient. -/
def G10 : Vec Ideal S8192x5504 .f32 := fun i =>
  dgA (m ((c : Thread nD τ).loc main_arg0) (ix1 0)) (m ((c : Thread nD τ).loc main_arg1) (ix1 0))
    (fun r k => m ((c : Thread nD τ).loc main_arg3) (ix2 r k)) (fun f k => m ((c : Thread nD τ).loc main_arg9) (ix2 f k))
    (fun r f => m ((c : Thread nD τ).loc main_arg5) (ix2 r f)) (fun r f => m ((c : Thread nD τ).loc main_arg6) (ix2 r f))
    (fun a b g => m ((c : Thread nD τ).loc main_arg7) (ix3 a b g)) (fun a b g => m ((c : Thread nD τ).loc main_arg8) (ix3 a b g)) (i 0) (i 1)

/-- The up projection's gradient. -/
def G11 : Vec Ideal S8192x5504 .f32 := fun i =>
  duA (m ((c : Thread nD τ).loc main_arg0) (ix1 0)) (m ((c : Thread nD τ).loc main_arg1) (ix1 0))
    (fun r k => m ((c : Thread nD τ).loc main_arg3) (ix2 r k)) (fun f k => m ((c : Thread nD τ).loc main_arg9) (ix2 f k))
    (fun r f => m ((c : Thread nD τ).loc main_arg5) (ix2 r f))
    (fun a b g => m ((c : Thread nD τ).loc main_arg7) (ix3 a b g)) (i 0) (i 1)

/-- The weight's gradient. -/
def G12 : Vec Ideal S5504x2048 .bf16 := fun i =>
  dot (fun r => m ((c : Thread nD τ).loc main_arg4) (ix2 r (i 0))) (fun r => m ((c : Thread nD τ).loc main_arg3) (ix2 r (i 1)))
    * m ((c : Thread nD τ).loc main_arg2) (ix1 0) * m ((c : Thread nD τ).loc main_arg0) (ix1 0)

theorem val_10 (t : Fin cfg0.N) (r : Fin 8192) (f : Fin 5504) :
    k0_pay2 (F := Ideal) (k0_pay6 (iblk m c 3 t) (iblk m c 9 t) (sc (iblk m c 0 t)) (sc (iblk m c 1 t))) (k0_pay8 (iblk m c 5 t) (iblk m c 7 t)) (k0_pay9 (iblk m c 6 t)) (k0_pay10 (iblk m c 8 t)) (ix2 r f)
      = G10 m c (ix2 r f) := by
  rw [pay2_apply, pay6_apply, pay8_apply]
  simp only [sc_eq, iblk_0, iblk_1, iblk_3, iblk_5, iblk_6, iblk_7, iblk_8, iblk_9, joined_apply]
  rfl

theorem outs_10 (t : Fin cfg0.N) : (outsAt0 m c t).1 = G10 m c := by
  unfold outsAt0
  dsimp only
  rw [out_10]
  funext i
  obtain ⟨r, f, rfl⟩ : ∃ (r : Fin 8192) (f : Fin 5504), i = ix2 r f := ⟨i 0, i 1, eq_ix2 i⟩
  exact val_10 m c t r f

theorem val_11 (t : Fin cfg0.N) (r : Fin 8192) (f : Fin 5504) :
    k0_pay3 (F := Ideal) (k0_pay6 (iblk m c 3 t) (iblk m c 9 t) (sc (iblk m c 0 t)) (sc (iblk m c 1 t))) (k0_pay8 (iblk m c 5 t) (iblk m c 7 t)) (ix2 r f)
      = G11 m c (ix2 r f) := by
  rw [pay3_apply, pay6_apply, pay8_apply]
  simp only [sc_eq, iblk_0, iblk_1, iblk_3, iblk_5, iblk_7, iblk_9, joined_apply]
  rfl

theorem outs_11 (t : Fin cfg0.N) : (outsAt0 m c t).2.1 = G11 m c := by
  unfold outsAt0
  dsimp only
  rw [out_11]
  funext i
  obtain ⟨r, f, rfl⟩ : ∃ (r : Fin 8192) (f : Fin 5504), i = ix2 r f := ⟨i 0, i 1, eq_ix2 i⟩
  exact val_11 m c t r f

theorem outs_12 (t : Fin cfg0.N) : (outsAt0 m c t).2.2.1 = G12 m c := by
  unfold outsAt0
  dsimp only
  rw [out_12]
  funext i
  obtain ⟨f, k, rfl⟩ : ∃ (f : Fin 5504) (k : Fin 2048), i = ix2 f k := ⟨i 0, i 1, eq_ix2 i⟩
  rw [pay7_apply]
  simp only [sc_eq, iblk_0, iblk_2, iblk_3, iblk_4]
  rfl

/-- The scale of the array's maximum. -/
def sclOf (G : Vec Ideal S8192x5504 .f32) : Vec Ideal S1 .f32 := fun _ => scaleE (amax fun r f => G (ix2 r f))

theorem outs_13 (t : Fin cfg0.N) : (outsAt0 m c t).2.2.2.1 = sclOf (G10 m c) := by
  unfold outsAt0
  dsimp only
  rw [out_13, pay4_eq]
  unfold sclOf
  rw [funext fun r => funext fun f => val_10 m c t r f]

theorem outs_14 (t : Fin cfg0.N) : (outsAt0 m c t).2.2.2.2 = sclOf (G11 m c) := by
  unfold outsAt0
  dsimp only
  rw [out_14, pay5_eq]
  unfold sclOf
  rw [funext fun r => funext fun f => val_11 m c t r f]

/-- The one point of the grid. -/
def pt : Fin cfg0.N := ⟨0, by decide⟩

theorem whole_10 : ∀ t : Fin cfg0.N, win0_10.WholeAt t := (by decide +kernel : ∀ t : Fin grid0.N, win0_10.WholeAt t)

theorem final_10 : (dats m 0 c).arrAt 10 cfg0.N = G10 m c := by
  funext i
  refine ((dats m 0 c).arrAt_emb_eq_after_last 10 pt (whole_10 _) i).trans ?_
  rw [after0_10, outs_10]
  rfl

theorem whole_11 : ∀ t : Fin cfg0.N, win0_11.WholeAt t := (by decide +kernel : ∀ t : Fin grid0.N, win0_11.WholeAt t)

theorem final_11 : (dats m 0 c).arrAt 11 cfg0.N = G11 m c := by
  funext i
  refine ((dats m 0 c).arrAt_emb_eq_after_last 11 pt (whole_11 _) i).trans ?_
  rw [after0_11, outs_11]
  rfl

theorem whole_12 : ∀ t : Fin cfg0.N, win0_12.WholeAt t := (by decide +kernel : ∀ t : Fin grid0.N, win0_12.WholeAt t)

theorem final_12 : (dats m 0 c).arrAt 12 cfg0.N = G12 m c := by
  funext i
  refine ((dats m 0 c).arrAt_emb_eq_after_last 12 pt (whole_12 _) i).trans ?_
  rw [after0_12, outs_12]
  rfl

theorem whole_13 : ∀ t : Fin cfg0.N, win0_13.WholeAt t := (by decide +kernel : ∀ t : Fin grid0.N, win0_13.WholeAt t)

theorem final_13 : (dats m 0 c).arrAt 13 cfg0.N = sclOf (G10 m c) := by
  funext i
  refine ((dats m 0 c).arrAt_emb_eq_after_last 13 pt (whole_13 _) i).trans ?_
  rw [after0_13, outs_13]
  rfl

theorem whole_14 : ∀ t : Fin cfg0.N, win0_14.WholeAt t := (by decide +kernel : ∀ t : Fin grid0.N, win0_14.WholeAt t)

theorem final_14 : (dats m 0 c).arrAt 14 cfg0.N = sclOf (G11 m c) := by
  funext i
  refine ((dats m 0 c).arrAt_emb_eq_after_last 14 pt (whole_14 _) i).trans ?_
  rw [after0_14, outs_14]
  rfl

theorem run (ρ : Dev nD → PrngReg) : θ_run defs (onTc (τ := τ) (main (F := Ideal))) ⟨m, fun _ => 0, ρ⟩ (fun r => ∀ c : Dev nD,
    r.2.mem ((c.tc : Thread nD τ).loc main_v2_0) = G10 m c ∧ r.2.mem ((c.tc : Thread nD τ).loc main_v2_1) = G11 m c
      ∧ r.2.mem ((c.tc : Thread nD τ).loc main_v2_2) = G12 m c ∧ r.2.mem ((c.tc : Thread nD τ).loc main_v2_3) = sclOf (G10 m c)
      ∧ r.2.mem ((c.tc : Thread nD τ).loc main_v2_4) = sclOf (G11 m c)) :=
  (θ_run defs _ _).mono (fun _ h c => ⟨(h c).1.trans (final_10 m c), (h c).2.1.trans (final_11 m c), (h c).2.2.1.trans (final_12 m c),
      (h c).2.2.2.1.trans (final_13 m c), (h c).2.2.2.2.1.trans (final_14 m c)⟩)
    (Cert.DownRefIdeal.Value.run_blocks m ρ)

end Cert.DownRefIdeal
-- ==== Proof.DownEq.lean ====
/- `down` and its reference compute the same three gradients and the same two scales. -/
module

public import proofs.«01_k».proof.Defs
public import proofs.«01_k».proof.Proof.DownFin
public import proofs.«01_k».proof.Proof.DownRefVal

@[expose] public section

set_option maxRecDepth 16384

noncomputable section

namespace Cert.DownEq

open Idealize.ShloMosaic Idealize.ShloMosaic.TcCoe Idealize.SL.Sem

theorem preserves : Cert.preserves_Down_DownIdeal :=
  IdealRules.named_const.statement _ _ _ _ _ rfl

theorem algebraic : Cert.algebraic_DownIdeal_DownRefIdeal (hDownIdeal := Cert.DownIdeal.Gen.facts) (hDownRefIdeal := Cert.DownRefIdeal.Gen.facts) := by
  pair_intro
  · run_from Cert.DownIdeal.run m g & Cert.DownIdeal.unchanged m g
  · run_from Cert.DownRefIdeal.run m' g' & Cert.DownRefIdeal.Gen.unchanged m' g'
    · obtain ⟨a0, a1, a2, a3, a4, a5, a6, a7, a8, a9⟩ := hagree c
      unfold DownRefIdeal.G10
      rw [a0, a1, a3, a5, a6, a7, a8, a9]
      rfl
    · obtain ⟨a0, a1, a2, a3, a4, a5, a6, a7, a8, a9⟩ := hagree c
      unfold DownRefIdeal.G11
      rw [a0, a1, a3, a5, a7, a9]
      rfl
    · obtain ⟨a0, a1, a2, a3, a4, a5, a6, a7, a8, a9⟩ := hagree c
      unfold DownRefIdeal.G12
      rw [a0, a2, a3, a4]
      rfl
    · obtain ⟨a0, a1, a2, a3, a4, a5, a6, a7, a8, a9⟩ := hagree c
      unfold DownRefIdeal.sclOf DownRefIdeal.G10
      rw [a0, a1, a3, a5, a6, a7, a8, a9]
      rfl
    · obtain ⟨a0, a1, a2, a3, a4, a5, a6, a7, a8, a9⟩ := hagree c
      unfold DownRefIdeal.sclOf DownRefIdeal.G11
      rw [a0, a1, a3, a5, a7, a9]
      rfl

end Cert.DownEq

end
-- ==== Proof.QuantFin.lean ====
/- The result array of `QuantIdeal`. -/
module

public import proofs.«01_k».proof.Proof.WgradMath
public import proofs.«01_k».proof.Proof.Gen.QuantIdeal.Value
public import Idealize.ShloMosaic.Lib.Pipeline.ValueKit.Geometry

@[expose] public section

set_option maxRecDepth 16384

noncomputable section

namespace Cert.QuantIdeal

open Idealize.ShloMosaic Idealize.ShloMosaic.TcCoe Idealize.SL.Sem Cert.QuantIdeal.Gen Cert.WgradMath
open Idealize.ShloMosaic.Pipeline (Dat)

theorem hz : (![0, 0] : Fin 2 → Nat) = fun _ => 0 := funext fun a => by fin_cases a <;> rfl

/-- The load of the one element of a one-element vector. -/
def sc (x : Vec Ideal S1 .f32) : EReal := View.ld x (Rect.unit (s := S1) ![0] S1.size inb_S1_S1_0) (Shape.Idx.first (by decide))

theorem sc_eq (x : Vec Ideal S1 .f32) : sc x = x (ix1 0) := by
  unfold sc
  pointwise

theorem pay1_apply (v : Vec Ideal S512x2048 .bf16) (s : EReal) (r : Fin 512) (k : Fin 2048) :
    k0_pay1 (F := Ideal) v s (ix2 r k) = code (v (ix2 r k)) s := by
  unfold code
  pointwise [k0_pay1]

theorem out_2 (c : Dev nD) (i : grid0.Coords) (a0 : Memref sig .tc .smem S1 .f32) (h0 : a0.IsWhole)
    (a1 : Memref sig .tc .vmem S512x2048 .bf16) (h1 : a1.IsWhole) (a2 : Memref sig .tc .vmem S512x2048 .fp8e5m2) (h2 : a2.IsWhole)
    (x0 : Vec Ideal S1 .f32) (x1 : Vec Ideal S512x2048 .bf16) :
    out0_A_2 (F := Ideal) c i a0 h0 a1 h1 a2 h2 x0 x1 = k0_pay1 (F := Ideal) x1 (sc x0) := by
  unfold out0_A_2
  rw [View.read_writes_eq_canon _ _ _ (cover0_A_2 c i a0 h0 a1 h1 a2 h2 x0 x1)]
  unfold kernelRun0_A
  dsimp only
  sl_unfold_words
  rw [View.canon_unit_zero hz]
  simp only [View.readAt_eq_ld, h0.read_unread, h1.read_unread, View.ld_unit_zero (S := S512x2048) hz]
  rfl

/-- The array row of a block's row. -/
def row (t : Fin cfg0.N) (r : Fin 512) : Fin 8192 :=
  ⟨t.val * 512 + r.val, by have h : t.val < 16 := lt_of_lt_of_eq t.isLt N_0; have := r.isLt; omega⟩

variable (m : (ℓ : Loc nD τ sig) → Buf (Elt Ideal) ℓ) (c : Dev nD)

theorem idx_0 : ∀ t : Fin cfg0.N, win0_0.index t = ![0] := (by decide +kernel : ∀ t : Fin grid0.N, _)

theorem iblk_0 (t : Fin cfg0.N) : (iblk m c 0 t : Vec Ideal S1 .f32) = m ((c : Thread nD τ).loc main_arg1) := by
  funext i
  blk_simp [iblk, idx_0]
  rw [V_main_arg1]
  congr 1
  blk_ext [idx_0]

theorem idx_1 : ∀ t : Fin cfg0.N, win0_1.index t = ![t.val, 0] := (by decide +kernel : ∀ t : Fin grid0.N, _)

theorem iblk_1 (t : Fin cfg0.N) (r : Fin 512) (k : Fin 2048) :
    (iblk m c 1 t : Vec Ideal S512x2048 .bf16) (ix2 r k) = m ((c : Thread nD τ).loc main_arg0) (ix2 (row t r) k) := by
  unfold row
  blk_simp [iblk, idx_1]
  rw [V_main_arg0]
  congr 1
  blk_ext [idx_1]

/-- The codes. -/
def G2 : Vec Ideal S8192x2048 .fp8e5m2 := fun i =>
  code (m ((c : Thread nD τ).loc main_arg0) (ix2 (i 0) (i 1))) (m ((c : Thread nD τ).loc main_arg1) (ix1 0))

/-- The codes of the block of point `t`. -/
def oB (t : Fin cfg0.N) : FVec Ideal S512x2048 .fp8e5m2 := k0_pay1 (F := Ideal) (iblk m c 1 t) (sc (iblk m c 0 t))

theorem oB_apply (t : Fin cfg0.N) (r : Fin 512) (k : Fin 2048) : oB m c t (ix2 r k) = G2 m c (ix2 (row t r) k) := by
  unfold oB
  rw [pay1_apply]
  simp only [sc_eq, iblk_0, iblk_1]
  rfl

theorem outs_2 (t : Fin cfg0.N) : outsAt0 m c t = oB m c t := by
  unfold outsAt0
  exact out_2 ..

theorem idx_2 : ∀ t : Fin cfg0.N, win0_2.index t = ![t.val, 0] := (by decide +kernel : ∀ t : Fin grid0.N, _)

theorem emb_2 (t : Fin cfg0.N) (r : Fin 512) (k : Fin 2048) :
    ((win0_2.blk t).view.emb (ix2 r k) : S8192x2048.Idx) = ix2 (row t r) k := by
  unfold row
  blk_ext [idx_2]

theorem covers_2 : win0_2.Covers := by decide +kernel

theorem final_2 : (dats m 0 c).arrAt 2 cfg0.N = G2 m c := by
  refine (dats m 0 c).arrAt_eq_of_covers 2 (G2 m c) covers_2 fun t hf y => ?_
  rw [after0_2, outs_2]
  have hy : y = (ix2 (n0 := 512) (n1 := 2048) (y 0) (y 1) : S512x2048.Idx) := eq_ix2 (n0 := 512) (n1 := 2048) y
  generalize (y 0 : Fin 512) = r, (y 1 : Fin 2048) = k at hy
  subst hy
  have e := congrArg (G2 m c) (emb_2 t r k)
  exact (oB_apply m c t r k).trans e.symm

theorem run (ρ : Dev nD → PrngReg) : θ_run defs (onTc (τ := τ) (main (F := Ideal))) ⟨m, fun _ => 0, ρ⟩ (fun r => ∀ c : Dev nD,
    r.2.mem ((c.tc : Thread nD τ).loc main_v0) = G2 m c) :=
  (θ_run defs _ _).mono (fun _ h c => (h c).1.trans (final_2 m c)) (Cert.QuantIdeal.Value.run_blocks m ρ)

end Cert.QuantIdeal
-- ==== Proof.QuantRefVal.lean ====
/- What the reference `QuantRefIdeal` leaves in its result array, as a function of its arguments. -/
module

public import proofs.«01_k».proof.Proof.WgradMath
public import proofs.«01_k».proof.Proof.Gen.QuantRefIdeal.Value
public import Idealize.ShloMosaic.Lib.Pipeline.ValueKit.Geometry

@[expose] public section

set_option maxRecDepth 16384

noncomputable section

namespace Cert.QuantRefIdeal

open Idealize.ShloMosaic Idealize.ShloMosaic.TcCoe Idealize.SL.Sem Cert.QuantRefIdeal.Gen Cert.WgradMath
open Idealize.ShloMosaic.Pipeline (Dat)

theorem hz : (![0, 0] : Fin 2 → Nat) = fun _ => 0 := funext fun a => by fin_cases a <;> rfl

/-- The load of the one element of a one-element vector. -/
def sc (x : Vec Ideal S1 .f32) : EReal := View.ld x (Rect.unit (s := S1) ![0] S1.size inb_S1_S1_0) (Shape.Idx.first (by decide))

theorem sc_eq (x : Vec Ideal S1 .f32) : sc x = x (ix1 0) := by
  unfold sc
  pointwise

theorem pay1_apply (v : Vec Ideal S8192x2048 .bf16) (s : EReal) (r : Fin 8192) (k : Fin 2048) :
    k0_pay1 (F := Ideal) v s (ix2 r k) = code (v (ix2 r k)) s := by
  unfold code
  pointwise [k0_pay1]

theorem out_2 (c : Dev nD) (a0 : Memref sig .tc .vmem S8192x2048 .bf16) (h0 : a0.IsWhole) (a1 : Memref sig .tc .smem S1 .f32) (h1 : a1.IsWhole)
    (a2 : Memref sig .tc .vmem S8192x2048 .fp8e5m2) (h2 : a2.IsWhole) (x0 : Vec Ideal S8192x2048 .bf16) (x1 : Vec Ideal S1 .f32) :
    out0_A_2 (F := Ideal) c a0 h0 a1 h1 a2 h2 x0 x1 = k0_pay1 (F := Ideal) x0 (sc x1) := by
  unfold out0_A_2
  rw [View.read_writes_eq_canon _ _ _ (cover0_A_2 c a0 h0 a1 h1 a2 h2 x0 x1)]
  unfold kernelRun0_A
  dsimp only
  sl_unfold_words
  rw [View.canon_unit_zero hz]
  simp only [View.readAt_eq_ld, h0.read_unread, h1.read_unread, View.ld_unit_zero (S := S8192x2048) hz]
  rfl

variable (m : (ℓ : Loc nD τ sig) → Buf (Elt Ideal) ℓ) (c : Dev nD)

theorem idx_0 : ∀ t : Fin cfg0.N, win0_0.index t = ![0, 0] := (by decide +kernel : ∀ t : Fin grid0.N, _)

theorem iblk_0 (t : Fin cfg0.N) : (iblk m c 0 t : Vec Ideal S8192x2048 .bf16) = m ((c : Thread nD τ).loc main_arg0) := by
  funext i
  blk_simp [iblk, idx_0]
  rw [V_main_arg0]
  congr 1
  blk_ext [idx_0]

theorem idx_1 : ∀ t : Fin cfg0.N, win0_1.index t = ![0] := (by decide +kernel : ∀ t : Fin grid0.N, _)

theorem iblk_1 (t : Fin cfg0.N) : (iblk m c 1 t : Vec Ideal S1 .f32) = m ((c : Thread nD τ).loc main_arg1) := by
  funext i
  blk_simp [iblk, idx_1]
  rw [V_main_arg1]
  congr 1
  blk_ext [idx_1]

/-- The codes. -/
def G2 : Vec Ideal S8192x2048 .fp8e5m2 := fun i =>
  code (m ((c : Thread nD τ).loc main_arg0) (ix2 (i 0) (i 1))) (m ((c : Thread nD τ).loc main_arg1) (ix1 0))

theorem outs_2 (t : Fin cfg0.N) : outsAt0 m c t = G2 m c := by
  unfold outsAt0
  rw [out_2]
  funext i
  obtain ⟨r, k, rfl⟩ : ∃ (r : Fin 8192) (k : Fin 2048), i = ix2 r k := ⟨i 0, i 1, eq_ix2 i⟩
  rw [pay1_apply]
  simp only [sc_eq, iblk_0, iblk_1]
  rfl

/-- The one point of the grid. -/
def pt : Fin cfg0.N := ⟨0, by decide⟩

theorem whole_2 : ∀ t : Fin cfg0.N, win0_2.WholeAt t := (by decide +kernel : ∀ t : Fin grid0.N, win0_2.WholeAt t)

theorem final_2 : (dats m 0 c).arrAt 2 cfg0.N = G2 m c := by
  funext i
  refine ((dats m 0 c).arrAt_emb_eq_after_last 2 pt (whole_2 _) i).trans ?_
  rw [after0_2, outs_2]
  rfl

theorem run (ρ : Dev nD → PrngReg) : θ_run defs (onTc (τ := τ) (main (F := Ideal))) ⟨m, fun _ => 0, ρ⟩ (fun r => ∀ c : Dev nD,
    r.2.mem ((c.tc : Thread nD τ).loc main_v0) = G2 m c) :=
  (θ_run defs _ _).mono (fun _ h c => (h c).1.trans (final_2 m c)) (Cert.QuantRefIdeal.Value.run_blocks m ρ)

end Cert.QuantRefIdeal
-- ==== Proof.QuantEq.lean ====
/- `quant_dy` and its reference compute the same codes. -/
module

public import proofs.«01_k».proof.Defs
public import proofs.«01_k».proof.Proof.QuantFin
public import proofs.«01_k».proof.Proof.QuantRefVal

@[expose] public section

set_option maxRecDepth 16384

noncomputable section

namespace Cert.QuantEq

open Idealize.ShloMosaic Idealize.ShloMosaic.TcCoe Idealize.SL.Sem

theorem algebraic : Cert.algebraic_QuantIdeal_QuantRefIdeal (hQuantIdeal := Cert.QuantIdeal.Gen.facts) (hQuantRefIdeal := Cert.QuantRefIdeal.Gen.facts) := by
  pair_intro
  · run_from Cert.QuantIdeal.run m g & Cert.QuantIdeal.Gen.unchanged m g
  · run_from Cert.QuantRefIdeal.run m' g' & Cert.QuantRefIdeal.Gen.unchanged m' g'
    obtain ⟨a0, a1⟩ := hagree c
    unfold QuantRefIdeal.G2
    rw [a0, a1]
    rfl

end Cert.QuantEq

end
-- ==== Proof.ScaleKer.lean ====
/- The payloads of the kernel `ScaleIdeal`, told by their upper bounds, and what each case of its body leaves. -/
module

public import proofs.«01_k».proof.Proof.Gen.ScaleIdeal.Frame
public import proofs.«01_k».proof.Proof.ScaleMath
public import Idealize.ShloMosaic.Lib.Pipeline.ValueKit.Geometry

@[expose] public section

set_option maxRecDepth 16384

noncomputable section

namespace Cert.ScaleIdeal

open Idealize.ShloMosaic Idealize.ShloMosaic.TcCoe Idealize.SL.Sem Cert.ScaleIdeal.Gen Cert.ScaleMath

theorem hz : (![0, 0] : Fin 2 → Nat) = fun _ => 0 := funext fun a => by fin_cases a <;> rfl
theorem hz1 : (![0] : Fin 1 → Nat) = fun _ => 0 := funext fun a => by fin_cases a; rfl

theorem pay1_apply (s : Fin 8) (k : Fin 2048) : k0_pay1 (F := Ideal) (ix2 s k) = 0 := by
  pointwise [k0_pay1]

theorem pay2_apply (v : Vec Ideal S512x2048 .bf16) (old : Vec Ideal S8x2048 .f32) (s : Fin 8) (k : Fin 2048) :
    k0_pay2 (F := Ideal) v old (ix2 s k)
      = max (old (ix2 s k)) ((Finset.univ : Finset (Fin 64)).fold max (Ideal.ofBits .f32 0xFF800000#32) fun j =>
          max (v (ix2 ⟨j.val * 8 + s.val, by have := j.isLt; have := s.isLt; omega⟩ k))
            (-v (ix2 ⟨j.val * 8 + s.val, by have := j.isLt; have := s.isLt; omega⟩ k))) := by
  pointwise [k0_pay2]
  rfl

/-- One more block's maximum is at most `c` when the old one and the block's absolute values in these rows are. -/
theorem pay2_le (v : Vec Ideal S512x2048 .bf16) (old : Vec Ideal S8x2048 .f32) (s : Fin 8) (k : Fin 2048) (c : EReal) :
    k0_pay2 (F := Ideal) v old (ix2 s k) ≤ c
      ↔ old (ix2 s k) ≤ c ∧ ∀ r : Fin 512, r.val % 8 = s.val → max (v (ix2 r k)) (-v (ix2 r k)) ≤ c := by
  rw [pay2_apply, max_le_iff, Finset.fold_max_le]
  refine and_congr_right fun _ => ⟨fun h r hr => ?_, fun h => ⟨word_le c, fun j _ => h _ (by have := s.isLt; show (j.val * 8 + s.val) % 8 = s.val; omega)⟩⟩
  have h2 := h.2 ⟨r.val / 8, by have := r.isLt; omega⟩ (Finset.mem_univ _)
  have e : (⟨r.val / 8 * 8 + s.val, by have := r.isLt; have := s.isLt; omega⟩ : Fin 512) = r := Fin.ext (by show r.val / 8 * 8 + s.val = r.val; omega)
  dsimp only at h2
  rwa [e] at h2

/-- The last maximum is at most `c` when every running maximum is. -/
theorem pay3_le (v : Vec Ideal S8x2048 .f32) (c : EReal) :
    k0_pay3 (F := Ideal) v ≤ c ↔ ∀ (s : Fin 8) (k : Fin 2048), v (ix2 s k) ≤ c := by
  have e : k0_pay3 (F := Ideal) v = (multiReduction .maximumf [1, 2] S1 (shapeCast S1x8x2048 v shapeCasts_S8x2048_S1x8x2048) 0xFF800000#32 reduces_S1x8x2048_S1 (.inl rfl) rfl : FVec Ideal S1 .f32) (ix1 0) := by
    pointwise [k0_pay3]
  have e2 : k0_pay3 (F := Ideal) v = (Finset.univ.filter fun i => reduces_S1x8x2048_S1.drop i = ix1 0).fold max (Ideal.ofBits .f32 0xFF800000#32)
      (shapeCast S1x8x2048 v shapeCasts_S8x2048_S1x8x2048) :=
    e.trans (multiReduction_maximumf_eq_fold (F := Ideal) _ _ reduces_S1x8x2048_S1 (.inl rfl) rfl (ix1 0))
  rw [e2, Finset.fold_max_le]
  have e3 : ∀ (s : Fin 8) (k : Fin 2048), (shapeCast S1x8x2048 v shapeCasts_S8x2048_S1x8x2048) (ix3 0 s k) = v (ix2 s k) := by
    intro s k
    pointwise
  constructor
  · rintro ⟨_, h⟩ s k
    rw [← e3]
    exact h _ (Finset.mem_filter.2 ⟨Finset.mem_univ _, (eq_ix1 _).trans (congrArg ix1 (Subsingleton.elim (α := Fin 1) _ _))⟩)
  · intro h
    refine ⟨word_le c, fun i _ => ?_⟩
    obtain ⟨a, s, k, rfl⟩ : ∃ (a : Fin 1) (s : Fin 8) (k : Fin 2048), i = ix3 a s k := ⟨i 0, i 1, i 2, eq_ix3 i⟩
    rw [Subsingleton.elim a 0, e3]
    exact h s k

section Cases
variable (c : Dev nD) (i : grid0.Coords) (a0 : Memref sig .tc .vmem S512x2048 .bf16) (h0 : a0.IsWhole) (a1 : Memref sig .tc .smem S1 .f32) (h1 : a1.IsWhole)
  (a2 : Memref sig .tc .vmem S8x2048 .f32) (h2 : a2.IsWhole) (x0 : Vec Ideal S512x2048 .bf16) (xs : Vec Ideal S8x2048 .f32)

theorem sout_A (hc0 : cond0_0 i) (hc1 : ¬cond0_1 i) :
    sout0_A_0 (F := Ideal) c i a0 h0 a1 h1 a2 h2 hc0 hc1 x0 = k0_pay2 (F := Ideal) x0 (k0_pay1 (F := Ideal)) := by
  unfold sout0_A_0
  rw [View.read_writes_eq_canon _ _ _ (scover0_A_0 c i a0 h0 a1 h1 a2 h2 hc0 hc1 x0)]
  unfold kernelRun0_A
  dsimp only
  sl_unfold_words
  rw [View.canon_cons_unit_zero (S := S8x2048) hz, View.readCov_unit_zero (S := S8x2048) _ hz]
  simp only [View.readAt_eq_ld, h0.read_unread, h2.read_unread, View.ld_unit_zero (S := S512x2048) hz, View.ld_unit_zero (S := S8x2048) hz]

theorem sout_B (hc0 : ¬cond0_0 i) (hc1 : ¬cond0_1 i) :
    sout0_B_0 (F := Ideal) c i a0 h0 a1 h1 a2 h2 hc0 hc1 x0 xs = k0_pay2 (F := Ideal) x0 xs := by
  unfold sout0_B_0
  rw [View.read_writes_eq_canon _ _ _ (scover0_B_0 c i a0 h0 a1 h1 a2 h2 hc0 hc1 x0 xs)]
  unfold kernelRun0_B
  dsimp only
  sl_unfold_words
  rw [View.canon_unit_zero hz]
  simp only [View.readAt_eq_ld, h0.read_unread, h2.read_unread, View.ld_unit_zero (S := S512x2048) hz, View.ld_unit_zero (S := S8x2048) hz]

theorem out_C (hc0 : ¬cond0_0 i) (hc1 : cond0_1 i) :
    out0_C_1 (F := Ideal) c i a0 h0 a1 h1 a2 h2 hc0 hc1 x0 xs = fun _ => k0_pay3 (F := Ideal) (k0_pay2 (F := Ideal) x0 xs) := by
  unfold out0_C_1
  rw [View.read_writes_eq_canon _ _ _ (cover0_C_1 c i a0 h0 a1 h1 a2 h2 hc0 hc1 x0 xs)]
  unfold kernelRun0_C
  dsimp only
  sl_unfold_words
  rw [View.canon_unit_zero hz1]
  simp only [View.readCov_unit_zero (S := S8x2048) _ hz, View.readAt_eq_ld, h0.read_unread, h2.read_unread, View.ld_unit_zero (S := S512x2048) hz, View.ld_unit_zero (S := S8x2048) hz]
  rfl

end Cases

end Cert.ScaleIdeal
-- ==== Proof.ScaleFin.lean ====
/- The result of `ScaleIdeal`: the running maxima over the points of the grid, the maximum, and the host's scale from it. -/
module

public import proofs.«01_k».proof.Proof.ScaleKer

@[expose] public section

set_option maxRecDepth 16384

noncomputable section

namespace Cert.ScaleIdeal

open Idealize.ShloMosaic Idealize.ShloMosaic.TcCoe Idealize.SL.Sem Cert.ScaleIdeal.Gen Cert.ScaleMath
open Idealize.ShloMosaic.Pipeline (Dat)

/-- The array row of a block's row. -/
def row (t : Fin cfg0.N) (r : Fin 512) : Fin 8192 :=
  ⟨t.val * 512 + r.val, by have h : t.val < 16 := lt_of_lt_of_eq t.isLt N_0; have := r.isLt; omega⟩

variable (m : (ℓ : Loc nD τ sig) → Buf (Elt Ideal) ℓ) (c : Dev nD)

/-- The argument. -/
def dy (r : Fin 8192) (k : Fin 2048) : EReal := m ((c : Thread nD τ).loc main_arg0) (ix2 r k)

theorem idx_0 : ∀ t : Fin cfg0.N, win0_0.index t = ![t.val, 0] := (by decide +kernel : ∀ t : Fin grid0.N, _)

theorem iblk_0 (t : Fin cfg0.N) (r : Fin 512) (k : Fin 2048) :
    (iblk m c 0 t : Vec Ideal S512x2048 .bf16) (ix2 r k) = dy m c (row t r) k := by
  unfold row dy
  blk_simp [iblk, idx_0]
  congr 1
  blk_ext [idx_0]

/-- One more block: the rows of point `t` on top of those before it. -/
theorem block_le (t : Fin cfg0.N) (old : Vec Ideal S8x2048 .f32) (s : Fin 8) (k : Fin 2048) (b : EReal)
    (hold : old (ix2 s k) ≤ b ↔ 0 ≤ b ∧ ∀ r : Fin 8192, r.val % 8 = s.val → r.val < 512 * t.val → max (dy m c r k) (-dy m c r k) ≤ b) :
    k0_pay2 (F := Ideal) (iblk m c 0 t) old (ix2 s k) ≤ b
      ↔ 0 ≤ b ∧ ∀ r : Fin 8192, r.val % 8 = s.val → r.val < 512 * (t.val + 1) → max (dy m c r k) (-dy m c r k) ≤ b := by
  rw [pay2_le, hold, and_assoc]
  refine and_congr_right fun _ => ⟨fun ⟨h1, h2⟩ r hr hlt => ?_, fun h => ⟨fun r hr hlt => h r hr (by omega), fun r hr => ?_⟩⟩
  · by_cases hl : r.val < 512 * t.val
    · exact h1 r hr hl
    · have e : row t ⟨r.val - 512 * t.val, by omega⟩ = r := Fin.ext (by show t.val * 512 + (r.val - 512 * t.val) = r.val; omega)
      have h3 := h2 ⟨r.val - 512 * t.val, by omega⟩ (by show (r.val - 512 * t.val) % 8 = s.val; omega)
      rwa [iblk_0, e] at h3
  · rw [iblk_0]
    have := r.isLt
    exact h (row t r) (by show (t.val * 512 + r.val) % 8 = s.val; omega) (by show t.val * 512 + r.val < 512 * (t.val + 1); omega)

theorem first_le (s : Fin 8) (k : Fin 2048) (b : EReal) :
    k0_pay1 (F := Ideal) (ix2 s k) ≤ b ↔ 0 ≤ b ∧ ∀ r : Fin 8192, r.val % 8 = s.val → r.val < 512 * 0 → max (dy m c r k) (-dy m c r k) ≤ b := by
  rw [pay1_apply]
  exact ⟨fun h => ⟨h, fun r _ hr => absurd hr (by omega)⟩, fun h => h.1⟩

/-- The running maxima after point `n`. -/
theorem scratch_le (s : Fin 8) (k : Fin 2048) (b : EReal) : ∀ (n : ℕ) (hn : n < cfg0.N), n < 15 →
    ((outsAt0 m c n hn).2 (ix2 s k) ≤ b
      ↔ 0 ≤ b ∧ ∀ r : Fin 8192, r.val % 8 = s.val → r.val < 512 * (n + 1) → max (dy m c r k) (-dy m c r k) ≤ b) := by
  intro n
  induction n with
  | zero =>
    intro hn _
    rw [outsAt0_A m c ⟨0, hn⟩ rfl (by show ¬ (0 % 16 = 15); decide)]
    dsimp only
    rw [sout_A]
    exact block_le m c ⟨0, hn⟩ _ s k b (first_le m c s k b)
  | succ n ih =>
    intro hn h15
    rw [outsAt0_B m c ⟨n + 1, hn⟩ (by show ¬ (n + 1) % 16 = 0; omega) (by show ¬ (n + 1) % 16 = 15; omega)]
    dsimp only
    rw [sout_B]
    exact block_le m c ⟨n + 1, hn⟩ _ s k b (ih _ (by omega))

/-- The last point. -/
def last : Fin cfg0.N := ⟨15, lt_of_lt_of_eq (by decide) N_0.symm⟩

theorem outs_1 : (outsAt0 m c last.val last.isLt).1 = fun _ => amax (dy m c) := by
  rw [outsAt0_C m c last (by decide) rfl]
  dsimp only
  rw [out_C]
  funext _
  refine eq_amax_of_zero _ _ fun b => ?_
  rw [pay3_le]
  have h := fun (s : Fin 8) (k : Fin 2048) => block_le m c last _ s k b (scratch_le m c s k b 14 (lt_of_lt_of_eq (by decide) N_0.symm) (by decide))
  refine (forall_congr' fun s => forall_congr' fun k => h s k).trans ?_
  constructor
  · intro h
    exact ⟨(h 0 0).1, fun r k => (h ⟨r.val % 8, Nat.mod_lt _ (by decide)⟩ k).2 r rfl (by have := r.isLt; show r.val < 512 * (15 + 1); omega)⟩
  · intro h s k
    exact ⟨h.1, fun r _ _ => h.2 r k⟩

theorem whole_1 : ∀ t : Fin cfg0.N, t.val = 15 → win0_1.WholeAt t := (by decide +kernel : ∀ t : Fin grid0.N, t.val = 15 → win0_1.WholeAt t)

theorem final_1 : ((dats m 0 c).arrAt 1 cfg0.N : Vec Ideal S1 .f32) = fun _ => amax (dy m c) := by
  funext i
  refine ((dats m 0 c).arrAt_emb_eq_after_last 1 last (whole_1 _ rfl) i).trans ?_
  rw [after0_1, outs_1]
  rfl

/-- The host's scale from a maximum. -/
def scale (a : Vec Ideal S1 .f32) : Vec Ideal S1 .f32 :=
  select (cmpf .oeq a (broadcastInDim S1 ![] bcast_S_S1 (constant (F := Ideal) S_ .f32 0x00000000#32)))
    (broadcastInDim S1 ![] bcast_S_S1 (id (constant (F := Ideal) S_ .f32 0x3F800000#32)))
    (Host.divf a (broadcastInDim S1 ![] bcast_S_S1 (constant (F := Ideal) S_ .f32 0x47600000#32)))

theorem final_v5 : Pipeline.afterTail₀ cfgs (dats m) 0 (V0 m) [hostOps1, hostOps1_1] c main_v5 = scale fun _ => amax (dy m c) := by
  unfold Pipeline.afterTail₀
  dsimp only [List.flatten, List.append]
  simp only [StableHlo.TRef.ternary, StableHlo.TRef.unary, StableHlo.TRef.toBuf, StableHlo.TRef.ofBuf, cast_eq]
  after_results
  have e : Pipeline.withArrays (cfgs 0).spec c (V0 m c) (fun w => (dats m 0 c).arrAt w (cfgs 0).N) (Proc.tc.devRef main_v0)
      = (dats m 0 c).arrAt 1 cfg0.N :=
    Pipeline.withArrays_arr spec0 (by decide) c (V0 m c) (fun w => (dats m 0 c).arrAt w (cfgs 0).N) 1
  rw [e, final_1]
  rfl

theorem run (ρ : Dev nD → PrngReg) : θ_run defs (onTc (τ := τ) (main (F := Ideal))) ⟨m, fun _ => 0, ρ⟩ (fun r => ∀ c : Dev nD,
    r.2.mem ((c.tc : Thread nD τ).loc main_v5) = scale fun _ => amax (dy m c)) := by
  run_from run_main m ρ
  exact final_v5 m c

end Cert.ScaleIdeal
-- ==== Proof.ScaleRefVal.lean ====
/- What the reference `ScaleRefIdeal` leaves in its result array, as a function of its argument, and its frame. -/
module

public import proofs.«01_k».proof.Proof.ScaleMath
public import proofs.«01_k».proof.Proof.Gen.ScaleRefIdeal.Run

@[expose] public section

set_option maxRecDepth 16384

noncomputable section

namespace Cert.ScaleRefIdeal

open Idealize.ShloMosaic Idealize.ShloMosaic.TcCoe Idealize.SL.Sem Cert.ScaleRefIdeal.Gen Cert.ScaleMath

/-- The host's maximum of the absolute values of an array. -/
theorem hostMax (x : FVec Ideal S8192x2048 .bf16) :
    (shapeCast S1 (Host.reduce FloatOps.maximumf (Host.absf (extf .f32 x bitsLt_bf16_f32)) (constant (F := Ideal) S_ .f32 0xFF800000#32)
      reducesTo_S8192x2048_S_d0_1 h_S_) shapeCasts_S_S1 : FVec Ideal S1 .f32) = fun _ => amax fun r k => x (ix2 r k) := by
  funext i
  refine eq_amax _ _ fun b => ?_
  have e : ∀ j : S_.Idx, Host.reduce FloatOps.maximumf (Host.absf (extf .f32 x bitsLt_bf16_f32)) (constant (F := Ideal) S_ .f32 0xFF800000#32)
      reducesTo_S8192x2048_S_d0_1 h_S_ j = (Finset.univ.filter fun i => reducesTo_S8192x2048_S_d0_1.drop i = j).fold max
        (Ideal.ofBits .f32 0xFF800000#32) (fun i => max (x i) (-x i)) := fun j =>
    Host.reduce_eq_fold (FloatOps.maximumf (F := Ideal) (φ := .f32)) _ _ _ _ j
  refine Eq.to_iff (congrArg (· ≤ b) (e _)) |>.trans ?_
  rw [Finset.fold_max_le]
  constructor
  · rintro ⟨_, h⟩ r k
    exact h _ (Finset.mem_filter.2 ⟨Finset.mem_univ _, funext fun a => a.elim0⟩)
  · intro h
    refine ⟨word_le b, fun i _ => ?_⟩
    obtain ⟨r, k, rfl⟩ : ∃ (r : Fin 8192) (k : Fin 2048), i = ix2 r k := ⟨i 0, i 1, eq_ix2 i⟩
    exact h r k

variable (m : (ℓ : Loc nD τ sig) → Buf (Elt Ideal) ℓ)

/-- The argument. -/
def dy (c : Dev nD) (r : Fin 8192) (k : Fin 2048) : EReal := m ((c : Thread nD τ).loc main_arg0) (ix2 r k)

/-- The scale from a maximum. -/
def scale (a : Vec Ideal S1 .f32) : Vec Ideal S1 .f32 :=
  select (cmpf .oeq a (broadcastInDim S1 ![] bcast_S_S1 (constant (F := Ideal) S_ .f32 0x00000000#32)))
    (broadcastInDim S1 ![] bcast_S_S1 (id (constant (F := Ideal) S_ .f32 0x3F800000#32)))
    (Host.divf a (broadcastInDim S1 ![] bcast_S_S1 (constant (F := Ideal) S_ .f32 0x47600000#32)))

theorem run (ρ : Dev nD → PrngReg) : θ_run defs (onTc (τ := τ) (main (F := Ideal))) ⟨m, fun _ => 0, ρ⟩ (fun r => ∀ c : Dev nD,
    r.2.mem ((c.tc : Thread nD τ).loc main_v8) = scale fun _ => amax (dy m c)) :=
  (θ_run defs _ _).mono (fun _ h c => (h c).1.trans (congrArg scale (hostMax (m ((c : Thread nD τ).loc main_arg0)))))
    (Cert.ScaleRefIdeal.Value.run m ρ)

theorem unchanged (ρ : Dev nD → PrngReg) : θ_run defs (onTc (τ := τ) (main (F := Ideal))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (Cert.ScaleRefIdeal.Value.run m ρ)

theorem frame (ρ : Dev nD → PrngReg) : θ_run defs (onTc (τ := τ) (main (F := Ideal))) ⟨m, fun _ => 0, ρ⟩ (fun r => (∀ c : Dev nD,
    r.2.mem ((c.tc : Thread nD τ).loc main_arg0) = m ((c.tc : Thread nD τ).loc main_arg0)) ∧ r.2.sem = fun _ => 0) :=
  (θ_run defs _ _).mono (fun r h => ⟨h, sem_eq_zero_of_no_sems rfl r.2⟩) (unchanged m ρ)

end Cert.ScaleRefIdeal
-- ==== Proof.ScaleEq.lean ====
/- `amax_dy` with the host's scale and its reference compute the same scale. -/
module

public import proofs.«01_k».proof.Defs
public import proofs.«01_k».proof.Proof.Gen.ScaleIdeal
public import proofs.«01_k».proof.Proof.ScaleFin
public import proofs.«01_k».proof.Proof.ScaleRefVal

@[expose] public section

set_option maxRecDepth 16384

noncomputable section

namespace Cert.ScaleEq

open Idealize.ShloMosaic Idealize.ShloMosaic.TcCoe Idealize.SL.Sem

theorem algebraic : Cert.algebraic_ScaleIdeal_ScaleRefIdeal (hScaleIdeal := Cert.ScaleIdeal.Gen.facts) (hScaleRefIdeal := Cert.ScaleRefIdeal.Gen.facts) := by
  pair_intro
  · run_from Cert.ScaleIdeal.run m g & Cert.ScaleIdeal.Gen.unchanged m g
  · run_from Cert.ScaleRefIdeal.run m' g' & Cert.ScaleRefIdeal.unchanged m' g'
    have a0 := hagree c
    unfold ScaleRefIdeal.dy
    rw [a0]
    rfl

end Cert.ScaleEq

end
-- ==== Proof.lean ====
/- The claims, each from its proof. `norm_bwd`: the frames are generated, the values are read in NormFin and NormRefVal.
   `wgrad`: the kernel's frame is WgradFrame's, the ideal program's frame and values WgradFin's, the reference's values
   WgradRefVal's. `down`: the kernel's frame is DownFrame's, the ideal program's frame and values DownFin's, the reference's
   values DownRefVal's. `quant_dy` and `amax_dy` with the host's scale: the kernels' frames are generated, the values are read in
   QuantFin and ScaleFin, the references' in QuantRefVal and ScaleRefVal. -/
module

public import proofs.«01_k».proof.Defs
public import proofs.«01_k».proof.Proof.Gen.Norm.Frame
public import proofs.«01_k».proof.Proof.Gen.NormIdeal.Frame
public import proofs.«01_k».proof.Proof.Gen.NormRefIdeal.Value
public import proofs.«01_k».proof.Proof.Gen.Wgrad.Frame
public import proofs.«01_k».proof.Proof.Gen.Wgrad.Skeleton
public import proofs.«01_k».proof.Proof.Gen.WgradIdeal.Frame
public import proofs.«01_k».proof.Proof.Gen.WgradIdeal.Skeleton
public import proofs.«01_k».proof.Proof.Gen.WgradRefIdeal.Value
public import proofs.«01_k».proof.Proof.NormEq
public import proofs.«01_k».proof.Proof.WgradFrame
public import proofs.«01_k».proof.Proof.WgradEq
public import proofs.«01_k».proof.Proof.DownFrame
public import proofs.«01_k».proof.Proof.DownEq
public import proofs.«01_k».proof.Proof.Gen.Quant.Frame
public import proofs.«01_k».proof.Proof.Gen.QuantIdeal.Frame
public import proofs.«01_k».proof.Proof.Gen.QuantRefIdeal.Value
public import proofs.«01_k».proof.Proof.Gen.Scale.Frame
public import proofs.«01_k».proof.Proof.Gen.ScaleIdeal.Frame
public import proofs.«01_k».proof.Proof.Gen.ScaleRefIdeal.Run
public import proofs.«01_k».proof.Proof.QuantEq
public import proofs.«01_k».proof.Proof.ScaleEq
public import Idealize.ShloMosaic.Adequacy
public import Idealize.ShloMosaic.Init

@[expose] public section

noncomputable section

namespace Cert.Proof

open Idealize.ShloMosaic Idealize.SL.Sem

theorem claim : Cert.Claim := ⟨Cert.Norm.Gen.facts, Cert.NormIdeal.Gen.facts, Cert.NormRefIdeal.Gen.facts,
  Cert.Wgrad.Gen.facts, Cert.WgradIdeal.Gen.facts, Cert.WgradRefIdeal.Gen.facts,
  Cert.Down.Gen.facts, Cert.DownIdeal.Gen.facts, Cert.DownRefIdeal.Gen.facts,
  Cert.Quant.Gen.facts, Cert.QuantIdeal.Gen.facts, Cert.QuantRefIdeal.Gen.facts,
  Cert.Scale.Gen.facts, Cert.ScaleIdeal.Gen.facts, Cert.ScaleRefIdeal.Gen.facts,
  fun m ρ _ => Cert.Norm.Gen.frame m ρ, fun m ρ _ => Cert.NormIdeal.Gen.frame m ρ,
  fun m ρ _ => Cert.NormRefIdeal.Gen.frame m ρ,
  fun m ρ _ => Cert.Wgrad.frame m ρ, fun m ρ _ => Cert.WgradIdeal.frame m ρ,
  fun m ρ _ => Cert.WgradRefIdeal.Gen.frame m ρ,
  fun m ρ _ => Cert.Down.frame m ρ, fun m ρ _ => Cert.DownIdeal.frame m ρ,
  fun m ρ _ => Cert.DownRefIdeal.Gen.frame m ρ,
  fun m ρ _ => Cert.Quant.Gen.frame m ρ, fun m ρ _ => Cert.QuantIdeal.Gen.frame m ρ,
  fun m ρ _ => Cert.QuantRefIdeal.Gen.frame m ρ,
  fun m ρ _ => Cert.Scale.Gen.frame m ρ, fun m ρ _ => Cert.ScaleIdeal.Gen.frame m ρ,
  fun m ρ _ => Cert.ScaleRefIdeal.frame m ρ,
  trivial, Cert.NormEq.algebraic, trivial, Cert.WgradEq.algebraic,
  Cert.DownEq.preserves, Cert.DownEq.algebraic,
  trivial, Cert.QuantEq.algebraic, trivial, Cert.ScaleEq.algebraic⟩

end Cert.Proof

end
